-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S2048x1024 : Shape := ⟨2, ![2048, 1024]⟩
abbrev S1024x1024 : Shape := ⟨2, ![1024, 1024]⟩
abbrev S3x2048x1024 : Shape := ⟨3, ![3, 2048, 1024]⟩
abbrev S3x1024x1024 : Shape := ⟨3, ![3, 1024, 1024]⟩
abbrev S2x512x2048 : Shape := ⟨3, ![2, 512, 2048]⟩
abbrev S2x512x1024 : Shape := ⟨3, ![2, 512, 1024]⟩
abbrev S2 : Shape := ⟨1, ![2]⟩
abbrev S_ : Shape := ⟨0, ![]⟩
abbrev S3 : Shape := ⟨1, ![3]⟩
abbrev S1x512x1024 : Shape := ⟨3, ![1, 512, 1024]⟩
abbrev S512x1024 : Shape := ⟨2, ![512, 1024]⟩
abbrev S1x1024x1024 : Shape := ⟨3, ![1, 1024, 1024]⟩
abbrev S1x2048x1024 : Shape := ⟨3, ![1, 2048, 1024]⟩
abbrev S512x2048 : Shape := ⟨2, ![512, 2048]⟩
abbrev S1x512x2048 : Shape := ⟨3, ![1, 512, 2048]⟩

abbrev nBuf : Space → Nat
  | .hbm => 5
  | .vmem => 12
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S2048x1024, .fp8e5m2⟩
  | .local _ .vmem, ⟨1, _⟩ => ⟨S2048x1024, .fp8e5m2⟩
  | .local _ .vmem, ⟨2, _⟩ => ⟨S1024x1024, .fp8e5m2⟩
  | .local _ .vmem, ⟨3, _⟩ => ⟨S1024x1024, .fp8e5m2⟩
  | .local _ .vmem, ⟨4, _⟩ => ⟨S3x2048x1024, .fp8e5m2⟩
  | .local _ .vmem, ⟨5, _⟩ => ⟨S3x2048x1024, .fp8e5m2⟩
  | .local _ .vmem, ⟨6, _⟩ => ⟨S3x1024x1024, .fp8e5m2⟩
  | .local _ .vmem, ⟨7, _⟩ => ⟨S3x1024x1024, .fp8e5m2⟩
  | .local _ .vmem, ⟨8, _⟩ => ⟨S4096x2048, .bf16⟩
  | .local _ .vmem, ⟨9, _⟩ => ⟨S2x512x2048, .f32⟩
  | .local _ .vmem, ⟨10, _⟩ => ⟨S2x512x1024, .f32⟩
  | .local _ .vmem, ⟨11, _⟩ => ⟨S1024x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_78 : BitVec 32 := 1#32
  let v88 : BitVec 32 := Scalar.muli v24 c1_i32_78
  let v89 : BitVec 32 := Scalar.addi c0_i32_79 v88
  v89.toNat
def k0_dev4 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_103 : BitVec 32 := 1#32
  let v113 : BitVec 32 := Scalar.muli v13 c1_i32_103
  let v114 : BitVec 32 := Scalar.addi c0_i32_104 v113
  v114.toNat
def k0_dev5 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_119 : BitVec 32 := 1#32
  let v132 : BitVec 32 := Scalar.muli v24 c1_i32_119
  let v133 : BitVec 32 := Scalar.addi c0_i32_120 v132
  v133.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_126 : BitVec 32 := 1#32
  let v140 : BitVec 32 := Scalar.muli v13 c1_i32_126
  let v141 : BitVec 32 := Scalar.addi c0_i32_127 v140
  v141.toNat
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_175 : BitVec 32 := 1#32
  let v191 : BitVec 32 := Scalar.muli v24 c1_i32_175
  let v192 : BitVec 32 := Scalar.addi c0_i32_176 v191
  v192.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_195 : BitVec 32 := 1#32
  let v211 : BitVec 32 := Scalar.muli v13 c1_i32_195
  let v212 : BitVec 32 := Scalar.addi c0_i32_196 v211
  v212.toNat
def k0_dev9 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_406 : BitVec 32 := 1#32
  let v400 : BitVec 32 := Scalar.muli v24 c1_i32_406
  let v401 : BitVec 32 := Scalar.addi c0_i32_407 v400
  v401.toNat
def k0_dev10 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_414 : BitVec 32 := 1#32
  let v410 : BitVec 32 := Scalar.muli v24 c1_i32_414
  let v411 : BitVec 32 := Scalar.addi c0_i32_415 v410
  v411.toNat
def k0_dev11 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_424 : BitVec 32 := 1#32
  let v416 : BitVec 32 := Scalar.muli v13 c1_i32_424
  let v417 : BitVec 32 := Scalar.addi c0_i32_425 v416
  v417.toNat
def k0_dev12 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_432 : BitVec 32 := 1#32
  let v426 : BitVec 32 := Scalar.muli v13 c1_i32_432
  let v427 : BitVec 32 := Scalar.addi c0_i32_433 v426
  v427.toNat
def k0_dev13 (d0 : Dev nD) : Nat :=
  let c0_i32_581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_580 : BitVec 32 := 1#32
  let v560 : BitVec 32 := Scalar.muli v24 c1_i32_580
  let v561 : BitVec 32 := Scalar.addi c0_i32_581 v560
  v561.toNat
def k0_dev14 (d0 : Dev nD) : Nat :=
  let c0_i32_591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_590 : BitVec 32 := 1#32
  let v570 : BitVec 32 := Scalar.muli v24 c1_i32_590
  let v571 : BitVec 32 := Scalar.addi c0_i32_591 v570
  v571.toNat
def k0_dev15 (d0 : Dev nD) : Nat :=
  let c0_i32_601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_600 : BitVec 32 := 1#32
  let v580 : BitVec 32 := Scalar.muli v24 c1_i32_600
  let v581 : BitVec 32 := Scalar.addi c0_i32_601 v580
  v581.toNat
def k0_dev16 (d0 : Dev nD) : Nat :=
  let c0_i32_645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_644 : BitVec 32 := 1#32
  let v614 : BitVec 32 := Scalar.muli v13 c1_i32_644
  let v615 : BitVec 32 := Scalar.addi c0_i32_645 v614
  v615.toNat
def k0_dev17 (d0 : Dev nD) : Nat :=
  let c0_i32_655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_654 : BitVec 32 := 1#32
  let v624 : BitVec 32 := Scalar.muli v13 c1_i32_654
  let v625 : BitVec 32 := Scalar.addi c0_i32_655 v624
  v625.toNat
def k0_dev18 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_664 : BitVec 32 := 1#32
  let v634 : BitVec 32 := Scalar.muli v13 c1_i32_664
  let v635 : BitVec 32 := Scalar.addi c0_i32_665 v634
  v635.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdeal.Values.lean ====
/-
What one device computes: the narrowed blocks of its inputs, the partial sums of one output block in the
order the kernel adds them, the rows it writes out, and what every buffer of the rings holds.
-/
module

public import proofs.«01_k».proof.Proof.Gen.KernelIdeal
public import proofs.«01_k».proof.Proof.Gen.KernelIdeal.Skeleton
public import Idealize.ShloMosaic.Lib.ValueLayout
public import Idealize.ShloMosaic.Lib.Tactic

@[expose] public section

noncomputable section
namespace Cert.KernelIdeal.Work
open Cert.KernelIdeal Cert.KernelIdeal.Gen
open Idealize.ShloMosaic Idealize.ShloMosaic.ValueIdx

variable {F : FTy → Type} [FloatOps F]

/-- The inputs of the four devices: rows of `x`, rows of `w`, the two scales. -/
structure Inp (F : FTy → Type) where
  x : Dev nD → S4096x1024.Idx → Elt F .f32
  w : Dev nD → S1024x2048.Idx → Elt F .f32
  sx : Dev nD → S1.Idx → Elt F .f32
  sw : Dev nD → S1.Idx → Elt F .f32

set_option backward.proofsInPublic true in
/-- The device `j` places to the right of `c` on the ring. -/
def dv (c : Dev nD) (j : ℕ) : Dev nD := ⟨(c.val + j) % 4, Nat.mod_lt _ (by decide)⟩

theorem dv_dv (c : Dev nD) (i j : ℕ) : dv (dv c i) j = dv c (i + j) := Fin.ext (by
  show ((c.val + i) % 4 + j) % 4 = (c.val + (i + j)) % 4; omega)
theorem dv_congr (c : Dev nD) {i j : ℕ} (h : i % 4 = j % 4) : dv c i = dv c j := Fin.ext (by
  show (c.val + i) % 4 = (c.val + j) % 4; omega)
theorem dv_zero (c : Dev nD) : dv c 0 = c := Fin.ext (by
  show (c.val + 0) % 4 = c.val; have h : c.val < 4 := c.isLt; omega)
theorem dv_four (c : Dev nD) : dv c 4 = c := (dv_congr (i := 4) (j := 0) c rfl).trans (dv_zero c)

variable (I : Inp F)

set_option backward.proofsInPublic true in
/-- The element of the `x` operand at row `r`, column `k` (taken modulo the extents, so that it is total). -/
def xi (r k : ℕ) : S4096x1024.Idx := ix2 (⟨r % 4096, Nat.mod_lt _ (by decide)⟩ : Fin 4096) (⟨k % 1024, Nat.mod_lt _ (by decide)⟩ : Fin 1024)
set_option backward.proofsInPublic true in
/-- The element of the `w` operand at row `k`, column `n`. -/
def wi (k n : ℕ) : S1024x2048.Idx := ix2 (⟨k % 1024, Nat.mod_lt _ (by decide)⟩ : Fin 1024) (⟨n % 2048, Nat.mod_lt _ (by decide)⟩ : Fin 2048)

/-- Device `d`'s operands, narrowed. -/
def x8v (d : Dev nD) : FVec F S4096x1024 .fp8e5m2 := truncf .fp8e5m2 (I.x d : FVec F S4096x1024 .f32) bitsLt_fp8e5m2_f32
def w8v (d : Dev nD) : FVec F S1024x2048 .fp8e5m2 := truncf .fp8e5m2 (I.w d : FVec F S1024x2048 .f32) bitsLt_fp8e5m2_f32
def x8 (d : Dev nD) (r k : ℕ) : F .fp8e5m2 := x8v I d (xi r k)
def w8 (d : Dev nD) (k n : ℕ) : F .fp8e5m2 := w8v I d (wi k n)

/-- Row strip `r` (512 rows) of device `d`'s narrowed `x`; column half `q` of its narrowed `w`. -/
def xblk (d : Dev nD) (r : ℕ) : FVec F S512x1024 .fp8e5m2 := fun i => x8 I d (512 * r + (i 0).val) (i 1).val
def wblk (d : Dev nD) (q : ℕ) : FVec F S1024x1024 .fp8e5m2 := fun i => w8 I d (i 0).val (1024 * q + (i 1).val)
/-- The same half with a leading unit axis, as it lies in a ring buffer's slot. -/
def wblk1 (d : Dev nD) (q : ℕ) : FVec F S1x1024x1024 .fp8e5m2 := fun i => w8 I d (i 1).val (1024 * q + (i 2).val)

theorem shapeCast_self {α : Type} {s : Shape} (x : s.Idx → α) (h : s.ShapeCasts s) : shapeCast s x h = x :=
  funext fun i => shapeCast_apply x h i i rfl

theorem wblk1_cast (d : Dev nD) (q : ℕ) : shapeCast S1024x1024 (wblk1 I d q) shapeCasts_S1x1024x1024_S1024x1024 = wblk I d q := by
  funext i
  exact (congrArg _ (eq_ix2 i)).trans ((shapeCast_1ab_ab_apply (wblk1 I d q) shapeCasts_S1x1024x1024_S1024x1024 (i 0) (i 1)).trans rfl)

/-- One product of a row strip and a column half. -/
def prod (a : FVec F S512x1024 .fp8e5m2) (b : FVec F S1024x1024 .fp8e5m2) : FVec F S512x1024 .f32 :=
  matmul dot_S512x1024_S1024x1024_S512x1024_1_0_0_1_n_n none a b (constant S512x1024 .f32 0x00000000#32)
/-- The first contribution to a block, and a later one. -/
def first (a : FVec F S512x1024 .fp8e5m2) (b : FVec F S1024x1024 .fp8e5m2) : FVec F S512x1024 .bf16 :=
  truncf .bf16 (prod a b) bitsLt_bf16_f32
def next (a : FVec F S512x1024 .fp8e5m2) (b : FVec F S1024x1024 .fp8e5m2) (acc : FVec F S512x1024 .bf16) : FVec F S512x1024 .bf16 :=
  truncf .bf16 (addf (extf .f32 acc bitsLt_bf16_f32) (prod a b)) bitsLt_bf16_f32

/-- Whose operands the `k`-th contribution to block `(r, q)` is made of: so many places to the right. -/
def sd (r q k : ℕ) : ℕ :=
  if k = 0 then 0
  else if r < 4 then (if q = 0 then (if k = 1 then 3 else if k = 2 then 2 else 1) else (if k = 1 then 2 else if k = 2 then 3 else 1))
  else (if q = 0 then (if k = 1 then 2 else if k = 2 then 1 else 3) else (if k = 1 then 1 else if k = 2 then 2 else 3))

/-- Block `(r, q)` of device `c`'s accumulator after `k` contributions (at `k = 0`: whatever one calls the first). -/
def blkval (c : Dev nD) (r q : ℕ) : ℕ → FVec F S512x1024 .bf16
  | 0 => first (xblk I c r) (wblk I c q)
  | k + 1 => if k = 0 then first (xblk I c r) (wblk I c q)
      else next (xblk I (dv c (sd r q k)) r) (wblk I (dv c (sd r q k)) q) (blkval c r q k)

theorem blkval_one (c : Dev nD) (r q : ℕ) : blkval I c r q 1 = first (xblk I c r) (wblk I c q) := by
  show (if (0 : ℕ) = 0 then _ else _) = _; rw [if_pos rfl]
theorem blkval_succ (c : Dev nD) (r q k : ℕ) (hk : k ≠ 0) (j : ℕ) (hj : sd r q k = j) :
    blkval I c r q (k + 1) = next (xblk I (dv c j) r) (wblk I (dv c j) q) (blkval I c r q k) := by
  show (if k = 0 then _ else _) = _; rw [if_neg hk, hj]

set_option backward.proofsInPublic true in
def bi (r k : ℕ) : S512x1024.Idx := ix2 (⟨r % 512, Nat.mod_lt _ (by decide)⟩ : Fin 512) (⟨k % 1024, Nat.mod_lt _ (by decide)⟩ : Fin 1024)
set_option backward.proofsInPublic true in
def oi (r k : ℕ) : S512x2048.Idx := ix2 (⟨r % 512, Nat.mod_lt _ (by decide)⟩ : Fin 512) (⟨k % 2048, Nat.mod_lt _ (by decide)⟩ : Fin 2048)

/-- Row strip `r` of the finished accumulator, both column halves. -/
def rowval (c : Dev nD) (r : ℕ) : FVec F S512x2048 .bf16 := fun i => blkval I c r ((i 1).val / 1024) 4 (bi (i 0).val (i 1).val)
/-- The product of the two scales. -/
def scale (c : Dev nD) : F .f32 := k0_pay56 (I.sx c (ix1 (0 : Fin 1))) (I.sw c (ix1 (0 : Fin 1)))
/-- Row strip `r` of the result. -/
def outblk (c : Dev nD) (r : ℕ) : FVec F S512x2048 .f32 :=
  mulf (extf .f32 (rowval I c r) bitsLt_bf16_f32) (broadcast S512x2048 (scale I c))
/-- The result. -/
def OUT (c : Dev nD) : S4096x2048.Idx → F .f32 := fun i => outblk I c ((i 0).val / 512) (oi (i 0).val (i 1).val)

/-! What the buffers hold: the narrowed halves of `x` and `w`; the rings' slots (slot `h` of the rightward ring comes from
the device `h + 1` places to the left, of the leftward ring from the one as far to the right). -/

def XLA (c : Dev nD) : S2048x1024.Idx → F .fp8e5m2 := fun i => x8 I c (i 0).val (i 1).val
def XLB (c : Dev nD) : S2048x1024.Idx → F .fp8e5m2 := fun i => x8 I c (2048 + (i 0).val) (i 1).val
def WLA (c : Dev nD) : S1024x1024.Idx → F .fp8e5m2 := fun i => w8 I c (i 0).val (i 1).val
def WLB (c : Dev nD) : S1024x1024.Idx → F .fp8e5m2 := fun i => w8 I c (i 0).val (1024 + (i 1).val)
def XGA (c : Dev nD) : S3x2048x1024.Idx → F .fp8e5m2 := fun i => x8 I (dv c (3 - (i 0).val)) (i 1).val (i 2).val
def XGB (c : Dev nD) : S3x2048x1024.Idx → F .fp8e5m2 := fun i => x8 I (dv c (1 + (i 0).val)) (2048 + (i 1).val) (i 2).val
def WGA (c : Dev nD) : S3x1024x1024.Idx → F .fp8e5m2 := fun i => w8 I (dv c (3 - (i 0).val)) (i 1).val (i 2).val
def WGB (c : Dev nD) : S3x1024x1024.Idx → F .fp8e5m2 := fun i => w8 I (dv c (1 + (i 0).val)) (i 1).val (1024 + (i 2).val)
/-- The staging slots: a row strip of `x` in every slot; a row strip of the result in every slot. -/
def XST (c : Dev nD) (r : ℕ) : S2x512x1024.Idx → F .f32 := fun i => I.x c (xi (512 * r + (i 1).val) (i 2).val)
def STG (c : Dev nD) (r : ℕ) : S2x512x2048.Idx → F .f32 := fun i => outblk I c r (oi (i 1).val (i 2).val)

/-! The order of the 64 stores into the accumulator. -/

/-- Row strips `a, a+1, …` (`n` of them) of column half `q`. -/
def run (a n q : ℕ) : List (ℕ × ℕ) := (List.range n).map fun i => (a + i, q)
def ord : List (ℕ × ℕ) :=
  run 0 4 0 ++ run 0 4 1 ++ run 4 4 0 ++ run 4 4 1 ++ run 0 4 0 ++ run 4 4 1
    ++ run 0 4 0 ++ run 0 4 1 ++ run 4 4 0 ++ run 4 4 1 ++ run 4 4 0 ++ run 0 4 1
    ++ run 0 2 0 ++ run 0 2 1 ++ run 2 2 0 ++ run 2 2 1 ++ run 4 2 0 ++ run 4 2 1 ++ run 6 2 0 ++ run 6 2 1
/-- How many of the first `T` stores went to block `(r, q)`. -/
def cnt (T r q : ℕ) : ℕ := (ord.take T).count (r, q)

theorem cnt_succ (T : ℕ) (a : ℕ × ℕ) (h : ord[T]? = some a) (r q : ℕ) : cnt (T + 1) r q = cnt T r q + if a = (r, q) then 1 else 0 := by
  unfold cnt
  rw [List.take_succ, h, Option.toList_some, List.count_append, List.count_singleton]
  simp only [beq_iff_eq]
end Cert.KernelIdeal.Work
-- ==== Proof.KernelIdeal.Geom.lean ====
/-
Where the kernel's views lie: each sliced or squeezed view covers a set of rows of its buffer, and reads
the buffer's elements at shifted coordinates.
-/
module

public import proofs.«01_k».proof.Proof.KernelIdeal.Values
public import Idealize.ShloMosaic.Lib.Pipeline.Kit

@[expose] public section

noncomputable section
namespace Cert.KernelIdeal.Work
open Cert.KernelIdeal Cert.KernelIdeal.Gen
open Idealize.ShloMosaic Idealize.ShloMosaic.ValueIdx

/-! ## Sets of rows -/

/-- Rows `a ≤ · < b` of a matrix; of slab `h` of a stack of matrices. -/
def rows {m n : ℕ} (a b : ℕ) : Finset (⟨2, ![m, n]⟩ : Shape).Idx := Finset.univ.filter fun i => a ≤ (i 0).val ∧ (i 0).val < b
def slab {p m n : ℕ} (h a b : ℕ) : Finset (⟨3, ![p, m, n]⟩ : Shape).Idx :=
  Finset.univ.filter fun i => (i 0).val = h ∧ a ≤ (i 1).val ∧ (i 1).val < b

theorem mem_rows {m n a b : ℕ} {i : (⟨2, ![m, n]⟩ : Shape).Idx} : i ∈ rows a b ↔ a ≤ (i 0).val ∧ (i 0).val < b := by
  unfold rows; rw [Finset.mem_filter]; exact ⟨fun h => h.2, fun h => ⟨Finset.mem_univ _, h⟩⟩
theorem mem_slab {p m n h a b : ℕ} {i : (⟨3, ![p, m, n]⟩ : Shape).Idx} : i ∈ slab h a b ↔ (i 0).val = h ∧ a ≤ (i 1).val ∧ (i 1).val < b := by
  unfold slab; rw [Finset.mem_filter]; exact ⟨fun h => h.2, fun h => ⟨Finset.mem_univ _, h⟩⟩

theorem rows_univ {m n : ℕ} : (rows 0 m : Finset (⟨2, ![m, n]⟩ : Shape).Idx) = Finset.univ :=
  Finset.eq_univ_of_forall fun i => mem_rows.mpr ⟨Nat.zero_le _, (i 0).isLt⟩
theorem rows_union {m n a b d : ℕ} (h : a ≤ b) (h' : b ≤ d) : (rows a b ∪ rows b d : Finset (⟨2, ![m, n]⟩ : Shape).Idx) = rows a d := by
  ext i; rw [Finset.mem_union, mem_rows, mem_rows, mem_rows]; omega
theorem rows_disjoint {m n a b a' b' : ℕ} (h : b ≤ a' ∨ b' ≤ a) : Disjoint (rows a b : Finset (⟨2, ![m, n]⟩ : Shape).Idx) (rows a' b') :=
  Finset.disjoint_left.mpr fun i hi hi' => by rw [mem_rows] at hi hi'; omega
theorem slab_union {p m n s a b d : ℕ} (h : a ≤ b) (h' : b ≤ d) : (slab s a b ∪ slab s b d : Finset (⟨3, ![p, m, n]⟩ : Shape).Idx) = slab s a d := by
  ext i; rw [Finset.mem_union, mem_slab, mem_slab, mem_slab]; omega
theorem slab_disjoint {p m n s s' a b a' b' : ℕ} (h : s ≠ s' ∨ b ≤ a' ∨ b' ≤ a) :
    Disjoint (slab s a b : Finset (⟨3, ![p, m, n]⟩ : Shape).Idx) (slab s' a' b') :=
  Finset.disjoint_left.mpr fun i hi hi' => by rw [mem_slab] at hi hi'; omega
theorem slabs_univ3 {m n : ℕ} : (slab 0 0 m ∪ (slab 1 0 m ∪ slab 2 0 m) : Finset (⟨3, ![3, m, n]⟩ : Shape).Idx) = Finset.univ :=
  Finset.eq_univ_of_forall fun i => by
    have h0 : (i 0).val < 3 := (i 0).isLt
    have h1 : (i 1).val < m := (i 1).isLt
    rw [Finset.mem_union, Finset.mem_union, mem_slab, mem_slab, mem_slab]; omega
theorem slabs_univ2 {m n : ℕ} : (slab 0 0 m ∪ slab 1 0 m : Finset (⟨3, ![2, m, n]⟩ : Shape).Idx) = Finset.univ :=
  Finset.eq_univ_of_forall fun i => by
    have h0 : (i 0).val < 2 := (i 0).isLt
    have h1 : (i 1).val < m := (i 1).isLt
    rw [Finset.mem_union, mem_slab, mem_slab]; omega

/-! ## Rectangles -/

theorem rect_rows {m n o k : ℕ} (inb : ∀ a, (![o, 0] : Fin 2 → ℕ) a + (![k, n] : Fin 2 → ℕ) a ≤ (⟨2, ![m, n]⟩ : Shape).size a) :
    (Rect.unit (s := (⟨2, ![m, n]⟩ : Shape)) ![o, 0] ![k, n] inb).set = rows o (o + k) := by
  ext i
  rw [Rect.mem_set_unit, mem_rows]
  refine ⟨fun h => h 0, fun h => Fin.forall_fin_two.mpr ⟨h, Nat.zero_le _, ?_⟩⟩
  have h1 : (i 1).val < n := (i 1).isLt
  show (i 1).val < 0 + n
  omega

theorem rect_slab {p m n s o k : ℕ} (inb : ∀ a, (![s, o, 0] : Fin 3 → ℕ) a + (![1, k, n] : Fin 3 → ℕ) a ≤ (⟨3, ![p, m, n]⟩ : Shape).size a) :
    (Rect.unit (s := (⟨3, ![p, m, n]⟩ : Shape)) ![s, o, 0] ![1, k, n] inb).set = slab s o (o + k) := by
  ext i
  rw [Rect.mem_set_unit, mem_slab]
  constructor
  · intro h
    have h0 : s ≤ (i 0).val ∧ (i 0).val < s + 1 := h 0
    have h1 : o ≤ (i 1).val ∧ (i 1).val < o + k := h 1
    omega
  · rintro ⟨h0, h1, h2⟩ a
    fin_cases a
    · show s ≤ (i 0).val ∧ (i 0).val < s + 1; omega
    · show o ≤ (i 1).val ∧ (i 1).val < o + k; omega
    · have h1 : (i 2).val < n := (i 2).isLt
      show 0 ≤ (i 2).val ∧ (i 2).val < 0 + n; omega

/-! ## Coordinates -/

/-- The element under `x` of the window `[k, n]` at `(o, p)` of a matrix. -/
theorem unit2_emb {m n o p k l : ℕ} (inb : ∀ a, (![o, p] : Fin 2 → ℕ) a + (![k, l] : Fin 2 → ℕ) a ≤ (⟨2, ![m, n]⟩ : Shape).size a)
    (x : (Rect.unit (s := (⟨2, ![m, n]⟩ : Shape)) ![o, p] ![k, l] inb).shape.Idx) :
    (((Rect.unit (s := (⟨2, ![m, n]⟩ : Shape)) ![o, p] ![k, l] inb).emb x) 0).val = o + (x 0).val
      ∧ (((Rect.unit (s := (⟨2, ![m, n]⟩ : Shape)) ![o, p] ![k, l] inb).emb x) 1).val = p + (x 1).val := by
  constructor
  · show o + 1 * (x 0).val = _; omega
  · show p + 1 * (x 1).val = _; omega

/-- The element under `x` of the window `[1, k, n]` at `(s, o, 0)` of a stack. -/
theorem unit3_emb {p m n s o k : ℕ} (inb : ∀ a, (![s, o, 0] : Fin 3 → ℕ) a + (![1, k, n] : Fin 3 → ℕ) a ≤ (⟨3, ![p, m, n]⟩ : Shape).size a)
    (x : (Rect.unit (s := (⟨3, ![p, m, n]⟩ : Shape)) ![s, o, 0] ![1, k, n] inb).shape.Idx) :
    (((Rect.unit (s := (⟨3, ![p, m, n]⟩ : Shape)) ![s, o, 0] ![1, k, n] inb).emb x) 0).val = s
      ∧ (((Rect.unit (s := (⟨3, ![p, m, n]⟩ : Shape)) ![s, o, 0] ![1, k, n] inb).emb x) 1).val = o + (x 1).val
      ∧ (((Rect.unit (s := (⟨3, ![p, m, n]⟩ : Shape)) ![s, o, 0] ![1, k, n] inb).emb x) 2).val = (x 2).val := by
  have h0 : (x 0).val < 1 := (x 0).isLt
  refine ⟨?_, ?_, ?_⟩
  · show s + 1 * (x 0).val = _; omega
  · show o + 1 * (x 1).val = _; omega
  · show 0 + 1 * (x 2).val = _; omega

/-- The same window with its unit axis dropped. -/
theorem sq_emb {p m n s o k : ℕ} (inb : ∀ a, (![s, o, 0] : Fin 3 → ℕ) a + (![1, k, n] : Fin 3 → ℕ) a ≤ (⟨3, ![p, m, n]⟩ : Shape).size a)
    (hq : (⟨2, ![k, n]⟩ : Shape).numel = (⟨3, ![1, k, n]⟩ : Shape).numel) (x : (⟨2, ![k, n]⟩ : Shape).Idx) :
    (((Rect.unit (s := (⟨3, ![p, m, n]⟩ : Shape)) ![s, o, 0] ![1, k, n] inb).emb (Shape.reshapeEquiv hq x)) 0).val = s
      ∧ (((Rect.unit (s := (⟨3, ![p, m, n]⟩ : Shape)) ![s, o, 0] ![1, k, n] inb).emb (Shape.reshapeEquiv hq x)) 1).val = o + (x 0).val
      ∧ (((Rect.unit (s := (⟨3, ![p, m, n]⟩ : Shape)) ![s, o, 0] ![1, k, n] inb).emb (Shape.reshapeEquiv hq x)) 2).val = (x 1).val := by
  have e : Shape.reshapeEquiv hq x = ix3 (⟨0, Nat.one_pos⟩ : Fin 1) (x 0) (x 1) :=
    (congrArg _ (eq_ix2 x)).trans (reshapeEquiv_ix2_1ab hq (x 0) (x 1))
  obtain ⟨h0, h1, h2⟩ := unit3_emb inb (Shape.reshapeEquiv hq x)
  refine ⟨h0, h1.trans ?_, h2.trans ?_⟩
  · rw [e]; rfl
  · rw [e]; rfl

end Cert.KernelIdeal.Work
-- ==== Proof.KernelIdeal.Proto.lean ====
/-
The protocol: the sixteen transfers of one device in the order they are issued, the cells they complete on,
what each hands over, what a device owes, and the order in which it waits.
-/
module

public import proofs.«01_k».proof.Proof.KernelIdeal.Geom
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the ring's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## The cells -/

abbrev barS : Sem sig := (SemArray.scalar (sig.barrier 0 rfl) : Sems sig S_).sem

set_option backward.proofsInPublic true in
/-- The semaphores the `t`-th transfer completes on: on its sender, on its receiver. -/
def sendSem : Fin 16 → DmaSem sig := ![5, 21, 9, 25, 6, 22, 10, 15, 26, 31, 11, 17, 18, 27, 33, 34]
set_option backward.proofsInPublic true in
def recvSem : Fin 16 → DmaSem sig := ![7, 23, 12, 28, 8, 24, 13, 16, 29, 32, 14, 19, 20, 30, 35, 36]

/-- A device's cells: its barrier (`none`), the `t`-th transfer's on the sending side and on the receiving side. -/
abbrev Cx : Type := Option (Bool × Fin 16)
def csem : Cx → SemLoc sig
  | none => .reg barS
  | some (false, t) => .dma (sendSem t)
  | some (true, t) => .dma (recvSem t)

theorem csem_inj : Function.Injective csem := by
  have h : ∀ a b : Bool × Fin 16, (if a.1 then recvSem a.2 else sendSem a.2) = (if b.1 then recvSem b.2 else sendSem b.2) → a = b := by decide
  have e : ∀ a : Bool × Fin 16, csem (some a) = .dma (if a.1 then recvSem a.2 else sendSem a.2) := by
    rintro ⟨_ | _, t⟩ <;> rfl
  intro a b hab
  cases a with
  | none => cases b with
    | none => rfl
    | some b => rw [e] at hab; cases hab
  | some a => cases b with
    | none => rw [e] at hab; cases hab
    | some b => rw [e, e] at hab; injection hab with hab; rw [h a b hab]

abbrev barCell (c : Dev nD) : GSem nD τ sig := ((c : Thread nD τ), .reg barS)
abbrev sendCell (c : Dev nD) (t : Fin 16) : GSem nD τ sig := ((c : Thread nD τ), .dma (sendSem t))
abbrev recvCell (c : Dev nD) (t : Fin 16) : GSem nD τ sig := ((c : Thread nD τ), .dma (recvSem t))
abbrev kcell (ck : Dev nD × Cx) : GSem nD τ sig := ((ck.1 : Thread nD τ), csem ck.2)

open Classical in
/-- Which cell a semaphore is. -/
def kindOf (sm : SemLoc sig) : Option Cx := if h : ∃ k, csem k = sm then some h.choose else none
theorem kindOf_csem (k : Cx) : kindOf (csem k) = some k := by
  unfold kindOf
  have h : ∃ k', csem k' = csem k := ⟨k, rfl⟩
  rw [dif_pos h]; exact congrArg some (csem_inj h.choose_spec)
theorem kindOf_bar : kindOf (.reg barS) = some none := kindOf_csem none
theorem kindOf_send (t : Fin 16) : kindOf (.dma (sendSem t)) = some (some (false, t)) := kindOf_csem (some (false, t))
theorem kindOf_recv (t : Fin 16) : kindOf (.dma (recvSem t)) = some (some (true, t)) := kindOf_csem (some (true, t))
theorem kindOf_none {sm : SemLoc sig} (h : ∀ k, csem k ≠ sm) : kindOf sm = none := by
  unfold kindOf; rw [dif_neg (fun ⟨k, hk⟩ => h k hk)]

/-! ## The transfers -/

/-- Does the `t`-th transfer go to the right? -/
def toRight : Fin 16 → Bool := ![true, false, true, false, true, false, true, true, false, false, true, true, true, false, false, false]
/-- The device the `t`-th transfer of `c` goes to. -/
def peer (c : Dev nD) (t : Fin 16) : Dev nD := if toRight t then dv c 1 else dv c 3
def rightTs : List (Fin 16) := [0, 2, 4, 6, 7, 10, 11, 12]
def leftTs : List (Fin 16) := [1, 3, 5, 8, 9, 13, 14, 15]
def allTs : List (Fin 16) := [0, 1, 2, 3, 4, 5, 6, 7, 8, 9, 10, 11, 12, 13, 14, 15]

/-- The three sizes of transfer. -/
def nHalf : ℕ := (((Memref.whole cc0_scratch4 : Memref sig .tc .vmem S3x2048x1024 .fp8e5m2).slice (Rect.unit (s := S3x2048x1024) ![0, 0, 0] S1x1024x1024.size inb_S3x2048x1024_S1x1024x1024_0_0_0) (fun _ => rfl)).squeeze S1024x1024 squeezes_S1x1024x1024_S1024x1024).view.dmaCredit
def nSlot : ℕ := (((Memref.whole cc0_scratch4 : Memref sig .tc .vmem S3x2048x1024 .fp8e5m2).slice (Rect.unit (s := S3x2048x1024) ![0, 0, 0] S1x2048x1024.size inb_S3x2048x1024_S1x2048x1024_0_0_0) (fun _ => rfl)).squeeze S2048x1024 squeezes_S1x2048x1024_S2048x1024).view.dmaCredit
theorem nHalf_pos : 0 < nHalf := View.dmaCredit_pos _ (by decide)
theorem nSlot_pos : 0 < nSlot := View.dmaCredit_pos _ (by decide)
def Nn (t : Fin 16) : ℕ := if t = 7 ∨ t = 9 then nSlot else nHalf
theorem Nn_pos (t : Fin 16) : 0 < Nn t := by unfold Nn; split; exacts [nSlot_pos, nHalf_pos]

/-! Points-to assertions of the buffers on device `c`. -/
section Bufs
variable (c : Dev nD)
abbrev xhP (S : Finset S4096x1024.Idx) (q : PosShare TreeShare) (f : S4096x1024.Idx → F .f32) : sProp 𝕄 := ((c : Thread nD τ).loc main_arg0 ↦[S]{q} f)
abbrev whP (S : Finset S1024x2048.Idx) (q : PosShare TreeShare) (f : S1024x2048.Idx → F .f32) : sProp 𝕄 := ((c : Thread nD τ).loc main_arg1 ↦[S]{q} f)
abbrev outP (S : Finset S4096x2048.Idx) (q : PosShare TreeShare) (f : S4096x2048.Idx → F .f32) : sProp 𝕄 := ((c : Thread nD τ).loc main_v1 ↦[S]{q} f)
abbrev xlaP (S : Finset S2048x1024.Idx) (q : PosShare TreeShare) (f : S2048x1024.Idx → F .fp8e5m2) : sProp 𝕄 := ((c : Thread nD τ).loc cc0_scratch0 ↦[S]{q} f)
abbrev xlbP (S : Finset S2048x1024.Idx) (q : PosShare TreeShare) (f : S2048x1024.Idx → F .fp8e5m2) : sProp 𝕄 := ((c : Thread nD τ).loc cc0_scratch1 ↦[S]{q} f)
abbrev wlaP (S : Finset S1024x1024.Idx) (q : PosShare TreeShare) (f : S1024x1024.Idx → F .fp8e5m2) : sProp 𝕄 := ((c : Thread nD τ).loc cc0_scratch2 ↦[S]{q} f)
abbrev wlbP (S : Finset S1024x1024.Idx) (q : PosShare TreeShare) (f : S1024x1024.Idx → F .fp8e5m2) : sProp 𝕄 := ((c : Thread nD τ).loc cc0_scratch3 ↦[S]{q} f)
abbrev xgaP (S : Finset S3x2048x1024.Idx) (q : PosShare TreeShare) (f : S3x2048x1024.Idx → F .fp8e5m2) : sProp 𝕄 := ((c : Thread nD τ).loc cc0_scratch4 ↦[S]{q} f)
abbrev xgbP (S : Finset S3x2048x1024.Idx) (q : PosShare TreeShare) (f : S3x2048x1024.Idx → F .fp8e5m2) : sProp 𝕄 := ((c : Thread nD τ).loc cc0_scratch5 ↦[S]{q} f)
abbrev wgaP (S : Finset S3x1024x1024.Idx) (q : PosShare TreeShare) (f : S3x1024x1024.Idx → F .fp8e5m2) : sProp 𝕄 := ((c : Thread nD τ).loc cc0_scratch6 ↦[S]{q} f)
abbrev wgbP (S : Finset S3x1024x1024.Idx) (q : PosShare TreeShare) (f : S3x1024x1024.Idx → F .fp8e5m2) : sProp 𝕄 := ((c : Thread nD τ).loc cc0_scratch7 ↦[S]{q} f)
abbrev accP (S : Finset S4096x2048.Idx) (q : PosShare TreeShare) (f : S4096x2048.Idx → F .bf16) : sProp 𝕄 := ((c : Thread nD τ).loc cc0_scratch8 ↦[S]{q} f)
abbrev stageP (S : Finset S2x512x2048.Idx) (q : PosShare TreeShare) (f : S2x512x2048.Idx → F .f32) : sProp 𝕄 := ((c : Thread nD τ).loc cc0_scratch9 ↦[S]{q} f)
abbrev xstgP (S : Finset S2x512x1024.Idx) (q : PosShare TreeShare) (f : S2x512x1024.Idx → F .f32) : sProp 𝕄 := ((c : Thread nD τ).loc cc0_scratch10 ↦[S]{q} f)
abbrev wstgP (S : Finset S1024x2048.Idx) (q : PosShare TreeShare) (f : S1024x2048.Idx → F .f32) : sProp 𝕄 := ((c : Thread nD τ).loc cc0_scratch11 ↦[S]{q} f)
end Bufs

/-- The half of a full share a transfer in flight reads its source at; the sender keeps the other for its loads. -/
abbrev qR : PosShare TreeShare := fullShare.right
abbrev qL : PosShare TreeShare := fullShare.left

variable (I : Inp F)

/-- What the sending side gets back: the source at half a share. -/
def sendPay (c : Dev nD) : Fin 16 → sProp 𝕄
  | ⟨0, _⟩ => xlaP c (rows 0 1024) qR (XLA I c)
  | ⟨1, _⟩ => xlbP c (rows 0 1024) qR (XLB I c)
  | ⟨2, _⟩ => wlaP c Finset.univ qR (WLA I c)
  | ⟨3, _⟩ => wlbP c Finset.univ qR (WLB I c)
  | ⟨4, _⟩ => xlaP c (rows 1024 2048) qR (XLA I c)
  | ⟨5, _⟩ => xlbP c (rows 1024 2048) qR (XLB I c)
  | ⟨6, _⟩ => wgaP c (slab 0 0 1024) qR (WGA I c)
  | ⟨7, _⟩ => xgaP c (slab 0 0 2048) qR (XGA I c)
  | ⟨8, _⟩ => wgbP c (slab 0 0 1024) qR (WGB I c)
  | ⟨9, _⟩ => xgbP c (slab 0 0 2048) qR (XGB I c)
  | ⟨10, _⟩ => wgaP c (slab 1 0 1024) qR (WGA I c)
  | ⟨11, _⟩ => xgaP c (slab 1 0 1024) qR (XGA I c)
  | ⟨12, _⟩ => xgaP c (slab 1 1024 2048) qR (XGA I c)
  | ⟨13, _⟩ => wgbP c (slab 1 0 1024) qR (WGB I c)
  | ⟨14, _⟩ => xgbP c (slab 1 0 1024) qR (XGB I c)
  | ⟨_, _⟩ => xgbP c (slab 1 1024 2048) qR (XGB I c)

/-- The place on device `c` the `t`-th transfer lands in, under given contents of the four ring buffers. -/
def landP (c : Dev nD) (xa xb : S3x2048x1024.Idx → F .fp8e5m2) (wa wb : S3x1024x1024.Idx → F .fp8e5m2) : Fin 16 → sProp 𝕄
  | ⟨0, _⟩ => xgaP c (slab 0 0 1024) fullShare xa
  | ⟨1, _⟩ => xgbP c (slab 0 0 1024) fullShare xb
  | ⟨2, _⟩ => wgaP c (slab 0 0 1024) fullShare wa
  | ⟨3, _⟩ => wgbP c (slab 0 0 1024) fullShare wb
  | ⟨4, _⟩ => xgaP c (slab 0 1024 2048) fullShare xa
  | ⟨5, _⟩ => xgbP c (slab 0 1024 2048) fullShare xb
  | ⟨6, _⟩ => wgaP c (slab 1 0 1024) fullShare wa
  | ⟨7, _⟩ => xgaP c (slab 1 0 2048) fullShare xa
  | ⟨8, _⟩ => wgbP c (slab 1 0 1024) fullShare wb
  | ⟨9, _⟩ => xgbP c (slab 1 0 2048) fullShare xb
  | ⟨10, _⟩ => wgaP c (slab 2 0 1024) fullShare wa
  | ⟨11, _⟩ => xgaP c (slab 2 0 1024) fullShare xa
  | ⟨12, _⟩ => xgaP c (slab 2 1024 2048) fullShare xa
  | ⟨13, _⟩ => wgbP c (slab 2 0 1024) fullShare wb
  | ⟨14, _⟩ => xgbP c (slab 2 0 1024) fullShare xb
  | ⟨_, _⟩ => xgbP c (slab 2 1024 2048) fullShare xb

/-- What the receiving side gets: the landing place holding what was sent. -/
def recvPay (c : Dev nD) (t : Fin 16) : sProp 𝕄 := landP c (XGA I c) (XGB I c) (WGA I c) (WGB I c) t
/-- The landing place with any contents, lent to the sender. -/
def piece (c : Dev nD) (t : Fin 16) : sProp 𝕄 := iprop(∃ xa xb wa wb, landP (F := F) c xa xb wa wb t)
def pieces (c : Dev nD) (l : List (Fin 16)) : sProp 𝕄 := bigSepL l (piece (F := F) c)

omit [FloatOps F] in
instance landP_storable (c : Dev nD) (xa xb wa wb) (t : Fin 16) : BI.Storable (upEmb : UEmb _ 𝕄) (landP (F := F) c xa xb wa wb t) := by
  unfold landP; split <;> infer_instance
omit [FloatOps F] in
instance piece_storable (c : Dev nD) (t : Fin 16) : BI.Storable (upEmb : UEmb _ 𝕄) (piece (F := F) c t) := by
  unfold piece; infer_instance
omit [FloatOps F] in
instance pieces_storable (c : Dev nD) (l : List (Fin 16)) : BI.Storable (upEmb : UEmb _ 𝕄) (pieces (F := F) c l) := by
  unfold pieces
  induction l with
  | nil => exact (inferInstance : BI.Storable (upEmb : UEmb _ 𝕄) iprop(emp))
  | cons t l ih => rw [bigSepL_cons]; exact (inferInstance : BI.Storable (upEmb : UEmb _ 𝕄) iprop(piece (F := F) c t ∗ bigSepL l (piece c)))
instance sendPay_storable (c : Dev nD) (t : Fin 16) : BI.Storable (upEmb : UEmb _ 𝕄) (sendPay I c t) := by
  unfold sendPay; split <;> infer_instance
instance recvPay_storable (c : Dev nD) (t : Fin 16) : BI.Storable (upEmb : UEmb _ 𝕄) (recvPay I c t) := by
  unfold recvPay; infer_instance

/-! ## The schedule -/

/-- Every cell runs one round. A barrier cell has two duties: `true`, of the right neighbour, which hands over its landing
places for the rightward ring, and `false`, of the left neighbour, for the leftward one. A transfer's cell has one. -/
def ringRd : Rounds.Schedule (GSem nD τ sig) Bool 𝕄 where
  duties g r := if r = 0 ∧ g.1.2 = .tc then (match kindOf g.2 with | some none => Finset.univ | some (some _) => {false} | none => ∅) else ∅
  unitless _ := False
  amount g _ _ := match kindOf g.2 with | some (some (_, t)) => Nn t | _ => 1
  payload g _ d := match kindOf g.2 with
    | some none => if d then pieces (dv g.1.1 1) rightTs else pieces (dv g.1.1 3) leftTs
    | some (some (false, t)) => sendPay I g.1.1 t
    | some (some (true, t)) => recvPay I g.1.1 t
    | none => iprop(emp)
  amount_pos g _ _ _ := by
    show 0 < (match kindOf g.2 with | some (some (_, t)) => Nn t | _ => 1)
    split
    · exact Nn_pos _
    · exact Nat.one_pos

instance ringRd_payload_storable (g : GSem nD τ sig) (r : ℕ) (d : Bool) : BI.Storable (upEmb : UEmb _ 𝕄) ((ringRd I).payload g r d) := by
  show BI.Storable upEmb (match kindOf g.2 with
    | some none => if d then pieces (dv g.1.1 1) rightTs else pieces (dv g.1.1 3) leftTs
    | some (some (false, t)) => sendPay I g.1.1 t
    | some (some (true, t)) => recvPay I g.1.1 t
    | none => iprop(emp))
  (repeat' split) <;> infer_instance

section Sched
variable (c : Dev nD) (t : Fin 16)

theorem duties_bar : (ringRd I).duties (barCell c) 0 = Finset.univ := by
  dsimp only [ringRd]; rw [if_pos ⟨rfl, rfl⟩, kindOf_bar]
theorem duties_send : (ringRd I).duties (sendCell c t) 0 = {false} := by
  dsimp only [ringRd]; rw [if_pos ⟨rfl, rfl⟩, kindOf_send]
theorem duties_recv : (ringRd I).duties (recvCell c t) 0 = {false} := by
  dsimp only [ringRd]; rw [if_pos ⟨rfl, rfl⟩, kindOf_recv]
theorem duties_later (g : GSem nD τ sig) : ∀ r, 1 ≤ r → (ringRd I).duties g r = ∅ :=
  fun r hr => by dsimp only [ringRd]; rw [if_neg fun h => by omega]
theorem amount_bar (d : Bool) : (ringRd I).amount (barCell c) 0 d = 1 := by dsimp only [ringRd]; rw [kindOf_bar]
theorem amount_send (d : Bool) : (ringRd I).amount (sendCell c t) 0 d = Nn t := by dsimp only [ringRd]; rw [kindOf_send]
theorem amount_recv (d : Bool) : (ringRd I).amount (recvCell c t) 0 d = Nn t := by dsimp only [ringRd]; rw [kindOf_recv]
theorem expect_bar : (ringRd I).expect (barCell c) 0 = 2 := by
  unfold Schedule.expect Schedule.amountOf
  rw [duties_bar, Finset.sum_congr rfl fun d _ => amount_bar I c d, Finset.sum_const, Finset.card_univ, Fintype.card_bool, smul_eq_mul]
theorem expect_send : (ringRd I).expect (sendCell c t) 0 = Nn t := by
  unfold Schedule.expect Schedule.amountOf; rw [duties_send, Finset.sum_singleton, amount_send]
theorem expect_recv : (ringRd I).expect (recvCell c t) 0 = Nn t := by
  unfold Schedule.expect Schedule.amountOf; rw [duties_recv, Finset.sum_singleton, amount_recv]
theorem payload_bar_true : (ringRd I).payload (barCell c) 0 true = pieces (dv c 1) rightTs := by
  dsimp only [ringRd]; rw [kindOf_bar]; exact if_pos rfl
theorem payload_bar_false : (ringRd I).payload (barCell c) 0 false = pieces (dv c 3) leftTs := by
  dsimp only [ringRd]; rw [kindOf_bar]; exact if_neg Bool.false_ne_true
theorem payload_send (d : Bool) : (ringRd I).payload (sendCell c t) 0 d = sendPay I c t := by dsimp only [ringRd]; rw [kindOf_send]
theorem payload_recv (d : Bool) : (ringRd I).payload (recvCell c t) 0 d = recvPay I c t := by dsimp only [ringRd]; rw [kindOf_recv]
theorem rest_bar : bigSep ((ringRd I).duties (barCell c) 0 \ ∅) (fun d => (ringRd I).payload (barCell c) 0 d)
    = iprop(pieces (dv c 3) leftTs ∗ pieces (dv c 1) rightTs) := by
  rw [Finset.sdiff_empty, duties_bar, bigSep_univ_eq_bigSepL [false, true] (by decide) (by decide), bigSepL_cons_cons, bigSepL_singleton,
    payload_bar_false, payload_bar_true]
  rfl
theorem rest_send : bigSep ((ringRd I).duties (sendCell c t) 0 \ ∅) (fun d => (ringRd I).payload (sendCell c t) 0 d) = sendPay I c t := by
  rw [Finset.sdiff_empty, duties_send, bigSep_singleton, payload_send]
theorem rest_recv : bigSep ((ringRd I).duties (recvCell c t) 0 \ ∅) (fun d => (ringRd I).payload (recvCell c t) 0 d) = recvPay I c t := by
  rw [Finset.sdiff_empty, duties_recv, bigSep_singleton, payload_recv]
end Sched

/-! ## What a device owes; the levels -/

/-- What a device owes that has still to issue the transfers `l`. -/
def owe (c : Dev nD) : List (Fin 16) → CellTallies nD τ sig Unit
  | [] => 0
  | t :: l => owe c l + tallyAt (recvCell (peer c t) t) () (Nn t)
/-- At launch it owes them all and a unit to each neighbour's barrier. -/
def O₁ (c : Dev nD) : CellTallies nD τ sig Unit := owe c allTs + tallyAt (barCell (dv c 1)) () 1
def O₀ (c : Dev nD) : CellTallies nD τ sig Unit := O₁ c + tallyAt (barCell (dv c 3)) () 1

def rlv (t : Fin 16) : ℕ := if t.val < 6 then 2 else if t.val < 10 then 3 else 4
def L (g : GSem nD τ sig) : Finset Unit := if g.1.2 = .tc then {()} else ∅
def lv (g : GSem nD τ sig) (_ : Unit) : ℕ := match kindOf g.2 with | some none => 1 | some (some (true, t)) => rlv t | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [kindOf_bar]
theorem lv_send (c : Dev nD) (t : Fin 16) : lv (sendCell c t) () = 0 := by dsimp only [lv]; rw [kindOf_send]
theorem lv_recv (c : Dev nD) (t : Fin 16) : lv (recvCell c t) () = rlv t := by dsimp only [lv]; rw [kindOf_recv]
theorem lv_other (c : Dev nD) {sm : SemLoc sig} (h : ∀ k, csem k ≠ sm) : lv ((c : Thread nD τ), sm) () = 0 := by
  dsimp only [lv]; rw [kindOf_none h]

theorem tally_pos {g g' : GSem nD τ sig} {n : ℕ} {u : Unit} (h : 0 < tallyAt (Ix := Unit) g' () n g u) : g = g' := by
  rw [tallyAt_apply] at h
  by_contra hn
  rw [if_neg (fun h' => hn h'.1)] at h
  exact Nat.lt_irrefl 0 h
theorem add_pos' {A B : CellTallies nD τ sig Unit} {g : GSem nD τ sig} {u : Unit} (h : 0 < (A + B) g u) : 0 < A g u ∨ 0 < B g u := by
  rw [Pi.add_apply, Finsupp.add_apply] at h; omega
theorem owe_pos {c : Dev nD} {g : GSem nD τ sig} {u : Unit} : ∀ {l : List (Fin 16)}, 0 < owe c l g u → ∃ t ∈ l, g = recvCell (peer c t) t
  | [], h => absurd h (Nat.lt_irrefl 0)
  | t :: l, h => by
    rcases add_pos' h with h | h
    · obtain ⟨t', ht', e⟩ := owe_pos h; exact ⟨t', List.mem_cons_of_mem _ ht', e⟩
    · exact ⟨t, List.mem_cons_self, tally_pos h⟩
theorem O₀_pos {c : Dev nD} {g : GSem nD τ sig} {u : Unit} (h : 0 < O₀ c g u) :
    (∃ t, g = recvCell (peer c t) t) ∨ g = barCell (dv c 1) ∨ g = barCell (dv c 3) := by
  rcases add_pos' h with h | h
  · rcases add_pos' h with h | h
    · obtain ⟨t, _, e⟩ := owe_pos h; exact .inl ⟨t, e⟩
    · exact .inr (.inl (tally_pos h))
  · exact .inr (.inr (tally_pos h))
theorem rlv_pos (t : Fin 16) : 1 < rlv t := by revert t; decide

omit [FloatOps F] in
/-- A wait below everything the device still owes is allowed. -/
theorem mayWait_owe (c : Dev nD) (sm : SemLoc sig) (l : List (Fin 16)) (n : ℕ) (hn : lv ((c : Thread nD τ), sm) () = n) (hl : ∀ t ∈ l, n < rlv t) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨t, _, rfl⟩ := owe_pos hg; rw [L_tc]; exact Finset.mem_singleton_self _)
    (fun p hp => by rw [Finset.mem_singleton.mp hp]; exact hn.le)
    (fun g u hg => by obtain ⟨t, ht, rfl⟩ := owe_pos hg; exact (hl t ht).trans_eq (lv_recv _ t).symm)

omit [FloatOps F] in
theorem mayWait_stage (c : Dev nD) (sm : SemLoc sig) (h : ∀ k, csem k ≠ sm) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | rfl | rfl <;> exact Finset.mem_singleton_self _)
      (fun p hp => by rw [Finset.mem_singleton.mp hp]; exact (lv_other c h).le)
      (fun g u hg => by
        rcases O₀_pos hg with ⟨t, rfl⟩ | rfl | rfl
        · exact Nat.lt_of_lt_of_eq (Nat.lt_trans Nat.one_pos (rlv_pos t)) (lv_recv _ t).symm
        · exact Nat.lt_of_lt_of_eq Nat.one_pos (lv_bar _).symm
        · exact Nat.lt_of_lt_of_eq Nat.one_pos (lv_bar _).symm)
  · rw [MayWait_zero]; iintro -; iempintro

/-! ## The cells' invariants and the tokens of one transfer -/

/-- Every device's cells, under the names `K` they were allocated at: each cell's invariant and that it has reached round 0. -/
def Invs (K : Dev nD × Cx → ℕ) : sProp 𝕄 :=
  iprop(bigSep Finset.univ (fun ck => iprop(cellInv ER (ringRd I) (K ck) (kcell ck) ∗ reached ER (kcell ck) 0)) ∗ levAts L lv)
instance Invs_persistent (K : Dev nD × Cx → ℕ) : BI.Persistent (Invs I K) := by unfold Invs; infer_instance

theorem Invs_cell (K : Dev nD × Cx → ℕ) (ck : Dev nD × Cx) :
    Invs I K ⊢ iprop(cellInv ER (ringRd I) (K ck) (kcell ck) ∗ reached ER (kcell ck) 0) := by
  have h : bigSep Finset.univ (fun ck => iprop(cellInv ER (ringRd I) (K ck) (kcell ck) ∗ reached ER (kcell ck) 0))
      ⊢ iprop(cellInv ER (ringRd I) (K ck) (kcell ck) ∗ reached ER (kcell ck) 0) := bigSep_elim (Finset.mem_univ ck)
  unfold Invs
  iintro ⟨H, -⟩
  iapply h; iexact H
theorem Invs_lev (K : Dev nD × Cx → ℕ) : Invs I K ⊢ levAts L lv := by
  unfold Invs; iintro ⟨-, H⟩; iexact H

/-- What device `c` starts with for its `t`-th transfer: the two duties it pays, its positions at its own two cells, and the
credit it will wait with on the receiving side. -/
def tok (c : Dev nD) (t : Fin 16) : sProp 𝕄 :=
  iprop(dutyTok ER (sendCell c t) 0 false ∗ dutyTok ER (recvCell (peer c t) t) 0 false
    ∗ atPos ER (sendCell c t) 0 ∅ 0 ∗ atPos ER (recvCell c t) 0 ∅ 0 ∗ cred (tallyAt (recvCell c t) () (Nn t)))
/-- In flight: the credits and positions of both its cells. -/
def fly (c : Dev nD) (t : Fin 16) : sProp 𝕄 :=
  iprop(cred (tallyAt (sendCell c t) () (Nn t)) ∗ cred (tallyAt (recvCell c t) () (Nn t))
    ∗ atPos ER (sendCell c t) 0 ∅ 0 ∗ atPos ER (recvCell c t) 0 ∅ 0)
/-- Done: both cells closed at zero. -/
def done (c : Dev nD) (t : Fin 16) : sProp 𝕄 := iprop(semVal (sendCell c t) 0 ∗ semVal (recvCell c t) 0)

/-- What a device still owes, and the tokens of the transfers it has still to issue. -/
def Todo (c : Dev nD) (l : List (Fin 16)) : sProp 𝕄 :=
  iprop((∃ W, owes (c : Thread nD τ) (owe c l) W) ∗ bigSepL l (fun t => iprop(tok (F := F) c t ∗ piece (F := F) (peer c t) t)))

end Cert.KernelIdeal.Work
-- ==== Proof.KernelIdeal.Steps.lean ====
/-
One step of the kernel at a time: a transfer to a neighbour, the wait for both its ends, a copy within the
device and its wait, a store of known contents.
-/
module

public import proofs.«01_k».proof.Proof.KernelIdeal.Proto

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- The weakest precondition of a program on device `c`. -/
abbrev wpC (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (I : Inp F) (K : Dev nD × Cx → ℕ)

theorem bigSepL_next {J : Type} (t : J) (l : List J) (Φ : J → sProp 𝕄) : bigSepL (t :: l) Φ = iprop(Φ t ∗ bigSepL l Φ) := bigSepL_cons t l Φ

/-! ## What a view's write leaves -/

/-- Writing through a view what it reads in `G` leaves, on the view's elements, `G`. -/
theorem write_eq {κ : Kind} {sp : Space} {s : Shape} {e : EltTy} (v : View sig κ sp s e) (f G : v.ty.Contents (Elt F)) (w : s.Idx → Elt F e)
    (h : ∀ x, w x = v.read (Elt F) G x) : ∀ i ∈ v.set, v.write (Elt F) f w Finset.univ i = G i := by
  intro i hi
  obtain ⟨x, -, rfl⟩ := Finset.mem_map.mp hi
  rw [View.write_emb_of_mem _ _ (Finset.mem_univ x), h, View.read_apply, cast_cast, cast_eq]

/-! ## Transfers to a neighbour -/

theorem wp_send_t (c : Dev nD) (t : Fin 16) (l : List (Fin 16)) (n : Dev nD) (hn : n = peer c t) {sp sp' : Space} {s : Shape} {e : EltTy}
    {src : Memref sig .tc sp s e} {dst : Memref sig .tc sp' s e} {hsc : dst.view.ref.isScScratch = false}
    {hsrc : src.view.WordExact} {hdst : dst.view.WordExact}
    {hsem : DmaTarget.Typed sp (.dma (recvSem t)) (.remote (Dev.tc n : Thread nD τ) dst (.dma (sendSem t)) hsc)}
    {α : Type} {Q : α → sProp 𝕄} {k : PUnit → Prog (TpuEff nD τ sig (Elt F) Λ₀ .tc) α}
    (fs : Buf (Elt F) (src.view.loc (c : Thread nD τ)))
    (sel : (S3x2048x1024.Idx → F .fp8e5m2) → (S3x2048x1024.Idx → F .fp8e5m2) → (S3x1024x1024.Idx → F .fp8e5m2) → (S3x1024x1024.Idx → F .fp8e5m2)
      → Buf (Elt F) (dst.view.loc (n : Thread nD τ)))
    (hs : sendPay I c t = (src.view.loc (c : Thread nD τ) ↦[src.view.set]{qR} fs))
    (hd : ∀ xa xb wa wb, landP (F := F) n xa xb wa wb t = (dst.view.loc (n : Thread nD τ) ↦[dst.view.set]{fullShare} sel xa xb wa wb))
    (hv : ∀ x, src.view.read (Elt F) fs x = dst.view.read (Elt F) (sel (XGA I n) (XGB I n) (WGA I n) (WGB I n)) x)
    (hN : dst.view.dmaCredit = Nn t) :
    iprop(Invs I K ∗ sendPay I c t ∗ Todo (F := F) c (t :: l))
      ⊢ iprop((iprop(fly (F := F) c t ∗ Todo (F := F) c l) -∗ wpC c (k ⟨⟩) Q)
          -∗ wpC c (.op (.enqueueDma src (.remote (Dev.tc n : Thread nD τ) dst (.dma (sendSem t)) hsc) (.dma (recvSem t)) hsrc hdst hsem) k) Q) := by
  subst hn
  rw [hs]
  unfold Todo fly piece
  rw [bigSepL_next]
  iintro ⟨#HI, Hs, ⟨%W, HO⟩, ⟨Ht, ⟨%xa, %xb, %wa, %wb, Hd⟩⟩, Hl⟩
  unfold tok
  icases Ht with ⟨Ht1, Ht2, Ha1, Ha2, Hc2⟩
  ihave Hd := (Entails.of_eq (hd xa xb wa wb)) $$ Hd
  ihave #HI1 := (Invs_cell I K (c, some (false, t))) $$ HI
  ihave #HI2 := (Invs_cell I K (peer c t, some (true, t))) $$ HI
  icases HI1 with ⟨#Hi1, #Hr1⟩
  icases HI2 with ⟨#Hi2, #Hr2⟩
  iintro Hk
  iapply (Rounds.wp_send_pointsTo 𝒱₀ ER (ringRd I) (c : Thread nD τ) none (κ₁ := K (c, some (false, t))) (κ₂ := K (peer c t, some (true, t)))
    (r₁ := 0) (r₂ := 0) (d₁ := false) (d₂ := false) (fd := sel xa xb wa wb) (sem := .dma (recvSem t)) (sS := .dma (sendSem t))
    (by rw [duties_send]; exact Finset.mem_singleton_self _) (by rw [duties_recv]; exact Finset.mem_singleton_self _)
    () () (Nn t) hN (amount_send I c t false) (amount_recv I (peer c t) t false) (owe c l) rfl (W := W)
    (by rw [payload_send, hs])
    (by
      rw [payload_recv]; unfold recvPay; rw [hd]
      exact Entails.of_eq (pointsTo_congr (write_eq dst.view _ _ _ hv)))) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc1, HO⟩
  iapply Hk
  isplitl [Hc1 Hc2 Ha1 Ha2]
  · isplitl [Hc1]; · iexact Hc1
    isplitl [Hc2]; · iexact Hc2
    isplitl [Ha1] <;> iassumption
  isplitl [HO]; · iexists W; iexact HO
  iexact Hl

theorem wp_wait_t (c : Dev nD) (t : Fin 16) (l : List (Fin 16)) (hl : ∀ t' ∈ l, rlv t < rlv t') {sp₁ sp₂ sp₃ sp₄ : Space} {s₁ s₂ s₃ s₄ : Shape} {e₁ e₂ e₃ e₄ : EltTy}
    {a : Memref sig .tc sp₁ s₁ e₁} {b : Memref sig .tc sp₂ s₂ e₂} {a' : Memref sig .tc sp₃ s₃ e₃} {b' : Memref sig .tc sp₄ s₄ e₄}
    {ha : a.view.WordExact} {hb : b.view.WordExact} {ha' : a'.view.WordExact} {hb' : b'.view.WordExact}
    (hN : b.view.dmaCredit = Nn t) (hN' : b'.view.dmaCredit = Nn t)
    {α : Type} {Q : α → sProp 𝕄} {k : PUnit → Prog (TpuEff nD τ sig (Elt F) Λ₀ .tc) α} :
    iprop(Invs I K ∗ fly (F := F) c t ∗ Todo (F := F) c l)
      ⊢ iprop((iprop(sendPay I c t ∗ recvPay I c t ∗ done (F := F) c t ∗ Todo (F := F) c l) -∗ wpC c (k ⟨⟩) Q)
          -∗ wpC c (.op (.waitDma2 (sendSem t) a b ha hb) fun _ => .op (.waitDma2 (recvSem t) a' b' ha' hb') k) Q) := by
  unfold Todo fly done
  iintro ⟨#HI, ⟨Hc1, Hc2, Ha1, Ha2⟩, ⟨%W, HO⟩, Hl⟩ Hk
  ihave #HI1 := (Invs_cell I K (c, some (false, t))) $$ HI
  ihave #HI2 := (Invs_cell I K (c, some (true, t))) $$ HI
  ihave #HL := (Invs_lev I K) $$ HI
  icases HI1 with ⟨#Hi1, #Hr1⟩
  icases HI2 with ⟨#Hi2, #Hr2⟩
  iapply (Rounds.wp_wait_rest_token 𝒱₀ ER (ringRd I) (c : Thread nD τ) none (κ := K (c, some (false, t)))
      (wpE_waitDma2_eq 𝒱₀ (c : Thread nD τ) none Set.univ) (Set.mem_univ _) () (O := owe c l) (W := W) (R := 0) (m := 0) (T := ∅)
      (by rw [Nat.zero_add, hN, expect_send])) $$ [Hc1 HO Ha1]
  · isplitr; · iexact Hi1
    isplitl [Hc1]; · rw [hN]; iexact Hc1
    isplitl [HO]; · iexact HO
    isplitr; · iapply (mayWait_owe c _ l 0 (lv_send c t) (fun t' _ => Nat.lt_trans Nat.one_pos (rlv_pos t'))); iexact HL
    iexact Ha1
  iintro ⟨HO, Ha1, -, Hp1⟩
  ihave Hp1 := (Entails.of_eq (rest_send I c t)) $$ Hp1
  iapply (Rounds.wp_wait_rest_token 𝒱₀ ER (ringRd I) (c : Thread nD τ) none (κ := K (c, some (true, t)))
      (wpE_waitDma2_eq 𝒱₀ (c : Thread nD τ) none Set.univ) (Set.mem_univ _) () (O := owe c l) (R := 0) (m := 0) (T := ∅)
      (by rw [Nat.zero_add, hN', expect_recv])) $$ [Hc2 HO Ha2]
  · isplitr; · iexact Hi2
    isplitl [Hc2]; · rw [hN']; iexact Hc2
    isplitl [HO]; · iexact HO
    isplitr; · iapply (mayWait_owe c _ l (rlv t) (lv_recv c t) hl); iexact HL
    iexact Ha2
  iintro ⟨HO, Ha2, -, Hp2⟩
  ihave Hp2 := (Entails.of_eq (rest_recv I c t)) $$ Hp2
  imod (Rounds.cell_close ER (ringRd I) (Set.mem_univ (K (c, some (false, t)))) (fun h => h) (R := 0 + 1) (duties_later I (sendCell c t))) $$ [Ha1] with Hz1
  · isplitr; · iexact Hi1
    iexact Ha1
  imod (Rounds.cell_close ER (ringRd I) (Set.mem_univ (K (c, some (true, t)))) (fun h => h) (R := 0 + 1) (duties_later I (recvCell c t))) $$ [Ha2] with Hz2
  · isplitr; · iexact Hi2
    iexact Ha2
  iapply Hk
  isplitl [Hp1]; · iexact Hp1
  isplitl [Hp2]; · iexact Hp2
  isplitl [Hz1 Hz2]; · isplitl [Hz1] <;> iassumption
  isplitl [HO]; · iexists _; iexact HO
  iexact Hl

/-! ## Copies within the device -/

/-- A semaphore of the device's own copies is no ring cell. -/
theorem local_sem (d : DmaSem sig) (h : ∀ b : Bool × Fin 16, (if b.1 then recvSem b.2 else sendSem b.2) ≠ d) : ∀ k, csem k ≠ .dma d := by
  rintro (_ | ⟨_ | _, t⟩) hk
  · cases hk
  · exact h (false, t) (by injection hk)
  · exact h (true, t) (by injection hk)

theorem wp_copy (c : Dev nD) {sp sp' : Space} {s : Shape} {e : EltTy} {src : Memref sig .tc sp s e} {dst : Memref sig .tc sp' s e} {d : DmaSem sig}
    {hsrc : src.view.WordExact} {hdst : dst.view.WordExact} {hsem : DmaTarget.Typed (nD := nD) (p := (Proc.tc : Proc τ)) sp (.dma d) (.here dst)}
    {α : Type} {Q : α → sProp 𝕄} {k : PUnit → Prog (TpuEff nD τ sig (Elt F) Λ₀ .tc) α}
    (q : PosShare TreeShare) (fs : Buf (Elt F) (src.view.loc (c : Thread nD τ))) (g : Buf (Elt F) (dst.view.loc (c : Thread nD τ)))
    (A : sProp 𝕄) (B : Buf (Elt F) (dst.view.loc (c : Thread nD τ)) → sProp 𝕄)
    (hA : A = (src.view.loc (c : Thread nD τ) ↦[src.view.set]{q} fs)) (hB : ∀ f, B f = (dst.view.loc (c : Thread nD τ) ↦[dst.view.set]{fullShare} f))
    (hv : ∀ x, src.view.read (Elt F) fs x = dst.view.read (Elt F) g x) (hs : 0 < s.numel) (D : sProp 𝕄) (hD : iprop(B g ∗ A) ⊢ D) :
    iprop(A ∗ (∃ f, B f) ∗ semVal ((c : Thread nD τ), .dma d) 0)
      ⊢ iprop((Flight EC (c : Thread nD τ) (.dma d) () dst.view.dmaCredit D -∗ wpC c (k ⟨⟩) Q)
          -∗ wpC c (.op (.enqueueDma src (.here dst) (.dma d) hsrc hdst hsem) k) Q) := by
  have hD' : ∀ f, iprop((dst.view.loc (c : Thread nD τ) ↦[dst.view.set]{fullShare} dst.view.write (Elt F) f (ReadAs.same.apply (src.view.read (Elt F) fs)) Finset.univ)
      ∗ (src.view.loc (c : Thread nD τ) ↦[src.view.set]{q} fs)) ⊢ D := by
    intro f
    rw [hA, hB, ← pointsTo_congr (write_eq dst.view f g _ hv)] at hD
    exact hD
  iintro ⟨Ha, ⟨%f, Hb⟩, Hz⟩ Hk
  ihave Ha := (Entails.of_eq hA) $$ Ha
  ihave Hb := (Entails.of_eq (hB f)) $$ Hb
  iapply (wp_dmaLocal EC 𝒱₀ (c : Thread nD τ) none () dst.view.dmaCredit rfl (View.dmaCredit_pos _ hs) (Finset.Subset.refl dst.view.set)
    (q := q) (fs := fs) (fd := f)) $$ [Ha Hb Hz]
  · isplitl [Ha]; · iexact Ha
    isplitl [Hb] <;> iassumption
  iintro HF
  iapply Hk
  iapply (Flight_mono EC (c : Thread nD τ) (hD' f)); iexact HF

theorem wp_wait_copy (c : Dev nD) (l : List (Fin 16)) {sp sp' : Space} {s s' : Shape} {e e' : EltTy} {src : Memref sig .tc sp s e} {dst : Memref sig .tc sp' s' e'} {d : DmaSem sig}
    {hsrc : src.view.WordExact} {hdst : dst.view.WordExact} (hd : ∀ b : Bool × Fin 16, (if b.1 then recvSem b.2 else sendSem b.2) ≠ d)
    {α : Type} {Q : α → sProp 𝕄} {k : PUnit → Prog (TpuEff nD τ sig (Elt F) Λ₀ .tc) α} (D : sProp 𝕄) :
    iprop(Invs I K ∗ Flight EC (c : Thread nD τ) (.dma d) () dst.view.dmaCredit D ∗ Todo (F := F) c l)
      ⊢ iprop((iprop(D ∗ semVal ((c : Thread nD τ), .dma d) 0 ∗ Todo (F := F) c l) -∗ wpC c (k ⟨⟩) Q)
          -∗ wpC c (.op (.waitDma2 d src dst hsrc hdst) k) Q) := by
  unfold Todo
  iintro ⟨#HI, HF, ⟨%W, HO⟩, Hl⟩ Hk
  ihave #HL := (Invs_lev I K) $$ HI
  iapply (wp_waitLocalO EC 𝒱₀ (c : Thread nD τ) none () rfl (O := owe c l) (W := W)) $$ [HF HO]
  · isplitl [HF]; · iexact HF
    isplitl [HO]; · iexact HO
    iapply (mayWait_owe c _ l 0 (lv_other c (local_sem d hd)) (fun t' _ => Nat.lt_trans Nat.one_pos (rlv_pos t'))); iexact HL
  iintro ⟨HD, Hz, HO⟩
  iapply Hk
  isplitl [HD]; · iexact HD
  isplitl [Hz]; · iexact Hz
  isplitl [HO]; · iexists _; iexact HO
  iexact Hl

/-! ## Loads and stores -/

/-- A load of known contents. -/
theorem wp_ld (c : Dev nD) {cs : CoreSpace} {s : Shape} {e : EltTy} {m : Memref sig .tc cs s e} {r : Rect s} {hl : m.view.LoadsAt r}
    {α : Type} {Q : α → sProp 𝕄} {k : (r.shape.Idx → Elt F e) → Prog (TpuEff nD τ sig (Elt F) Λ₀ .tc) α} (P : sProp 𝕄)
    (S : Finset (Idx (m.view.loc (c : Thread nD τ)))) (q : PosShare TreeShare) (f : Buf (Elt F) (m.view.loc (c : Thread nD τ)))
    (hP : P = (m.view.loc (c : Thread nD τ) ↦[S]{q} f)) (hS : (m.access r).set ⊆ S) (V : r.shape.Idx → Elt F e)
    (hV : ∀ x, m.view.read (Elt F) f (r.emb x) = V x) :
    P ⊢ iprop((P -∗ wpC c (k V) Q) -∗ wpC c (.op (.load m r hl) k) Q) := by
  obtain rfl : m.view.readAt (Elt F) r f = V := funext hV
  rw [hP]
  exact wp_load 𝒱₀ (c : Thread nD τ) none Set.univ (by rwa [View.set_slice] at hS)

/-- A store of known contents. -/
theorem wp_st (c : Dev nD) {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {α : Type} {Q : α → sProp 𝕄} {k : PUnit → Prog (TpuEff nD τ sig (Elt F) Λ₀ .tc) α}
    (B : Buf (Elt F) ((m.access r).loc (c : Thread nD τ)) → sProp 𝕄) (g : Buf (Elt F) ((m.access r).loc (c : Thread nD τ)))
    (hB : ∀ f, B f = ((m.access r).loc (c : Thread nD τ) ↦[(m.access r).set]{fullShare} f)) (hv : ∀ x, w x = (m.access r).read (Elt F) g x) :
    iprop(∃ f, B f) ⊢ iprop((B g -∗ wpC c (k ⟨⟩) Q) -∗ wpC c (.op (.store m r w Finset.univ hx hm) k) Q) := by
  iintro ⟨%f, H⟩ Hk
  ihave H := (Entails.of_eq (hB f)) $$ H
  iapply (wp_store 𝒱₀ (c : Thread nD τ) none Set.univ (m := m) (r := r) (Mk := Finset.univ) (S := (m.access r).set) (f := f) (Finset.Subset.refl _)) $$ H
  iintro H
  iapply Hk
  rw [hB]
  iapply (Entails.of_eq (pointsTo_congr (write_eq (m.access r) f g w hv))); iexact H

end Cert.KernelIdeal.Work
-- ==== Proof.KernelIdeal.Quad.lean ====
/-
One accumulator block at a time: loading a row strip of `x` and a column half of `w`, adding their product
to the block, and writing a finished row strip out.
-/
module

public import proofs.«01_k».proof.Proof.KernelIdeal.Steps

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

/-! ## The accumulator -/

set_option backward.proofsInPublic true in
/-- The element of the accumulator at row `r`, column `n`. -/
def ai (r n : ℕ) : S4096x2048.Idx := ix2 (⟨r % 4096, Nat.mod_lt _ (by decide)⟩ : Fin 4096) (⟨n % 2048, Nat.mod_lt _ (by decide)⟩ : Fin 2048)
theorem ai_eq (i : S4096x2048.Idx) (r n : ℕ) (h0 : (i 0).val = r) (h1 : (i 1).val = n) : i = ai r n := by
  have l0 : (i 0).val < 4096 := (i 0).isLt
  have l1 : (i 1).val < 2048 := (i 1).isLt
  refine (eq_ix2 i).trans (congr (congrArg _ (Fin.ext ?_)) (Fin.ext ?_))
  · show (i 0).val = r % 4096; omega
  · show (i 1).val = n % 2048; omega

/-- After the first `T` stores every block that was stored to holds that many contributions. -/
def AccOK (c : Dev nD) (T : ℕ) (f : S4096x2048.Idx → F .bf16) : Prop :=
  ∀ r q, r < 8 → q < 2 → 0 < cnt T r q → ∀ x : S512x1024.Idx, f (ai (512 * r + (x 0).val) (1024 * q + (x 1).val)) = blkval I c r q (cnt T r q) x
def Acc (c : Dev nD) (T : ℕ) : sProp 𝕄 := iprop(∃ f, ⌜AccOK I c T f⌝ ∗ accP c Finset.univ fullShare f)

abbrev accM : Memref sig .tc .vmem S4096x2048 .bf16 := Memref.whole cc0_scratch8

theorem acc_write (r : Rect S4096x2048) (f : S4096x2048.Idx → F .bf16) (w : r.shape.Idx → F .bf16) (x : r.shape.Idx) :
    (accM.access r).write (Elt F) f w Finset.univ (r.emb x) = w x :=
  View.write_emb_of_mem (Val := Elt F) (v := accM.access r) f w (Finset.mem_univ x)
theorem acc_write_not (r : Rect S4096x2048) (f : S4096x2048.Idx → F .bf16) (w : r.shape.Idx → F .bf16) (i : S4096x2048.Idx) (h : ∀ y, r.emb y ≠ i) :
    (accM.access r).write (Elt F) f w Finset.univ i = f i := by
  refine View.write_of_not_mem (Val := Elt F) (v := accM.access r) f w Finset.univ ?_
  intro hm
  obtain ⟨y, -, hy⟩ := Finset.mem_map.mp hm
  exact h y hy

theorem ai_blk {o p r q : ℕ} (ho : o = 512 * r) (hp : p = 1024 * q) (inb : ∀ a, (![o, p] : Fin 2 → ℕ) a + S512x1024.size a ≤ S4096x2048.size a) (x : S512x1024.Idx) :
    (Rect.unit (s := S4096x2048) ![o, p] S512x1024.size inb).emb x = ai (512 * r + (x 0).val) (1024 * q + (x 1).val) := by
  obtain ⟨e0, e1⟩ := unit2_emb inb x
  exact ai_eq _ _ _ (e0.trans (by omega)) (e1.trans (by omega))

theorem acc_step (c : Dev nD) (T r q o p : ℕ) (hr : r < 8) (hq : q < 2) (hT : ord[T]? = some (r, q)) (ho : o = 512 * r) (hp : p = 1024 * q)
    (inb : ∀ a, (![o, p] : Fin 2 → ℕ) a + S512x1024.size a ≤ S4096x2048.size a) (f : S4096x2048.Idx → F .bf16) (v : FVec F S512x1024 .bf16)
    (hf : AccOK I c T f) (hv : v = blkval I c r q (cnt T r q + 1)) :
    AccOK I c (T + 1) ((accM.access (Rect.unit (s := S4096x2048) ![o, p] S512x1024.size inb)).write (Elt F) f v Finset.univ) := by
  intro r' q' hr' hq' hc x
  have l0 : (x 0).val < 512 := (x 0).isLt
  have l1 : (x 1).val < 1024 := (x 1).isLt
  rw [cnt_succ T _ hT] at hc ⊢
  by_cases h : r = r' ∧ q = q'
  · obtain ⟨rfl, rfl⟩ := h
    rw [if_pos rfl, ← hv]
    have e := ai_blk ho hp inb x
    rw [← e]
    exact acc_write (Rect.unit (s := S4096x2048) ![o, p] S512x1024.size inb) f v x
  · have h' : (r, q) ≠ (r', q') := fun e => h ⟨congrArg Prod.fst e, congrArg Prod.snd e⟩
    rw [if_neg h', Nat.add_zero] at hc ⊢
    refine Eq.trans ?_ (hf r' q' hr' hq' hc x)
    refine acc_write_not (Rect.unit (s := S4096x2048) ![o, p] S512x1024.size inb) f v _ ?_
    intro y hy
    obtain ⟨e0, e1⟩ := unit2_emb inb y
    have l0' : (y 0).val < 512 := (y 0).isLt
    have l1' : (y 1).val < 1024 := (y 1).isLt
    have h0 : o + (y 0).val = (512 * r' + (x 0).val) % 4096 := e0.symm.trans (congrArg (fun i : S4096x2048.Idx => (i 0).val) hy)
    have h1 : p + (y 1).val = (1024 * q' + (x 1).val) % 2048 := e1.symm.trans (congrArg (fun i : S4096x2048.Idx => (i 1).val) hy)
    apply h
    omega

/-! ## Loads -/

/-- A load through `m` at `r` reads `V`, given `P`. -/
def Ld (c : Dev nD) (P : sProp 𝕄) {s : Shape} {e : EltTy} (m : Memref sig .tc .vmem s e) (r : Rect s) (V : r.shape.Idx → Elt F e) : Prop :=
  ∀ (hl : m.view.LoadsAt r) (α : Type) (Q : α → sProp 𝕄) (k : (r.shape.Idx → Elt F e) → Prog (TpuEff nD τ sig (Elt F) Λ₀ .tc) α),
    P ⊢ iprop((P -∗ wpC c (k V) Q) -∗ wpC c (.op (.load m r hl) k) Q)

theorem ld_of (c : Dev nD) (P : sProp 𝕄) {s : Shape} {e : EltTy} {m : Memref sig .tc .vmem s e} {r : Rect s} {V : r.shape.Idx → Elt F e}
    (S : Finset (Idx (m.view.loc (c : Thread nD τ)))) (q : PosShare TreeShare) (f : Buf (Elt F) (m.view.loc (c : Thread nD τ)))
    (hP : P = (m.view.loc (c : Thread nD τ) ↦[S]{q} f)) (hS : ∀ x, m.view.emb (r.emb x) ∈ S)
    (hV : ∀ x, m.view.read (Elt F) f (r.emb x) = V x) : Ld c P m r V :=
  fun hl α Q k => wp_ld c P S q f hP (fun i hi => by obtain ⟨x, -, rfl⟩ := Finset.mem_map.mp hi; exact hS x) V hV

abbrev xlaM : Memref sig .tc .vmem S2048x1024 .fp8e5m2 := Memref.whole cc0_scratch0
abbrev xlbM : Memref sig .tc .vmem S2048x1024 .fp8e5m2 := Memref.whole cc0_scratch1
abbrev wlaM : Memref sig .tc .vmem S1024x1024 .fp8e5m2 := Memref.whole cc0_scratch2
abbrev wlbM : Memref sig .tc .vmem S1024x1024 .fp8e5m2 := Memref.whole cc0_scratch3
abbrev xgaM : Memref sig .tc .vmem S3x2048x1024 .fp8e5m2 := Memref.whole cc0_scratch4
abbrev xgbM : Memref sig .tc .vmem S3x2048x1024 .fp8e5m2 := Memref.whole cc0_scratch5
abbrev wgaM : Memref sig .tc .vmem S3x1024x1024 .fp8e5m2 := Memref.whole cc0_scratch6
abbrev wgbM : Memref sig .tc .vmem S3x1024x1024 .fp8e5m2 := Memref.whole cc0_scratch7
abbrev stageM : Memref sig .tc .vmem S2x512x2048 .f32 := Memref.whole cc0_scratch9
abbrev xstgM : Memref sig .tc .vmem S2x512x1024 .f32 := Memref.whole cc0_scratch10
abbrev wstgM : Memref sig .tc .vmem S1024x2048 .f32 := Memref.whole cc0_scratch11

section Loads
variable (c : Dev nD) (q : PosShare TreeShare)

theorem ldx_la {a b o : ℕ} (inb : ∀ a, (![o, 0] : Fin 2 → ℕ) a + S512x1024.size a ≤ S2048x1024.size a) (r : ℕ) (ho : o = 512 * r) (ha : a ≤ o) (hb : o + 512 ≤ b) :
    Ld c (xlaP c (rows a b) q (XLA I c)) xlaM (Rect.unit (s := S2048x1024) ![o, 0] S512x1024.size inb) (xblk I c r) := by
  refine ld_of c _ (rows a b) q (XLA I c) rfl (fun x => ?_) fun x => ?_
  · obtain ⟨e0, e1⟩ := unit2_emb inb x
    have l0 : (x 0).val < 512 := (x 0).isLt
    refine mem_rows.mpr ?_
    show a ≤ (((Rect.unit (s := S2048x1024) ![o, 0] S512x1024.size inb).emb x) 0).val ∧ (((Rect.unit (s := S2048x1024) ![o, 0] S512x1024.size inb).emb x) 0).val < b
    rw [e0]; omega
  · obtain ⟨e0, e1⟩ := unit2_emb inb x
    show XLA I c ((Rect.unit (s := S2048x1024) ![o, 0] S512x1024.size inb).emb x) = x8 I c (512 * r + (x 0).val) (x 1).val
    unfold XLA
    exact congr (congrArg _ (by rw [e0]; omega)) (by rw [e1, Nat.zero_add])

theorem ldx_lb {a b o : ℕ} (inb : ∀ a, (![o, 0] : Fin 2 → ℕ) a + S512x1024.size a ≤ S2048x1024.size a) (r : ℕ) (ho : 2048 + o = 512 * r) (ha : a ≤ o) (hb : o + 512 ≤ b) :
    Ld c (xlbP c (rows a b) q (XLB I c)) xlbM (Rect.unit (s := S2048x1024) ![o, 0] S512x1024.size inb) (xblk I c r) := by
  refine ld_of c _ (rows a b) q (XLB I c) rfl (fun x => ?_) fun x => ?_
  · obtain ⟨e0, e1⟩ := unit2_emb inb x
    have l0 : (x 0).val < 512 := (x 0).isLt
    refine mem_rows.mpr ?_
    show a ≤ (((Rect.unit (s := S2048x1024) ![o, 0] S512x1024.size inb).emb x) 0).val ∧ (((Rect.unit (s := S2048x1024) ![o, 0] S512x1024.size inb).emb x) 0).val < b
    rw [e0]; omega
  · obtain ⟨e0, e1⟩ := unit2_emb inb x
    show XLB I c ((Rect.unit (s := S2048x1024) ![o, 0] S512x1024.size inb).emb x) = x8 I c (512 * r + (x 0).val) (x 1).val
    unfold XLB
    exact congr (congrArg _ (by rw [e0]; omega)) (by rw [e1, Nat.zero_add])

theorem ldw_la (inb : ∀ a, (![0, 0] : Fin 2 → ℕ) a + S1024x1024.size a ≤ S1024x1024.size a) :
    Ld c (wlaP c Finset.univ q (WLA I c)) wlaM (Rect.unit (s := S1024x1024) ![0, 0] S1024x1024.size inb) (wblk I c 0) := by
  refine ld_of c _ Finset.univ q (WLA I c) rfl (fun x => Finset.mem_univ _) fun x => ?_
  obtain ⟨e0, e1⟩ := unit2_emb inb x
  show WLA I c ((Rect.unit (s := S1024x1024) ![0, 0] S1024x1024.size inb).emb x) = w8 I c (x 0).val (1024 * 0 + (x 1).val)
  unfold WLA
  exact congr (congrArg _ (by rw [e0, Nat.zero_add])) (by rw [e1])

theorem ldw_lb (inb : ∀ a, (![0, 0] : Fin 2 → ℕ) a + S1024x1024.size a ≤ S1024x1024.size a) :
    Ld c (wlbP c Finset.univ q (WLB I c)) wlbM (Rect.unit (s := S1024x1024) ![0, 0] S1024x1024.size inb) (wblk I c 1) := by
  refine ld_of c _ Finset.univ q (WLB I c) rfl (fun x => Finset.mem_univ _) fun x => ?_
  obtain ⟨e0, e1⟩ := unit2_emb inb x
  show WLB I c ((Rect.unit (s := S1024x1024) ![0, 0] S1024x1024.size inb).emb x) = w8 I c (x 0).val (1024 * 1 + (x 1).val)
  unfold WLB
  exact congr (congrArg _ (by rw [e0, Nat.zero_add])) (by rw [e1]; omega)

/-- A row strip of a ring slot, read through the slot's (or half slot's) squeezed view. -/
theorem ldx_ga {h o R : ℕ} (hR : ∀ a, (![h, o, 0] : Fin 3 → ℕ) a + (![1, R, 1024] : Fin 3 → ℕ) a ≤ S3x2048x1024.size a) {hst}
    (hq : (⟨3, ![1, R, 1024]⟩ : Shape).Squeezes ⟨2, ![R, 1024]⟩) {o' : ℕ}
    (inb : ∀ a, (![o', 0] : Fin 2 → ℕ) a + S512x1024.size a ≤ (⟨2, ![R, 1024]⟩ : Shape).size a) {a b : ℕ} (r j : ℕ) (hj : 3 - h = j) (ho : o + o' = 512 * r) (ha : a ≤ o + o') (hb : o + o' + 512 ≤ b) :
    Ld c (xgaP c (slab h a b) q (XGA I c)) ((xgaM.slice (Rect.unit (s := S3x2048x1024) ![h, o, 0] ![1, R, 1024] hR) hst).squeeze ⟨2, ![R, 1024]⟩ hq)
      (Rect.unit (s := ⟨2, ![R, 1024]⟩) ![o', 0] S512x1024.size inb) (xblk I (dv c j) r) := by
  refine ld_of c _ (slab h a b) q (XGA I c) rfl (fun x => ?_) fun x => ?_
  · obtain ⟨e0, e1⟩ := unit2_emb inb x
    obtain ⟨d0, d1, d2⟩ := sq_emb hR hq.numel_eq ((Rect.unit (s := ⟨2, ![R, 1024]⟩) ![o', 0] S512x1024.size inb).emb x)
    have l0 : (x 0).val < 512 := (x 0).isLt
    refine mem_slab.mpr ⟨d0, ?_⟩
    have e := d1.trans (congrArg (o + ·) e0)
    refine ⟨le_of_le_of_eq ?_ e.symm, lt_of_eq_of_lt e ?_⟩ <;> omega
  · obtain ⟨e0, e1⟩ := unit2_emb inb x
    obtain ⟨d0, d1, d2⟩ := sq_emb hR hq.numel_eq ((Rect.unit (s := ⟨2, ![R, 1024]⟩) ![o', 0] S512x1024.size inb).emb x)
    show XGA I c ((Rect.unit (s := S3x2048x1024) ![h, o, 0] ![1, R, 1024] hR).emb (Shape.reshapeEquiv _ ((Rect.unit (s := ⟨2, ![R, 1024]⟩) ![o', 0] S512x1024.size inb).emb x))) = x8 I (dv c j) (512 * r + (x 0).val) (x 1).val
    unfold XGA
    exact congr (congr (congrArg _ (by rw [d0, hj])) (d1.trans (by rw [e0, ← ho]; omega))) (d2.trans (by rw [e1, Nat.zero_add]))

theorem ldx_gb {h o R : ℕ} (hR : ∀ a, (![h, o, 0] : Fin 3 → ℕ) a + (![1, R, 1024] : Fin 3 → ℕ) a ≤ S3x2048x1024.size a) {hst}
    (hq : (⟨3, ![1, R, 1024]⟩ : Shape).Squeezes ⟨2, ![R, 1024]⟩) {o' : ℕ}
    (inb : ∀ a, (![o', 0] : Fin 2 → ℕ) a + S512x1024.size a ≤ (⟨2, ![R, 1024]⟩ : Shape).size a) {a b : ℕ} (r j : ℕ) (hj : 1 + h = j) (ho : 2048 + (o + o') = 512 * r) (ha : a ≤ o + o') (hb : o + o' + 512 ≤ b) :
    Ld c (xgbP c (slab h a b) q (XGB I c)) ((xgbM.slice (Rect.unit (s := S3x2048x1024) ![h, o, 0] ![1, R, 1024] hR) hst).squeeze ⟨2, ![R, 1024]⟩ hq)
      (Rect.unit (s := ⟨2, ![R, 1024]⟩) ![o', 0] S512x1024.size inb) (xblk I (dv c j) r) := by
  refine ld_of c _ (slab h a b) q (XGB I c) rfl (fun x => ?_) fun x => ?_
  · obtain ⟨e0, e1⟩ := unit2_emb inb x
    obtain ⟨d0, d1, d2⟩ := sq_emb hR hq.numel_eq ((Rect.unit (s := ⟨2, ![R, 1024]⟩) ![o', 0] S512x1024.size inb).emb x)
    have l0 : (x 0).val < 512 := (x 0).isLt
    refine mem_slab.mpr ⟨d0, ?_⟩
    have e := d1.trans (congrArg (o + ·) e0)
    refine ⟨le_of_le_of_eq ?_ e.symm, lt_of_eq_of_lt e ?_⟩ <;> omega
  · obtain ⟨e0, e1⟩ := unit2_emb inb x
    obtain ⟨d0, d1, d2⟩ := sq_emb hR hq.numel_eq ((Rect.unit (s := ⟨2, ![R, 1024]⟩) ![o', 0] S512x1024.size inb).emb x)
    show XGB I c ((Rect.unit (s := S3x2048x1024) ![h, o, 0] ![1, R, 1024] hR).emb (Shape.reshapeEquiv _ ((Rect.unit (s := ⟨2, ![R, 1024]⟩) ![o', 0] S512x1024.size inb).emb x))) = x8 I (dv c j) (512 * r + (x 0).val) (x 1).val
    unfold XGB
    exact congr (congr (congrArg _ (by rw [d0, hj])) ((congrArg (2048 + ·) d1).trans (by rw [e0]; omega))) (d2.trans (by rw [e1, Nat.zero_add]))

theorem ldw_ga {h : ℕ} (inb : ∀ a, (![h, 0, 0] : Fin 3 → ℕ) a + S1x1024x1024.size a ≤ S3x1024x1024.size a) (j : ℕ) (hj : 3 - h = j) :
    Ld c (wgaP c (slab h 0 1024) q (WGA I c)) wgaM (Rect.unit (s := S3x1024x1024) ![h, 0, 0] S1x1024x1024.size inb) (wblk1 I (dv c j) 0) := by
  refine ld_of c _ (slab h 0 1024) q (WGA I c) rfl (fun x => ?_) fun x => ?_
  · obtain ⟨d0, d1, d2⟩ := unit3_emb inb x
    have l1 : (x 1).val < 1024 := (x 1).isLt
    exact mem_slab.mpr ⟨d0, Nat.zero_le _, lt_of_eq_of_lt d1 (by omega)⟩
  · obtain ⟨d0, d1, d2⟩ := unit3_emb inb x
    show WGA I c ((Rect.unit (s := S3x1024x1024) ![h, 0, 0] S1x1024x1024.size inb).emb x) = w8 I (dv c j) (x 1).val (1024 * 0 + (x 2).val)
    unfold WGA
    exact congr (congr (congrArg _ (by rw [d0, hj])) (d1.trans (Nat.zero_add _))) (d2.trans (by omega))

theorem ldw_gb {h : ℕ} (inb : ∀ a, (![h, 0, 0] : Fin 3 → ℕ) a + S1x1024x1024.size a ≤ S3x1024x1024.size a) (j : ℕ) (hj : 1 + h = j) :
    Ld c (wgbP c (slab h 0 1024) q (WGB I c)) wgbM (Rect.unit (s := S3x1024x1024) ![h, 0, 0] S1x1024x1024.size inb) (wblk1 I (dv c j) 1) := by
  refine ld_of c _ (slab h 0 1024) q (WGB I c) rfl (fun x => ?_) fun x => ?_
  · obtain ⟨d0, d1, d2⟩ := unit3_emb inb x
    have l1 : (x 1).val < 1024 := (x 1).isLt
    exact mem_slab.mpr ⟨d0, Nat.zero_le _, lt_of_eq_of_lt d1 (by omega)⟩
  · obtain ⟨d0, d1, d2⟩ := unit3_emb inb x
    show WGB I c ((Rect.unit (s := S3x1024x1024) ![h, 0, 0] S1x1024x1024.size inb).emb x) = w8 I (dv c j) (x 1).val (1024 * 1 + (x 2).val)
    unfold WGB
    exact congr (congr (congrArg _ (by rw [d0, hj])) (d1.trans (Nat.zero_add _))) ((congrArg (1024 + ·) d2).trans (by omega))
end Loads

/-! ## One contribution to a block -/

section Blocks
variable (c : Dev nD)

/-- The first contribution: the block's old contents are loaded and not used. -/
theorem wp_blk1 {α : Type} {Q : α → sProp 𝕄} (T r q o p : ℕ) (hr : r < 8) (hq : q < 2) (hT : ord[T]? = some (r, q)) (hc : cnt T r q = 0) (ho : o = 512 * r) (hp : p = 1024 * q)
    {inb : ∀ a, (![o, p] : Fin 2 → ℕ) a + S512x1024.size a ≤ S4096x2048.size a}
    {sx sw : Shape} {mx : Memref sig .tc .vmem sx .fp8e5m2} {rx : Rect sx} {mw : Memref sig .tc .vmem sw .fp8e5m2} {rw' : Rect sw}
    {X : rx.shape.Idx → Elt F .fp8e5m2} {W : rw'.shape.Idx → Elt F .fp8e5m2} {PX PW : sProp 𝕄} (hX : Ld c PX mx rx X) (hW : Ld c PW mw rw' W)
    {pay : (rx.shape.Idx → Elt F .fp8e5m2) → (rw'.shape.Idx → Elt F .fp8e5m2) → S512x1024.Idx → F .bf16} (hpay : pay X W = first (xblk I c r) (wblk I c q))
    {h1 : mx.view.LoadsAt rx} {h2 : mw.view.LoadsAt rw'} {h3 : accM.view.LoadsAt (Rect.unit (s := S4096x2048) ![o, p] S512x1024.size inb)}
    {h4 : (accM.access (Rect.unit (s := S4096x2048) ![o, p] S512x1024.size inb)).Stores Finset.univ} {h5} {k : PUnit → Prog (TpuEff nD τ sig (Elt F) Λ₀ .tc) α} :
    iprop(PX ∗ PW ∗ Acc I c T)
      ⊢ iprop((iprop(PX ∗ PW ∗ Acc I c (T + 1)) -∗ wpC c (k ⟨⟩) Q)
        -∗ wpC c (.op (.load mx rx h1) fun x => .op (.load mw rw' h2) fun w => .op (.load accM (Rect.unit (s := S4096x2048) ![o, p] S512x1024.size inb) h3) fun _ =>
            .op (.store accM (Rect.unit (s := S4096x2048) ![o, p] S512x1024.size inb) (pay x w) Finset.univ h4 h5) k) Q) := by
  unfold Acc
  iintro ⟨HX, HW, ⟨%f, %hf, HA⟩⟩ Hk
  iapply (hX h1 α Q _) $$ HX
  iintro HX
  iapply (hW h2 α Q _) $$ HW
  iintro HW
  iapply (wp_load 𝒱₀ (c : Thread nD τ) none Set.univ (m := accM) (Finset.subset_univ _)) $$ HA; iintro HA
  iapply (wp_store 𝒱₀ (c : Thread nD τ) none Set.univ (m := accM) (r := Rect.unit (s := S4096x2048) ![o, p] S512x1024.size inb) (Mk := Finset.univ) (Finset.subset_univ _)) $$ HA
  iintro HA
  iapply Hk
  isplitl [HX]; · iexact HX
  isplitl [HW]; · iexact HW
  iexists ((accM.access (Rect.unit (s := S4096x2048) ![o, p] S512x1024.size inb)).write (Elt F) f (pay X W) Finset.univ)
  isplitr
  · ipureintro; exact acc_step I c T r q o p hr hq hT ho hp inb f _ hf (by rw [hpay, hc, blkval_one])
  iexact HA

/-- A later contribution: the block is loaded, added to, and stored (a second load of it is not used). -/
theorem wp_blk2 {α : Type} {Q : α → sProp 𝕄} (T r q o p j : ℕ) (hr : r < 8) (hq : q < 2) (hT : ord[T]? = some (r, q)) (hc : 0 < cnt T r q) (hj : sd r q (cnt T r q) = j) (ho : o = 512 * r) (hp : p = 1024 * q)
    {inb : ∀ a, (![o, p] : Fin 2 → ℕ) a + S512x1024.size a ≤ S4096x2048.size a}
    {sx sw : Shape} {mx : Memref sig .tc .vmem sx .fp8e5m2} {rx : Rect sx} {mw : Memref sig .tc .vmem sw .fp8e5m2} {rw' : Rect sw}
    {X : rx.shape.Idx → Elt F .fp8e5m2} {W : rw'.shape.Idx → Elt F .fp8e5m2} {PX PW : sProp 𝕄} (hX : Ld c PX mx rx X) (hW : Ld c PW mw rw' W)
    {pay : (rx.shape.Idx → Elt F .fp8e5m2) → (rw'.shape.Idx → Elt F .fp8e5m2) → (S512x1024.Idx → F .bf16) → S512x1024.Idx → F .bf16}
    (hpay : ∀ A, pay X W A = next (xblk I (dv c j) r) (wblk I (dv c j) q) A)
    {h1 : mx.view.LoadsAt rx} {h2 : mw.view.LoadsAt rw'} {h3 h3' : accM.view.LoadsAt (Rect.unit (s := S4096x2048) ![o, p] S512x1024.size inb)}
    {h4 : (accM.access (Rect.unit (s := S4096x2048) ![o, p] S512x1024.size inb)).Stores Finset.univ} {h5} {k : PUnit → Prog (TpuEff nD τ sig (Elt F) Λ₀ .tc) α} :
    iprop(PX ∗ PW ∗ Acc I c T)
      ⊢ iprop((iprop(PX ∗ PW ∗ Acc I c (T + 1)) -∗ wpC c (k ⟨⟩) Q)
        -∗ wpC c (.op (.load mx rx h1) fun x => .op (.load mw rw' h2) fun w => .op (.load accM (Rect.unit (s := S4096x2048) ![o, p] S512x1024.size inb) h3) fun a =>
            .op (.load accM (Rect.unit (s := S4096x2048) ![o, p] S512x1024.size inb) h3') fun _ =>
            .op (.store accM (Rect.unit (s := S4096x2048) ![o, p] S512x1024.size inb) (pay x w a) Finset.univ h4 h5) k) Q) := by
  unfold Acc
  iintro ⟨HX, HW, ⟨%f, %hf, HA⟩⟩ Hk
  iapply (hX h1 α Q _) $$ HX
  iintro HX
  iapply (hW h2 α Q _) $$ HW
  iintro HW
  iapply (wp_load 𝒱₀ (c : Thread nD τ) none Set.univ (m := accM) (Finset.subset_univ _)) $$ HA; iintro HA
  iapply (wp_load 𝒱₀ (c : Thread nD τ) none Set.univ (m := accM) (Finset.subset_univ _)) $$ HA; iintro HA
  iapply (wp_store 𝒱₀ (c : Thread nD τ) none Set.univ (m := accM) (r := Rect.unit (s := S4096x2048) ![o, p] S512x1024.size inb) (Mk := Finset.univ) (Finset.subset_univ _)) $$ HA
  iintro HA
  iapply Hk
  isplitl [HX]; · iexact HX
  isplitl [HW]; · iexact HW
  iexists ((accM.access (Rect.unit (s := S4096x2048) ![o, p] S512x1024.size inb)).write (Elt F) f
    (pay X W (fun x => f ((Rect.unit (s := S4096x2048) ![o, p] S512x1024.size inb).emb x))) Finset.univ)
  isplitr
  · ipureintro
    refine acc_step I c T r q o p hr hq hT ho hp inb f _ hf ?_
    rw [hpay, blkval_succ I c r q (cnt T r q) hc.ne' j hj]
    refine congrArg _ (funext fun x => ?_)
    exact (congrArg f (ai_blk ho hp inb x)).trans (hf r q hr hq hc x)
  iexact HA
end Blocks

end Cert.KernelIdeal.Work
-- ==== Proof.KernelIdeal.Moves.lean ====
/-
Moving data: where each sliced view of the kernel lies, what a transfer's two ends read, and the steps that stage
the inputs in and write the finished rows out.
-/
module

public import proofs.«01_k».proof.Proof.KernelIdeal.Quad

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

abbrev xhM : Memref sig .tc .hbm S4096x1024 .f32 := Memref.whole main_arg0
abbrev whM : Memref sig .tc .hbm S1024x2048 .f32 := Memref.whole main_arg1
abbrev outM : Memref sig .tc .hbm S4096x2048 .f32 := Memref.whole main_v1

/-! ## Cutting and sharing points-to assertions -/

theorem pts_cut {ℓ : Loc nD τ sig} {S A B : Finset (Idx ℓ)} {q : PosShare TreeShare} {f : Buf (Elt F) ℓ} (h : A ∪ B = S) (hd : Disjoint A B) :
    (ℓ ↦[S]{q} f : sProp 𝕄) ⊣⊢ iprop((ℓ ↦[A]{q} f) ∗ ℓ ↦[B]{q} f) := by
  subst h; exact pointsTo_union hd
theorem pts_half {ℓ : Loc nD τ sig} {S : Finset (Idx ℓ)} {f : Buf (Elt F) ℓ} :
    (ℓ ↦[S]{fullShare} f : sProp 𝕄) ⊣⊢ iprop((ℓ ↦[S]{qL} f) ∗ ℓ ↦[S]{qR} f) :=
  pointsTo_share (PosShare.mem_left_op_right fullShare)

/-! ## Rows of a matrix under a sliced view, rows of one slot under a sliced and squeezed one -/

section Pts
variable (c : Dev nD) (q : PosShare TreeShare)

theorem pts_xh {o k : ℕ} (inb : ∀ a, (![o, 0] : Fin 2 → ℕ) a + (![k, 1024] : Fin 2 → ℕ) a ≤ S4096x1024.size a) (hst) (f : S4096x1024.Idx → F .f32) :
    xhP c (rows o (o + k)) q f = ((xhM.slice (Rect.unit (s := S4096x1024) ![o, 0] ![k, 1024] inb) hst).view.loc (c : Thread nD τ)
      ↦[(xhM.slice (Rect.unit (s := S4096x1024) ![o, 0] ![k, 1024] inb) hst).view.set]{q} f) :=
  congrArg (fun S => ((c : Thread nD τ).loc main_arg0 ↦[S]{q} f : sProp 𝕄)) ((View.set_slice_whole _ _).trans (rect_rows inb)).symm

theorem pts_out {o k : ℕ} (inb : ∀ a, (![o, 0] : Fin 2 → ℕ) a + (![k, 2048] : Fin 2 → ℕ) a ≤ S4096x2048.size a) (hst) (f : S4096x2048.Idx → F .f32) :
    outP c (rows o (o + k)) q f = ((outM.slice (Rect.unit (s := S4096x2048) ![o, 0] ![k, 2048] inb) hst).view.loc (c : Thread nD τ)
      ↦[(outM.slice (Rect.unit (s := S4096x2048) ![o, 0] ![k, 2048] inb) hst).view.set]{q} f) :=
  congrArg (fun S => ((c : Thread nD τ).loc main_v1 ↦[S]{q} f : sProp 𝕄)) ((View.set_slice_whole _ _).trans (rect_rows inb)).symm

theorem pts_xla {o k : ℕ} (inb : ∀ a, (![o, 0] : Fin 2 → ℕ) a + (![k, 1024] : Fin 2 → ℕ) a ≤ S2048x1024.size a) (hst) (f : S2048x1024.Idx → F .fp8e5m2) :
    xlaP c (rows o (o + k)) q f = ((xlaM.slice (Rect.unit (s := S2048x1024) ![o, 0] ![k, 1024] inb) hst).view.loc (c : Thread nD τ)
      ↦[(xlaM.slice (Rect.unit (s := S2048x1024) ![o, 0] ![k, 1024] inb) hst).view.set]{q} f) :=
  congrArg (fun S => ((c : Thread nD τ).loc cc0_scratch0 ↦[S]{q} f : sProp 𝕄)) ((View.set_slice_whole _ _).trans (rect_rows inb)).symm

theorem pts_xlb {o k : ℕ} (inb : ∀ a, (![o, 0] : Fin 2 → ℕ) a + (![k, 1024] : Fin 2 → ℕ) a ≤ S2048x1024.size a) (hst) (f : S2048x1024.Idx → F .fp8e5m2) :
    xlbP c (rows o (o + k)) q f = ((xlbM.slice (Rect.unit (s := S2048x1024) ![o, 0] ![k, 1024] inb) hst).view.loc (c : Thread nD τ)
      ↦[(xlbM.slice (Rect.unit (s := S2048x1024) ![o, 0] ![k, 1024] inb) hst).view.set]{q} f) :=
  congrArg (fun S => ((c : Thread nD τ).loc cc0_scratch1 ↦[S]{q} f : sProp 𝕄)) ((View.set_slice_whole _ _).trans (rect_rows inb)).symm

theorem pts_xga {h o k : ℕ} (inb : ∀ a, (![h, o, 0] : Fin 3 → ℕ) a + (![1, k, 1024] : Fin 3 → ℕ) a ≤ S3x2048x1024.size a) (hst)
    (hq : (⟨3, ![1, k, 1024]⟩ : Shape).Squeezes ⟨2, ![k, 1024]⟩) (f : S3x2048x1024.Idx → F .fp8e5m2) :
    xgaP c (slab h o (o + k)) q f = (((xgaM.slice (Rect.unit (s := S3x2048x1024) ![h, o, 0] ![1, k, 1024] inb) hst).squeeze ⟨2, ![k, 1024]⟩ hq).view.loc (c : Thread nD τ)
      ↦[((xgaM.slice (Rect.unit (s := S3x2048x1024) ![h, o, 0] ![1, k, 1024] inb) hst).squeeze ⟨2, ![k, 1024]⟩ hq).view.set]{q} f) :=
  congrArg (fun S => ((c : Thread nD τ).loc cc0_scratch4 ↦[S]{q} f : sProp 𝕄)) ((View.set_reshape _ _).trans ((View.set_slice_whole _ _).trans (rect_slab inb))).symm

theorem pts_xgb {h o k : ℕ} (inb : ∀ a, (![h, o, 0] : Fin 3 → ℕ) a + (![1, k, 1024] : Fin 3 → ℕ) a ≤ S3x2048x1024.size a) (hst)
    (hq : (⟨3, ![1, k, 1024]⟩ : Shape).Squeezes ⟨2, ![k, 1024]⟩) (f : S3x2048x1024.Idx → F .fp8e5m2) :
    xgbP c (slab h o (o + k)) q f = (((xgbM.slice (Rect.unit (s := S3x2048x1024) ![h, o, 0] ![1, k, 1024] inb) hst).squeeze ⟨2, ![k, 1024]⟩ hq).view.loc (c : Thread nD τ)
      ↦[((xgbM.slice (Rect.unit (s := S3x2048x1024) ![h, o, 0] ![1, k, 1024] inb) hst).squeeze ⟨2, ![k, 1024]⟩ hq).view.set]{q} f) :=
  congrArg (fun S => ((c : Thread nD τ).loc cc0_scratch5 ↦[S]{q} f : sProp 𝕄)) ((View.set_reshape _ _).trans ((View.set_slice_whole _ _).trans (rect_slab inb))).symm

theorem pts_wga {h o k : ℕ} (inb : ∀ a, (![h, o, 0] : Fin 3 → ℕ) a + (![1, k, 1024] : Fin 3 → ℕ) a ≤ S3x1024x1024.size a) (hst)
    (hq : (⟨3, ![1, k, 1024]⟩ : Shape).Squeezes ⟨2, ![k, 1024]⟩) (f : S3x1024x1024.Idx → F .fp8e5m2) :
    wgaP c (slab h o (o + k)) q f = (((wgaM.slice (Rect.unit (s := S3x1024x1024) ![h, o, 0] ![1, k, 1024] inb) hst).squeeze ⟨2, ![k, 1024]⟩ hq).view.loc (c : Thread nD τ)
      ↦[((wgaM.slice (Rect.unit (s := S3x1024x1024) ![h, o, 0] ![1, k, 1024] inb) hst).squeeze ⟨2, ![k, 1024]⟩ hq).view.set]{q} f) :=
  congrArg (fun S => ((c : Thread nD τ).loc cc0_scratch6 ↦[S]{q} f : sProp 𝕄)) ((View.set_reshape _ _).trans ((View.set_slice_whole _ _).trans (rect_slab inb))).symm

theorem pts_wgb {h o k : ℕ} (inb : ∀ a, (![h, o, 0] : Fin 3 → ℕ) a + (![1, k, 1024] : Fin 3 → ℕ) a ≤ S3x1024x1024.size a) (hst)
    (hq : (⟨3, ![1, k, 1024]⟩ : Shape).Squeezes ⟨2, ![k, 1024]⟩) (f : S3x1024x1024.Idx → F .fp8e5m2) :
    wgbP c (slab h o (o + k)) q f = (((wgbM.slice (Rect.unit (s := S3x1024x1024) ![h, o, 0] ![1, k, 1024] inb) hst).squeeze ⟨2, ![k, 1024]⟩ hq).view.loc (c : Thread nD τ)
      ↦[((wgbM.slice (Rect.unit (s := S3x1024x1024) ![h, o, 0] ![1, k, 1024] inb) hst).squeeze ⟨2, ![k, 1024]⟩ hq).view.set]{q} f) :=
  congrArg (fun S => ((c : Thread nD τ).loc cc0_scratch7 ↦[S]{q} f : sProp 𝕄)) ((View.set_reshape _ _).trans ((View.set_slice_whole _ _).trans (rect_slab inb))).symm

theorem pts_stage {h o k : ℕ} (inb : ∀ a, (![h, o, 0] : Fin 3 → ℕ) a + (![1, k, 2048] : Fin 3 → ℕ) a ≤ S2x512x2048.size a) (hst)
    (hq : (⟨3, ![1, k, 2048]⟩ : Shape).Squeezes ⟨2, ![k, 2048]⟩) (f : S2x512x2048.Idx → F .f32) :
    stageP c (slab h o (o + k)) q f = (((stageM.slice (Rect.unit (s := S2x512x2048) ![h, o, 0] ![1, k, 2048] inb) hst).squeeze ⟨2, ![k, 2048]⟩ hq).view.loc (c : Thread nD τ)
      ↦[((stageM.slice (Rect.unit (s := S2x512x2048) ![h, o, 0] ![1, k, 2048] inb) hst).squeeze ⟨2, ![k, 2048]⟩ hq).view.set]{q} f) :=
  congrArg (fun S => ((c : Thread nD τ).loc cc0_scratch9 ↦[S]{q} f : sProp 𝕄)) ((View.set_reshape _ _).trans ((View.set_slice_whole _ _).trans (rect_slab inb))).symm

theorem pts_xstg {h o k : ℕ} (inb : ∀ a, (![h, o, 0] : Fin 3 → ℕ) a + (![1, k, 1024] : Fin 3 → ℕ) a ≤ S2x512x1024.size a) (hst)
    (hq : (⟨3, ![1, k, 1024]⟩ : Shape).Squeezes ⟨2, ![k, 1024]⟩) (f : S2x512x1024.Idx → F .f32) :
    xstgP c (slab h o (o + k)) q f = (((xstgM.slice (Rect.unit (s := S2x512x1024) ![h, o, 0] ![1, k, 1024] inb) hst).squeeze ⟨2, ![k, 1024]⟩ hq).view.loc (c : Thread nD τ)
      ↦[((xstgM.slice (Rect.unit (s := S2x512x1024) ![h, o, 0] ![1, k, 1024] inb) hst).squeeze ⟨2, ![k, 1024]⟩ hq).view.set]{q} f) :=
  congrArg (fun S => ((c : Thread nD τ).loc cc0_scratch10 ↦[S]{q} f : sProp 𝕄)) ((View.set_reshape _ _).trans ((View.set_slice_whole _ _).trans (rect_slab inb))).symm

theorem pts_wla (f : S1024x1024.Idx → F .fp8e5m2) :
    wlaP c Finset.univ q f = (wlaM.view.loc (c : Thread nD τ) ↦[wlaM.view.set]{q} f) :=
  congrArg (fun S => ((c : Thread nD τ).loc cc0_scratch2 ↦[S]{q} f : sProp 𝕄)) (View.set_whole cc0_scratch2).symm

theorem pts_wlb (f : S1024x1024.Idx → F .fp8e5m2) :
    wlbP c Finset.univ q f = (wlbM.view.loc (c : Thread nD τ) ↦[wlbM.view.set]{q} f) :=
  congrArg (fun S => ((c : Thread nD τ).loc cc0_scratch3 ↦[S]{q} f : sProp 𝕄)) (View.set_whole cc0_scratch3).symm

theorem pts_wh (f : S1024x2048.Idx → F .f32) :
    whP c Finset.univ q f = (whM.view.loc (c : Thread nD τ) ↦[whM.view.set]{q} f) :=
  congrArg (fun S => ((c : Thread nD τ).loc main_arg1 ↦[S]{q} f : sProp 𝕄)) (View.set_whole main_arg1).symm

theorem pts_wstg (f : S1024x2048.Idx → F .f32) :
    wstgP c Finset.univ q f = (wstgM.view.loc (c : Thread nD τ) ↦[wstgM.view.set]{q} f) :=
  congrArg (fun S => ((c : Thread nD τ).loc cc0_scratch11 ↦[S]{q} f : sProp 𝕄)) (View.set_whole cc0_scratch11).symm

end Pts

/-! ## Both ends of a transfer read the same -/

section Reads
variable (c n : Dev nD)

theorem read_xga {h o k : ℕ} (inb : ∀ a, (![h, o, 0] : Fin 3 → ℕ) a + (![1, k, 1024] : Fin 3 → ℕ) a ≤ S3x2048x1024.size a) (hst)
    (hq : (⟨3, ![1, k, 1024]⟩ : Shape).Squeezes ⟨2, ![k, 1024]⟩) (x : (⟨2, ![k, 1024]⟩ : Shape).Idx) :
    ((xgaM.slice (Rect.unit (s := S3x2048x1024) ![h, o, 0] ![1, k, 1024] inb) hst).squeeze ⟨2, ![k, 1024]⟩ hq).view.read (Elt F) (XGA I c) x = x8 I (dv c (3 - h)) (o + (x 0).val) (x 1).val := by
  obtain ⟨d0, d1, d2⟩ := sq_emb inb hq.numel_eq x
  show XGA I c ((Rect.unit (s := S3x2048x1024) ![h, o, 0] ![1, k, 1024] inb).emb (Shape.reshapeEquiv _ x)) = _
  unfold XGA
  exact congr (congr (congrArg _ (by rw [d0])) (d1)) (d2)

theorem read_xgb {h o k : ℕ} (inb : ∀ a, (![h, o, 0] : Fin 3 → ℕ) a + (![1, k, 1024] : Fin 3 → ℕ) a ≤ S3x2048x1024.size a) (hst)
    (hq : (⟨3, ![1, k, 1024]⟩ : Shape).Squeezes ⟨2, ![k, 1024]⟩) (x : (⟨2, ![k, 1024]⟩ : Shape).Idx) :
    ((xgbM.slice (Rect.unit (s := S3x2048x1024) ![h, o, 0] ![1, k, 1024] inb) hst).squeeze ⟨2, ![k, 1024]⟩ hq).view.read (Elt F) (XGB I c) x = x8 I (dv c (1 + h)) (2048 + (o + (x 0).val)) (x 1).val := by
  obtain ⟨d0, d1, d2⟩ := sq_emb inb hq.numel_eq x
  show XGB I c ((Rect.unit (s := S3x2048x1024) ![h, o, 0] ![1, k, 1024] inb).emb (Shape.reshapeEquiv _ x)) = _
  unfold XGB
  exact congr (congr (congrArg _ (by rw [d0])) (congrArg (2048 + ·) d1)) (d2)

theorem read_wga {h o k : ℕ} (inb : ∀ a, (![h, o, 0] : Fin 3 → ℕ) a + (![1, k, 1024] : Fin 3 → ℕ) a ≤ S3x1024x1024.size a) (hst)
    (hq : (⟨3, ![1, k, 1024]⟩ : Shape).Squeezes ⟨2, ![k, 1024]⟩) (x : (⟨2, ![k, 1024]⟩ : Shape).Idx) :
    ((wgaM.slice (Rect.unit (s := S3x1024x1024) ![h, o, 0] ![1, k, 1024] inb) hst).squeeze ⟨2, ![k, 1024]⟩ hq).view.read (Elt F) (WGA I c) x = w8 I (dv c (3 - h)) (o + (x 0).val) (x 1).val := by
  obtain ⟨d0, d1, d2⟩ := sq_emb inb hq.numel_eq x
  show WGA I c ((Rect.unit (s := S3x1024x1024) ![h, o, 0] ![1, k, 1024] inb).emb (Shape.reshapeEquiv _ x)) = _
  unfold WGA
  exact congr (congr (congrArg _ (by rw [d0])) (d1)) (d2)

theorem read_wgb {h o k : ℕ} (inb : ∀ a, (![h, o, 0] : Fin 3 → ℕ) a + (![1, k, 1024] : Fin 3 → ℕ) a ≤ S3x1024x1024.size a) (hst)
    (hq : (⟨3, ![1, k, 1024]⟩ : Shape).Squeezes ⟨2, ![k, 1024]⟩) (x : (⟨2, ![k, 1024]⟩ : Shape).Idx) :
    ((wgbM.slice (Rect.unit (s := S3x1024x1024) ![h, o, 0] ![1, k, 1024] inb) hst).squeeze ⟨2, ![k, 1024]⟩ hq).view.read (Elt F) (WGB I c) x = w8 I (dv c (1 + h)) (o + (x 0).val) (1024 + (x 1).val) := by
  obtain ⟨d0, d1, d2⟩ := sq_emb inb hq.numel_eq x
  show WGB I c ((Rect.unit (s := S3x1024x1024) ![h, o, 0] ![1, k, 1024] inb).emb (Shape.reshapeEquiv _ x)) = _
  unfold WGB
  exact congr (congr (congrArg _ (by rw [d0])) (d1)) (congrArg (1024 + ·) d2)

theorem read_xla {o k : ℕ} (inb : ∀ a, (![o, 0] : Fin 2 → ℕ) a + (![k, 1024] : Fin 2 → ℕ) a ≤ S2048x1024.size a) (hst) (x : (⟨2, ![k, 1024]⟩ : Shape).Idx) :
    (xlaM.slice (Rect.unit (s := S2048x1024) ![o, 0] ![k, 1024] inb) hst).view.read (Elt F) (XLA I c) x = x8 I c (o + (x 0).val) (x 1).val := by
  obtain ⟨e0, e1⟩ := unit2_emb inb x
  show XLA I c ((Rect.unit (s := S2048x1024) ![o, 0] ![k, 1024] inb).emb x) = _
  unfold XLA
  exact congr (congrArg _ (e0)) (e1.trans (Nat.zero_add _))

theorem read_xlb {o k : ℕ} (inb : ∀ a, (![o, 0] : Fin 2 → ℕ) a + (![k, 1024] : Fin 2 → ℕ) a ≤ S2048x1024.size a) (hst) (x : (⟨2, ![k, 1024]⟩ : Shape).Idx) :
    (xlbM.slice (Rect.unit (s := S2048x1024) ![o, 0] ![k, 1024] inb) hst).view.read (Elt F) (XLB I c) x = x8 I c (2048 + (o + (x 0).val)) (x 1).val := by
  obtain ⟨e0, e1⟩ := unit2_emb inb x
  show XLB I c ((Rect.unit (s := S2048x1024) ![o, 0] ![k, 1024] inb).emb x) = _
  unfold XLB
  exact congr (congrArg _ (congrArg (2048 + ·) e0)) (e1.trans (Nat.zero_add _))

/-- A first transfer: the half of `x`, to slot 0 of the neighbour. -/
theorem same_xa₀ (hn : n = dv c 1) {o k : ℕ} {inb : ∀ a, (![o, 0] : Fin 2 → ℕ) a + (![k, 1024] : Fin 2 → ℕ) a ≤ S2048x1024.size a} {hst}
    {inb' : ∀ a, (![0, o, 0] : Fin 3 → ℕ) a + (![1, k, 1024] : Fin 3 → ℕ) a ≤ S3x2048x1024.size a} {hst'} {hq : (⟨3, ![1, k, 1024]⟩ : Shape).Squeezes ⟨2, ![k, 1024]⟩}
    (x : (⟨2, ![k, 1024]⟩ : Shape).Idx) :
    (xlaM.slice (Rect.unit (s := S2048x1024) ![o, 0] ![k, 1024] inb) hst).view.read (Elt F) (XLA I c) x
      = ((xgaM.slice (Rect.unit (s := S3x2048x1024) ![0, o, 0] ![1, k, 1024] inb') hst').squeeze ⟨2, ![k, 1024]⟩ hq).view.read (Elt F) (XGA I n) x := by
  subst hn
  rw [read_xla, read_xga, dv_dv, show dv c (1 + (3 - 0)) = c from dv_four c]

/-- A first transfer: the half of `x`, to slot 0 of the neighbour. -/
theorem same_xb₀ (hn : n = dv c 3) {o k : ℕ} {inb : ∀ a, (![o, 0] : Fin 2 → ℕ) a + (![k, 1024] : Fin 2 → ℕ) a ≤ S2048x1024.size a} {hst}
    {inb' : ∀ a, (![0, o, 0] : Fin 3 → ℕ) a + (![1, k, 1024] : Fin 3 → ℕ) a ≤ S3x2048x1024.size a} {hst'} {hq : (⟨3, ![1, k, 1024]⟩ : Shape).Squeezes ⟨2, ![k, 1024]⟩}
    (x : (⟨2, ![k, 1024]⟩ : Shape).Idx) :
    (xlbM.slice (Rect.unit (s := S2048x1024) ![o, 0] ![k, 1024] inb) hst).view.read (Elt F) (XLB I c) x
      = ((xgbM.slice (Rect.unit (s := S3x2048x1024) ![0, o, 0] ![1, k, 1024] inb') hst').squeeze ⟨2, ![k, 1024]⟩ hq).view.read (Elt F) (XGB I n) x := by
  subst hn
  rw [read_xlb, read_xgb, dv_dv, show dv c (3 + (1 + 0)) = c from dv_four c]

theorem same_wa₀ (hn : n = dv c 1)
    {inb' : ∀ a, (![0, 0, 0] : Fin 3 → ℕ) a + (![1, 1024, 1024] : Fin 3 → ℕ) a ≤ S3x1024x1024.size a} {hst'} {hq : (⟨3, ![1, 1024, 1024]⟩ : Shape).Squeezes ⟨2, ![1024, 1024]⟩}
    (x : (⟨2, ![1024, 1024]⟩ : Shape).Idx) :
    wlaM.view.read (Elt F) (WLA I c) x
      = ((wgaM.slice (Rect.unit (s := S3x1024x1024) ![0, 0, 0] ![1, 1024, 1024] inb') hst').squeeze ⟨2, ![1024, 1024]⟩ hq).view.read (Elt F) (WGA I n) x := by
  subst hn
  rw [read_wga, dv_dv, show dv c (1 + (3 - 0)) = c from dv_four c, Nat.zero_add]
  rfl

theorem same_wb₀ (hn : n = dv c 3)
    {inb' : ∀ a, (![0, 0, 0] : Fin 3 → ℕ) a + (![1, 1024, 1024] : Fin 3 → ℕ) a ≤ S3x1024x1024.size a} {hst'} {hq : (⟨3, ![1, 1024, 1024]⟩ : Shape).Squeezes ⟨2, ![1024, 1024]⟩}
    (x : (⟨2, ![1024, 1024]⟩ : Shape).Idx) :
    wlbM.view.read (Elt F) (WLB I c) x
      = ((wgbM.slice (Rect.unit (s := S3x1024x1024) ![0, 0, 0] ![1, 1024, 1024] inb') hst').squeeze ⟨2, ![1024, 1024]⟩ hq).view.read (Elt F) (WGB I n) x := by
  subst hn
  rw [read_wgb, dv_dv, show dv c (3 + (1 + 0)) = c from dv_four c, Nat.zero_add]
  rfl

theorem same_xga (hn : n = dv c 1) {h h' o k : ℕ} (hh : h' = h + 1 ∧ h < 3) {inb : ∀ a, (![h, o, 0] : Fin 3 → ℕ) a + (![1, k, 1024] : Fin 3 → ℕ) a ≤ S3x2048x1024.size a} {hst}
    {inb' : ∀ a, (![h', o, 0] : Fin 3 → ℕ) a + (![1, k, 1024] : Fin 3 → ℕ) a ≤ S3x2048x1024.size a} {hst'} {hq hq' : (⟨3, ![1, k, 1024]⟩ : Shape).Squeezes ⟨2, ![k, 1024]⟩}
    (x : (⟨2, ![k, 1024]⟩ : Shape).Idx) :
    ((xgaM.slice (Rect.unit (s := S3x2048x1024) ![h, o, 0] ![1, k, 1024] inb) hst).squeeze ⟨2, ![k, 1024]⟩ hq).view.read (Elt F) (XGA I c) x
      = ((xgaM.slice (Rect.unit (s := S3x2048x1024) ![h', o, 0] ![1, k, 1024] inb') hst').squeeze ⟨2, ![k, 1024]⟩ hq').view.read (Elt F) (XGA I n) x := by
  subst hn
  obtain ⟨rfl, h3⟩ := hh
  rw [read_xga, read_xga, dv_dv, dv_congr c (show (3 - h) % 4 = (1 + (3 - (h + 1))) % 4 by omega)]

theorem same_xgb (hn : n = dv c 3) {h h' o k : ℕ} (hh : h' = h + 1 ∧ h < 3) {inb : ∀ a, (![h, o, 0] : Fin 3 → ℕ) a + (![1, k, 1024] : Fin 3 → ℕ) a ≤ S3x2048x1024.size a} {hst}
    {inb' : ∀ a, (![h', o, 0] : Fin 3 → ℕ) a + (![1, k, 1024] : Fin 3 → ℕ) a ≤ S3x2048x1024.size a} {hst'} {hq hq' : (⟨3, ![1, k, 1024]⟩ : Shape).Squeezes ⟨2, ![k, 1024]⟩}
    (x : (⟨2, ![k, 1024]⟩ : Shape).Idx) :
    ((xgbM.slice (Rect.unit (s := S3x2048x1024) ![h, o, 0] ![1, k, 1024] inb) hst).squeeze ⟨2, ![k, 1024]⟩ hq).view.read (Elt F) (XGB I c) x
      = ((xgbM.slice (Rect.unit (s := S3x2048x1024) ![h', o, 0] ![1, k, 1024] inb') hst').squeeze ⟨2, ![k, 1024]⟩ hq').view.read (Elt F) (XGB I n) x := by
  subst hn
  obtain ⟨rfl, h3⟩ := hh
  rw [read_xgb, read_xgb, dv_dv, dv_congr c (show (1 + h) % 4 = (3 + (1 + (h + 1))) % 4 by omega)]

theorem same_wga (hn : n = dv c 1) {h h' o k : ℕ} (hh : h' = h + 1 ∧ h < 3) {inb : ∀ a, (![h, o, 0] : Fin 3 → ℕ) a + (![1, k, 1024] : Fin 3 → ℕ) a ≤ S3x1024x1024.size a} {hst}
    {inb' : ∀ a, (![h', o, 0] : Fin 3 → ℕ) a + (![1, k, 1024] : Fin 3 → ℕ) a ≤ S3x1024x1024.size a} {hst'} {hq hq' : (⟨3, ![1, k, 1024]⟩ : Shape).Squeezes ⟨2, ![k, 1024]⟩}
    (x : (⟨2, ![k, 1024]⟩ : Shape).Idx) :
    ((wgaM.slice (Rect.unit (s := S3x1024x1024) ![h, o, 0] ![1, k, 1024] inb) hst).squeeze ⟨2, ![k, 1024]⟩ hq).view.read (Elt F) (WGA I c) x
      = ((wgaM.slice (Rect.unit (s := S3x1024x1024) ![h', o, 0] ![1, k, 1024] inb') hst').squeeze ⟨2, ![k, 1024]⟩ hq').view.read (Elt F) (WGA I n) x := by
  subst hn
  obtain ⟨rfl, h3⟩ := hh
  rw [read_wga, read_wga, dv_dv, dv_congr c (show (3 - h) % 4 = (1 + (3 - (h + 1))) % 4 by omega)]

theorem same_wgb (hn : n = dv c 3) {h h' o k : ℕ} (hh : h' = h + 1 ∧ h < 3) {inb : ∀ a, (![h, o, 0] : Fin 3 → ℕ) a + (![1, k, 1024] : Fin 3 → ℕ) a ≤ S3x1024x1024.size a} {hst}
    {inb' : ∀ a, (![h', o, 0] : Fin 3 → ℕ) a + (![1, k, 1024] : Fin 3 → ℕ) a ≤ S3x1024x1024.size a} {hst'} {hq hq' : (⟨3, ![1, k, 1024]⟩ : Shape).Squeezes ⟨2, ![k, 1024]⟩}
    (x : (⟨2, ![k, 1024]⟩ : Shape).Idx) :
    ((wgbM.slice (Rect.unit (s := S3x1024x1024) ![h, o, 0] ![1, k, 1024] inb) hst).squeeze ⟨2, ![k, 1024]⟩ hq).view.read (Elt F) (WGB I c) x
      = ((wgbM.slice (Rect.unit (s := S3x1024x1024) ![h', o, 0] ![1, k, 1024] inb') hst').squeeze ⟨2, ![k, 1024]⟩ hq').view.read (Elt F) (WGB I n) x := by
  subst hn
  obtain ⟨rfl, h3⟩ := hh
  rw [read_wgb, read_wgb, dv_dv, dv_congr c (show (1 + h) % 4 = (3 + (1 + (h + 1))) % 4 by omega)]

end Reads

end Cert.KernelIdeal.Work
-- ==== Proof.KernelIdeal.Stage.lean ====
/-
Staging: the steps that bring the inputs in through the staging slots, and those that write the finished rows out.
-/
module

public import proofs.«01_k».proof.Proof.KernelIdeal.Moves

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

section Stage
variable (c : Dev nD)

/-- Load known contents through one view; load the place they are kept in without using it; store them there. -/
theorem wp_keep {α : Type} {Q : α → sProp 𝕄} {s s' : Shape} {e e' : EltTy} {m : Memref sig .tc .vmem s e} {r : Rect s} {V : r.shape.Idx → Elt F e} {P : sProp 𝕄} (hL : Ld c P m r V)
    {m' : Memref sig .tc .vmem s' e'} {r' : Rect s'} (B : Buf (Elt F) ((m'.access r').loc (c : Thread nD τ)) → sProp 𝕄) (g : Buf (Elt F) ((m'.access r').loc (c : Thread nD τ)))
    (hB : ∀ f, B f = ((m'.access r').loc (c : Thread nD τ) ↦[(m'.access r').set]{fullShare} f))
    {pay : (r.shape.Idx → Elt F e) → r'.shape.Idx → Elt F e'} (hv : ∀ x, pay V x = (m'.access r').read (Elt F) g x)
    {h1 : m.view.LoadsAt r} {h2 : m'.view.LoadsAt r'} {h3 : (m'.access r').Stores Finset.univ} {h4 : Finset.univ = Finset.univ ∨ ∀ a, r'.stride a = 1}
    {k : PUnit → Prog (TpuEff nD τ sig (Elt F) Λ₀ .tc) α} :
    iprop(P ∗ ∃ f, B f) ⊢ iprop((iprop(P ∗ B g) -∗ wpC c (k ⟨⟩) Q)
      -∗ wpC c (.op (.load m r h1) fun v => .op (.load m' r' h2) fun _ => .op (.store m' r' (pay v) Finset.univ h3 h4) k) Q) := by
  iintro ⟨HP, ⟨%f, HB⟩⟩ Hk
  iapply (hL h1 α Q _) $$ HP
  iintro HP
  ihave HB := (Entails.of_eq (hB f)) $$ HB
  iapply (wp_load 𝒱₀ (c : Thread nD τ) none Set.univ (m := m') (S := (m'.access r').set)
    (show _ ⊆ (m'.view.slice r').set by rw [View.set_slice]; exact Finset.Subset.refl _)) $$ HB
  iintro HB
  iapply (wp_st c B g hB hv) $$ [HB]
  · iexists f; rw [hB]; iexact HB
  iintro HB
  iapply Hk
  isplitl [HP] <;> iassumption

/-! ## The inputs -/

/-- A row strip of `x` as it is loaded from a staging slot. -/
def xs (r : ℕ) : S1x512x1024.Idx → F .f32 := fun i => I.x c (xi (512 * r + (i 1).val) (i 2).val)
theorem xs_cast (r : ℕ) : shapeCast S512x1024 (truncf .fp8e5m2 (shapeCast S512x1024 (xs I c r) shapeCasts_S1x512x1024_S512x1024 : FVec F S512x1024 .f32) bitsLt_fp8e5m2_f32)
    shapeCasts_S512x1024_S512x1024 = xblk I c r := by
  rw [shapeCast_self]
  refine (congrArg (fun v : FVec F S512x1024 .f32 => truncf .fp8e5m2 v bitsLt_fp8e5m2_f32) (?_ : _ = fun i : S512x1024.Idx => I.x c (xi (512 * r + (i 0).val) (i 1).val))).trans rfl
  funext i
  exact (congrArg _ (eq_ix2 i)).trans ((shapeCast_1ab_ab_apply (xs I c r) shapeCasts_S1x512x1024_S512x1024 (i 0) (i 1)).trans rfl)

abbrev xhB (r : ℕ) : sProp 𝕄 := xhP c (rows (512 * r) (512 * r + 512)) fullShare (I.x c)
/-- A staging slot with any contents; holding row strip `r`. -/
def XS (s : ℕ) : sProp 𝕄 := iprop(∃ f, xstgP (F := F) c (slab s 0 (0 + 512)) fullShare f)
def XSr (r s : ℕ) : sProp 𝕄 := xstgP c (slab s 0 (0 + 512)) fullShare (XST I c r)
theorem XSr_forget (r s : ℕ) : XSr I c r s ⊢ XS (F := F) c s := by
  unfold XSr XS; iintro H; iexists (XST I c r); iexact H

theorem xi_eq (i : S4096x1024.Idx) (r n : ℕ) (h0 : (i 0).val = r) (h1 : (i 1).val = n) : i = xi r n := by
  have l0 : (i 0).val < 4096 := (i 0).isLt
  have l1 : (i 1).val < 1024 := (i 1).isLt
  refine (eq_ix2 i).trans (congr (congrArg _ (Fin.ext ?_)) (Fin.ext ?_))
  · show (i 0).val = r % 4096; omega
  · show (i 1).val = n % 1024; omega

theorem same_x (r s : ℕ) (hr : r < 8) {o : ℕ} (ho : o = 512 * r)
    {inb : ∀ a, (![o, 0] : Fin 2 → ℕ) a + (![512, 1024] : Fin 2 → ℕ) a ≤ S4096x1024.size a} {hst}
    {inb' : ∀ a, (![s, 0, 0] : Fin 3 → ℕ) a + (![1, 512, 1024] : Fin 3 → ℕ) a ≤ S2x512x1024.size a} {hst'} {hq : (⟨3, ![1, 512, 1024]⟩ : Shape).Squeezes ⟨2, ![512, 1024]⟩}
    (x : (⟨2, ![512, 1024]⟩ : Shape).Idx) :
    (xhM.slice (Rect.unit (s := S4096x1024) ![o, 0] ![512, 1024] inb) hst).view.read (Elt F) (I.x c) x
      = ((xstgM.slice (Rect.unit (s := S2x512x1024) ![s, 0, 0] ![1, 512, 1024] inb') hst').squeeze ⟨2, ![512, 1024]⟩ hq).view.read (Elt F) (XST I c r) x := by
  obtain ⟨e0, e1⟩ := unit2_emb inb x
  obtain ⟨d0, d1, d2⟩ := sq_emb inb' hq.numel_eq x
  show I.x c ((Rect.unit (s := S4096x1024) ![o, 0] ![512, 1024] inb).emb x) = XST I c r ((Rect.unit (s := S2x512x1024) ![s, 0, 0] ![1, 512, 1024] inb').emb (Shape.reshapeEquiv _ x))
  unfold XST
  exact congrArg (I.x c) (xi_eq _ _ _ (e0.trans (by rw [d1]; omega)) (e1.trans (by rw [d2]; omega)))

theorem ld_xs (r s : ℕ) (inb' : ∀ a, (![s, 0, 0] : Fin 3 → ℕ) a + (![1, 512, 1024] : Fin 3 → ℕ) a ≤ S2x512x1024.size a) :
    Ld c (XSr I c r s) xstgM (Rect.unit (s := S2x512x1024) ![s, 0, 0] ![1, 512, 1024] inb') (xs I c r) := by
  refine ld_of c _ (slab s 0 (0 + 512)) fullShare (XST I c r) rfl (fun x => ?_) fun x => ?_
  · obtain ⟨d0, d1, d2⟩ := unit3_emb inb' x
    have l1 : (x 1).val < 512 := (x 1).isLt
    exact mem_slab.mpr ⟨d0, Nat.zero_le _, lt_of_eq_of_lt d1 (by omega)⟩
  · obtain ⟨d0, d1, d2⟩ := unit3_emb inb' x
    show XST I c r ((Rect.unit (s := S2x512x1024) ![s, 0, 0] ![1, 512, 1024] inb').emb x) = xs I c r x
    unfold XST xs
    exact congrArg (I.x c) (congr (congrArg xi (congrArg (512 * r + ·) (d1.trans (Nat.zero_add _)))) d2)

theorem keep_xla (r : ℕ) {o : ℕ} (ho : o = 512 * r) (inb : ∀ a, (![o, 0] : Fin 2 → ℕ) a + (![512, 1024] : Fin 2 → ℕ) a ≤ S2048x1024.size a) (x : S512x1024.Idx) :
    xblk I c r x = (xlaM.access (Rect.unit (s := S2048x1024) ![o, 0] ![512, 1024] inb)).read (Elt F) (XLA I c) x := by
  subst ho; exact (read_xla I c inb (fun _ => rfl) x).symm
theorem keep_xlb (r : ℕ) {o : ℕ} (ho : 2048 + o = 512 * r) (inb : ∀ a, (![o, 0] : Fin 2 → ℕ) a + (![512, 1024] : Fin 2 → ℕ) a ≤ S2048x1024.size a) (x : S512x1024.Idx) :
    xblk I c r x = (xlbM.access (Rect.unit (s := S2048x1024) ![o, 0] ![512, 1024] inb)).read (Elt F) (XLB I c) x :=
  Eq.symm ((read_xlb I c inb (fun _ => rfl) x).trans (congrArg (fun n => x8 I c n (x 1).val) (by omega)))

/-- A row strip of `x` arrives in the upper half's buffer: wait for it, narrow it, keep it. -/
theorem wp_xin_a {α : Type} {Q : α → sProp 𝕄} (l : List (Fin 16)) (r s o : ℕ) {d : DmaSem sig} (hd : ∀ b : Bool × Fin 16, (if b.1 then recvSem b.2 else sendSem b.2) ≠ d)
    (ho : o = 512 * r) {pay : (S1x512x1024.Idx → F .f32) → S512x1024.Idx → F .fp8e5m2} (hpay : pay (xs I c r) = xblk I c r)
    {sp sp' : Space} {t t' : Shape} {e e' : EltTy} {src : Memref sig .tc sp t e} {dst : Memref sig .tc sp' t' e'} {h1 : src.view.WordExact} {h2 : dst.view.WordExact}
    {inb' : ∀ a, (![s, 0, 0] : Fin 3 → ℕ) a + (![1, 512, 1024] : Fin 3 → ℕ) a ≤ S2x512x1024.size a}
    {inb : ∀ a, (![o, 0] : Fin 2 → ℕ) a + (![512, 1024] : Fin 2 → ℕ) a ≤ S2048x1024.size a}
    {h3 : xstgM.view.LoadsAt (Rect.unit (s := S2x512x1024) ![s, 0, 0] ![1, 512, 1024] inb')} {h4 : xlaM.view.LoadsAt (Rect.unit (s := S2048x1024) ![o, 0] ![512, 1024] inb)}
    {h5 : (xlaM.access (Rect.unit (s := S2048x1024) ![o, 0] ![512, 1024] inb)).Stores Finset.univ} {h6} {k : PUnit → Prog (TpuEff nD τ sig (Elt F) Λ₀ .tc) α} :
    iprop(Invs I K ∗ Flight EC (c : Thread nD τ) (.dma d) () dst.view.dmaCredit iprop(XSr I c r s ∗ xhB I c r) ∗ Todo (F := F) c l ∗ (∃ f, xlaP c (rows o (o + 512)) fullShare f))
      ⊢ iprop((iprop(xhB I c r ∗ XS (F := F) c s ∗ semVal ((c : Thread nD τ), .dma d) 0 ∗ Todo (F := F) c l
              ∗ xlaP c (rows o (o + 512)) fullShare (XLA I c)) -∗ wpC c (k ⟨⟩) Q)
          -∗ wpC c (.op (.waitDma2 d src dst h1 h2) fun _ => .op (.load xstgM (Rect.unit (s := S2x512x1024) ![s, 0, 0] ![1, 512, 1024] inb') h3) fun v =>
            .op (.load xlaM (Rect.unit (s := S2048x1024) ![o, 0] ![512, 1024] inb) h4) fun _ =>
            .op (.store xlaM (Rect.unit (s := S2048x1024) ![o, 0] ![512, 1024] inb) (pay v) Finset.univ h5 h6) k) Q) := by
  iintro ⟨#HI, HF, HT, HB⟩ Hk
  iapply (wp_wait_copy I K c l hd iprop(XSr I c r s ∗ xhB I c r)) $$ [HF HT]
  · isplitr; · iexact HI
    isplitl [HF] <;> iassumption
  iintro ⟨⟨HS, HX⟩, Hz, HT⟩
  iapply (wp_keep c (ld_xs I c r s inb') (m' := xlaM) (r' := Rect.unit (s := S2048x1024) ![o, 0] ![512, 1024] inb) (fun f => xlaP c (rows o (o + 512)) fullShare f) (XLA I c) (fun f => pts_xla c fullShare inb (fun _ => rfl) f)
    (fun x => (congrFun hpay x).trans (keep_xla I c r ho inb x))) $$ [HS HB]
  · isplitl [HS] <;> iassumption
  iintro ⟨HS, HB⟩
  iapply Hk
  isplitl [HX]; · iexact HX
  isplitl [HS]; · iapply (XSr_forget I c r s); iexact HS
  isplitl [Hz]; · iexact Hz
  isplitl [HT] <;> iassumption
/-- A row strip of `x` arrives in the lower half's buffer: wait for it, narrow it, keep it. -/
theorem wp_xin_b {α : Type} {Q : α → sProp 𝕄} (l : List (Fin 16)) (r s o : ℕ) {d : DmaSem sig} (hd : ∀ b : Bool × Fin 16, (if b.1 then recvSem b.2 else sendSem b.2) ≠ d)
    (ho : 2048 + o = 512 * r) {pay : (S1x512x1024.Idx → F .f32) → S512x1024.Idx → F .fp8e5m2} (hpay : pay (xs I c r) = xblk I c r)
    {sp sp' : Space} {t t' : Shape} {e e' : EltTy} {src : Memref sig .tc sp t e} {dst : Memref sig .tc sp' t' e'} {h1 : src.view.WordExact} {h2 : dst.view.WordExact}
    {inb' : ∀ a, (![s, 0, 0] : Fin 3 → ℕ) a + (![1, 512, 1024] : Fin 3 → ℕ) a ≤ S2x512x1024.size a}
    {inb : ∀ a, (![o, 0] : Fin 2 → ℕ) a + (![512, 1024] : Fin 2 → ℕ) a ≤ S2048x1024.size a}
    {h3 : xstgM.view.LoadsAt (Rect.unit (s := S2x512x1024) ![s, 0, 0] ![1, 512, 1024] inb')} {h4 : xlbM.view.LoadsAt (Rect.unit (s := S2048x1024) ![o, 0] ![512, 1024] inb)}
    {h5 : (xlbM.access (Rect.unit (s := S2048x1024) ![o, 0] ![512, 1024] inb)).Stores Finset.univ} {h6} {k : PUnit → Prog (TpuEff nD τ sig (Elt F) Λ₀ .tc) α} :
    iprop(Invs I K ∗ Flight EC (c : Thread nD τ) (.dma d) () dst.view.dmaCredit iprop(XSr I c r s ∗ xhB I c r) ∗ Todo (F := F) c l ∗ (∃ f, xlbP c (rows o (o + 512)) fullShare f))
      ⊢ iprop((iprop(xhB I c r ∗ XS (F := F) c s ∗ semVal ((c : Thread nD τ), .dma d) 0 ∗ Todo (F := F) c l
              ∗ xlbP c (rows o (o + 512)) fullShare (XLB I c)) -∗ wpC c (k ⟨⟩) Q)
          -∗ wpC c (.op (.waitDma2 d src dst h1 h2) fun _ => .op (.load xstgM (Rect.unit (s := S2x512x1024) ![s, 0, 0] ![1, 512, 1024] inb') h3) fun v =>
            .op (.load xlbM (Rect.unit (s := S2048x1024) ![o, 0] ![512, 1024] inb) h4) fun _ =>
            .op (.store xlbM (Rect.unit (s := S2048x1024) ![o, 0] ![512, 1024] inb) (pay v) Finset.univ h5 h6) k) Q) := by
  iintro ⟨#HI, HF, HT, HB⟩ Hk
  iapply (wp_wait_copy I K c l hd iprop(XSr I c r s ∗ xhB I c r)) $$ [HF HT]
  · isplitr; · iexact HI
    isplitl [HF] <;> iassumption
  iintro ⟨⟨HS, HX⟩, Hz, HT⟩
  iapply (wp_keep c (ld_xs I c r s inb') (m' := xlbM) (r' := Rect.unit (s := S2048x1024) ![o, 0] ![512, 1024] inb) (fun f => xlbP c (rows o (o + 512)) fullShare f) (XLB I c) (fun f => pts_xlb c fullShare inb (fun _ => rfl) f)
    (fun x => (congrFun hpay x).trans (keep_xlb I c r ho inb x))) $$ [HS HB]
  · isplitl [HS] <;> iassumption
  iintro ⟨HS, HB⟩
  iapply Hk
  isplitl [HX]; · iexact HX
  isplitl [HS]; · iapply (XSr_forget I c r s); iexact HS
  isplitl [Hz]; · iexact Hz
  isplitl [HT] <;> iassumption

/-- Copy row strip `r` of `x` into slot `s`. -/
theorem wp_xcopy {α : Type} {Q : α → sProp 𝕄} (r s o : ℕ) (d : DmaSem sig) (hr : r < 8) (ho : o = 512 * r)
    {inb : ∀ a, (![o, 0] : Fin 2 → ℕ) a + (![512, 1024] : Fin 2 → ℕ) a ≤ S4096x1024.size a} {hst}
    {inb' : ∀ a, (![s, 0, 0] : Fin 3 → ℕ) a + (![1, 512, 1024] : Fin 3 → ℕ) a ≤ S2x512x1024.size a} {hst'} {hq : (⟨3, ![1, 512, 1024]⟩ : Shape).Squeezes ⟨2, ![512, 1024]⟩}
    {src : Memref sig .tc .hbm S512x1024 .f32} (hsrc : src = xhM.slice (Rect.unit (s := S4096x1024) ![o, 0] ![512, 1024] inb) hst)
    {dst : Memref sig .tc .vmem S512x1024 .f32} (hdst : dst = (xstgM.slice (Rect.unit (s := S2x512x1024) ![s, 0, 0] ![1, 512, 1024] inb') hst').squeeze ⟨2, ![512, 1024]⟩ hq)
    {h1 : src.view.WordExact} {h2 : dst.view.WordExact} {h3 : DmaTarget.Typed (nD := nD) (p := (Proc.tc : Proc τ)) .hbm (.dma d) (.here dst)}
    {k : PUnit → Prog (TpuEff nD τ sig (Elt F) Λ₀ .tc) α} :
    iprop(xhB I c r ∗ XS (F := F) c s ∗ semVal ((c : Thread nD τ), .dma d) 0)
      ⊢ iprop((Flight EC (c : Thread nD τ) (.dma d) () dst.view.dmaCredit iprop(XSr I c r s ∗ xhB I c r) -∗ wpC c (k ⟨⟩) Q)
          -∗ wpC c (.op (.enqueueDma src (.here dst) (.dma d) h1 h2 h3) k) Q) := by
  subst hsrc hdst ho
  exact wp_copy c (src := xhM.slice (Rect.unit (s := S4096x1024) ![512 * r, 0] ![512, 1024] inb) hst)
    (dst := (xstgM.slice (Rect.unit (s := S2x512x1024) ![s, 0, 0] ![1, 512, 1024] inb') hst').squeeze ⟨2, ![512, 1024]⟩ hq) fullShare (I.x c) (XST I c r) (xhB I c r) (fun f => xstgP c (slab s 0 (0 + 512)) fullShare f) (pts_xh c fullShare inb hst _) (fun f => pts_xstg c fullShare inb' hst' hq f)
    (same_x I c r s hr rfl) (show 0 < S512x1024.numel by decide) iprop(XSr I c r s ∗ xhB I c r) .rfl

/-! The two column halves of `w`. -/

theorem wi_eq (i : S1024x2048.Idx) (r n : ℕ) (h0 : (i 0).val = r) (h1 : (i 1).val = n) : i = wi r n := by
  have l0 : (i 0).val < 1024 := (i 0).isLt
  have l1 : (i 1).val < 2048 := (i 1).isLt
  refine (eq_ix2 i).trans (congr (congrArg _ (Fin.ext ?_)) (Fin.ext ?_))
  · show (i 0).val = r % 1024; omega
  · show (i 1).val = n % 2048; omega

/-- A column half as it is loaded from the staging buffer. -/
def ws (p : ℕ) : S1024x1024.Idx → F .f32 := fun i => I.w c (wi (i 0).val (p + (i 1).val))
theorem ld_ws (p : ℕ) (inb : ∀ a, (![0, p] : Fin 2 → ℕ) a + (![1024, 1024] : Fin 2 → ℕ) a ≤ S1024x2048.size a) :
    Ld c (wstgP c Finset.univ fullShare (I.w c)) wstgM (Rect.unit (s := S1024x2048) ![0, p] ![1024, 1024] inb) (ws I c p) := by
  refine ld_of c _ Finset.univ fullShare (I.w c) rfl (fun x => Finset.mem_univ _) fun x => ?_
  obtain ⟨e0, e1⟩ := unit2_emb inb x
  exact congrArg (I.w c) (wi_eq _ _ _ (e0.trans (Nat.zero_add _)) e1)

theorem pts_wla' (f : S1024x1024.Idx → F .fp8e5m2) (inb : ∀ a, (![0, 0] : Fin 2 → ℕ) a + (![1024, 1024] : Fin 2 → ℕ) a ≤ S1024x1024.size a) :
    wlaP c Finset.univ fullShare f = ((wlaM.access (Rect.unit (s := S1024x1024) ![0, 0] ![1024, 1024] inb)).loc (c : Thread nD τ)
      ↦[(wlaM.access (Rect.unit (s := S1024x1024) ![0, 0] ![1024, 1024] inb)).set]{fullShare} f) :=
  congrArg (fun S => ((c : Thread nD τ).loc cc0_scratch2 ↦[S]{fullShare} f : sProp 𝕄)) ((View.set_slice_whole _ _).trans ((rect_rows inb).trans rows_univ)).symm
theorem pts_wlb' (f : S1024x1024.Idx → F .fp8e5m2) (inb : ∀ a, (![0, 0] : Fin 2 → ℕ) a + (![1024, 1024] : Fin 2 → ℕ) a ≤ S1024x1024.size a) :
    wlbP c Finset.univ fullShare f = ((wlbM.access (Rect.unit (s := S1024x1024) ![0, 0] ![1024, 1024] inb)).loc (c : Thread nD τ)
      ↦[(wlbM.access (Rect.unit (s := S1024x1024) ![0, 0] ![1024, 1024] inb)).set]{fullShare} f) :=
  congrArg (fun S => ((c : Thread nD τ).loc cc0_scratch3 ↦[S]{fullShare} f : sProp 𝕄)) ((View.set_slice_whole _ _).trans ((rect_rows inb).trans rows_univ)).symm
theorem keep_wla (inb : ∀ a, (![0, 0] : Fin 2 → ℕ) a + (![1024, 1024] : Fin 2 → ℕ) a ≤ S1024x1024.size a) (x : S1024x1024.Idx) :
    k0_pay5 (ws I c 0) x = (wlaM.access (Rect.unit (s := S1024x1024) ![0, 0] ![1024, 1024] inb)).read (Elt F) (WLA I c) x := by
  obtain ⟨e0, e1⟩ := unit2_emb inb x
  unfold k0_pay5
  refine (congrFun (shapeCast_self _ _) x).trans ?_
  show w8 I c (x 0).val (0 + (x 1).val) = WLA I c ((Rect.unit (s := S1024x1024) ![0, 0] ![1024, 1024] inb).emb x)
  unfold WLA
  rw [e0, e1, Nat.zero_add, Nat.zero_add]
theorem keep_wlb (inb : ∀ a, (![0, 0] : Fin 2 → ℕ) a + (![1024, 1024] : Fin 2 → ℕ) a ≤ S1024x1024.size a) (x : S1024x1024.Idx) :
    k0_pay6 (ws I c 1024) x = (wlbM.access (Rect.unit (s := S1024x1024) ![0, 0] ![1024, 1024] inb)).read (Elt F) (WLB I c) x := by
  obtain ⟨e0, e1⟩ := unit2_emb inb x
  unfold k0_pay6
  refine (congrFun (shapeCast_self _ _) x).trans ?_
  show w8 I c (x 0).val (1024 + (x 1).val) = WLB I c ((Rect.unit (s := S1024x1024) ![0, 0] ![1024, 1024] inb).emb x)
  unfold WLB
  rw [e0, e1, Nat.zero_add, Nat.zero_add]

/-- What the copy of `w` into its staging buffer leaves. -/
def WD : sProp 𝕄 := iprop(wstgP c Finset.univ fullShare (I.w c) ∗ whP c Finset.univ fullShare (I.w c))

theorem wp_wcopy {α : Type} {Q : α → sProp 𝕄} (d : DmaSem sig)
    {h1 : whM.view.WordExact} {h2 : wstgM.view.WordExact} {h3 : DmaTarget.Typed (nD := nD) (p := (Proc.tc : Proc τ)) .hbm (.dma d) (.here wstgM)}
    {k : PUnit → Prog (TpuEff nD τ sig (Elt F) Λ₀ .tc) α} :
    iprop(whP c Finset.univ fullShare (I.w c) ∗ (∃ f, wstgP (F := F) c Finset.univ fullShare f) ∗ semVal ((c : Thread nD τ), .dma d) 0)
      ⊢ iprop((Flight EC (c : Thread nD τ) (.dma d) () wstgM.view.dmaCredit (WD I c) -∗ wpC c (k ⟨⟩) Q)
          -∗ wpC c (.op (.enqueueDma whM (.here wstgM) (.dma d) h1 h2 h3) k) Q) :=
  wp_copy c (src := whM) (dst := wstgM) fullShare (I.w c) (I.w c) (whP c Finset.univ fullShare (I.w c)) (fun f => wstgP c Finset.univ fullShare f) (pts_wh c fullShare _) (fun f => pts_wstg c fullShare f)
    (fun x => rfl) (show 0 < S1024x2048.numel by decide) (WD I c) .rfl

theorem wp_win {α : Type} {Q : α → sProp 𝕄} (l : List (Fin 16)) {d : DmaSem sig} (hd : ∀ b : Bool × Fin 16, (if b.1 then recvSem b.2 else sendSem b.2) ≠ d)
    {sp sp' : Space} {t t' : Shape} {e e' : EltTy} {src : Memref sig .tc sp t e} {dst : Memref sig .tc sp' t' e'} {h1 : src.view.WordExact} {h2 : dst.view.WordExact}
    {inb : ∀ a, (![0, 0] : Fin 2 → ℕ) a + (![1024, 1024] : Fin 2 → ℕ) a ≤ S1024x2048.size a} {inb' : ∀ a, (![0, 1024] : Fin 2 → ℕ) a + (![1024, 1024] : Fin 2 → ℕ) a ≤ S1024x2048.size a}
    {inb2 inb3 : ∀ a, (![0, 0] : Fin 2 → ℕ) a + (![1024, 1024] : Fin 2 → ℕ) a ≤ S1024x1024.size a}
    {h3 : wstgM.view.LoadsAt (Rect.unit (s := S1024x2048) ![0, 0] ![1024, 1024] inb)} {h4 : wlaM.view.LoadsAt (Rect.unit (s := S1024x1024) ![0, 0] ![1024, 1024] inb2)}
    {h5 : (wlaM.access (Rect.unit (s := S1024x1024) ![0, 0] ![1024, 1024] inb2)).Stores Finset.univ} {h6}
    {h3' : wstgM.view.LoadsAt (Rect.unit (s := S1024x2048) ![0, 1024] ![1024, 1024] inb')} {h4' : wlbM.view.LoadsAt (Rect.unit (s := S1024x1024) ![0, 0] ![1024, 1024] inb3)}
    {h5' : (wlbM.access (Rect.unit (s := S1024x1024) ![0, 0] ![1024, 1024] inb3)).Stores Finset.univ} {h6'}
    {k : PUnit → Prog (TpuEff nD τ sig (Elt F) Λ₀ .tc) α} :
    iprop(Invs I K ∗ Flight EC (c : Thread nD τ) (.dma d) () dst.view.dmaCredit (WD I c) ∗ Todo (F := F) c l
        ∗ (∃ f, wlaP (F := F) c Finset.univ fullShare f) ∗ (∃ f, wlbP (F := F) c Finset.univ fullShare f))
      ⊢ iprop((iprop(whP c Finset.univ fullShare (I.w c) ∗ (∃ f, wstgP (F := F) c Finset.univ fullShare f) ∗ semVal ((c : Thread nD τ), .dma d) 0 ∗ Todo (F := F) c l
              ∗ wlaP c Finset.univ fullShare (WLA I c) ∗ wlbP c Finset.univ fullShare (WLB I c)) -∗ wpC c (k ⟨⟩) Q)
          -∗ wpC c (.op (.waitDma2 d src dst h1 h2) fun _ => .op (.load wstgM (Rect.unit (s := S1024x2048) ![0, 0] ![1024, 1024] inb) h3) fun v =>
            .op (.load wlaM (Rect.unit (s := S1024x1024) ![0, 0] ![1024, 1024] inb2) h4) fun _ =>
            .op (.store wlaM (Rect.unit (s := S1024x1024) ![0, 0] ![1024, 1024] inb2) (k0_pay5 v) Finset.univ h5 h6) fun _ =>
            .op (.load wstgM (Rect.unit (s := S1024x2048) ![0, 1024] ![1024, 1024] inb') h3') fun v =>
            .op (.load wlbM (Rect.unit (s := S1024x1024) ![0, 0] ![1024, 1024] inb3) h4') fun _ =>
            .op (.store wlbM (Rect.unit (s := S1024x1024) ![0, 0] ![1024, 1024] inb3) (k0_pay6 v) Finset.univ h5' h6') k) Q) := by
  iintro ⟨#HI, HF, HT, HA, HB⟩ Hk
  iapply (wp_wait_copy I K c l hd (WD I c)) $$ [HF HT]
  · isplitr; · iexact HI
    isplitl [HF] <;> iassumption
  unfold WD
  iintro ⟨⟨HS, HX⟩, Hz, HT⟩
  iapply (wp_keep c (ld_ws I c 0 inb) (m' := wlaM) (r' := Rect.unit (s := S1024x1024) ![0, 0] ![1024, 1024] inb2) (fun f => wlaP c Finset.univ fullShare f) (WLA I c)
    (fun f => pts_wla' c f inb2) (keep_wla I c inb2)) $$ [HS HA]
  · isplitl [HS] <;> iassumption
  iintro ⟨HS, HA⟩
  iapply (wp_keep c (ld_ws I c 1024 inb') (m' := wlbM) (r' := Rect.unit (s := S1024x1024) ![0, 0] ![1024, 1024] inb3) (fun f => wlbP c Finset.univ fullShare f) (WLB I c)
    (fun f => pts_wlb' c f inb3) (keep_wlb I c inb3)) $$ [HS HB]
  · isplitl [HS] <;> iassumption
  iintro ⟨HS, HB⟩
  iapply Hk
  isplitl [HX]; · iexact HX
  isplitl [HS]; · iexists (I.w c); iexact HS
  isplitl [Hz]; · iexact Hz
  isplitl [HT]; · iexact HT
  isplitl [HA] <;> iassumption

/-! ## The finished rows -/

/-- Once both halves of row strip `r` have all four contributions, loading it yields its final value. -/
theorem acc_row (T r o : ℕ) (hr : r < 8) (h0 : cnt T r 0 = 4) (h1 : cnt T r 1 = 4) (ho : o = 512 * r)
    (inb : ∀ a, (![o, 0] : Fin 2 → ℕ) a + (![512, 2048] : Fin 2 → ℕ) a ≤ S4096x2048.size a) (f : S4096x2048.Idx → F .bf16) (hf : AccOK I c T f) (x : S512x2048.Idx) :
    f ((Rect.unit (s := S4096x2048) ![o, 0] ![512, 2048] inb).emb x) = rowval I c r x := by
  obtain ⟨e0, e1⟩ := unit2_emb inb x
  have l0 : (x 0).val < 512 := (x 0).isLt
  have l1 : (x 1).val < 2048 := (x 1).isLt
  have hq : (x 1).val / 1024 < 2 := by omega
  have hc : cnt T r ((x 1).val / 1024) = 4 := by
    rcases (show (x 1).val / 1024 = 0 ∨ (x 1).val / 1024 = 1 by omega) with h | h <;> rw [h] <;> assumption
  have hb := hf r ((x 1).val / 1024) hr hq (by rw [hc]; decide) (bi (x 0).val (x 1).val)
  rw [hc] at hb
  refine (congrArg f (ai_eq _ _ _ (e0.trans ?_) (e1.trans ?_))).trans hb
  · show o + (x 0).val = 512 * r + (x 0).val % 512; omega
  · show 0 + (x 1).val = 1024 * ((x 1).val / 1024) + (x 1).val % 1024; omega

theorem oi_eq (i : S512x2048.Idx) (r n : ℕ) (h0 : (i 0).val = r % 512) (h1 : (i 1).val = n % 2048) : i = oi r n :=
  (eq_ix2 i).trans (congr (congrArg _ (Fin.ext h0)) (Fin.ext h1))

abbrev outB (r : ℕ) : sProp 𝕄 := outP c (rows (512 * r) (512 * r + 512)) fullShare (OUT I c)
/-- An output staging slot with any contents. -/
def OS (s : ℕ) : sProp 𝕄 := iprop(∃ f, stageP (F := F) c (slab s 0 (0 + 512)) fullShare f)

theorem pts_stage' {s : ℕ} (inb : ∀ a, (![s, 0, 0] : Fin 3 → ℕ) a + (![1, 512, 2048] : Fin 3 → ℕ) a ≤ S2x512x2048.size a) (f : S2x512x2048.Idx → F .f32) :
    stageP c (slab s 0 (0 + 512)) fullShare f = ((stageM.access (Rect.unit (s := S2x512x2048) ![s, 0, 0] ![1, 512, 2048] inb)).loc (c : Thread nD τ)
      ↦[(stageM.access (Rect.unit (s := S2x512x2048) ![s, 0, 0] ![1, 512, 2048] inb)).set]{fullShare} f) :=
  congrArg (fun S => ((c : Thread nD τ).loc cc0_scratch9 ↦[S]{fullShare} f : sProp 𝕄)) ((View.set_slice_whole _ _).trans (rect_slab inb)).symm

/-- The strip scaled, with a leading unit axis, as it is stored into a slot. -/
def outw (r : ℕ) : S1x512x2048.Idx → F .f32 := shapeCast S1x512x2048 (outblk I c r) shapeCasts_S512x2048_S1x512x2048
theorem keep_stage (r s : ℕ) (inb : ∀ a, (![s, 0, 0] : Fin 3 → ℕ) a + (![1, 512, 2048] : Fin 3 → ℕ) a ≤ S2x512x2048.size a) (x : S1x512x2048.Idx) :
    outw I c r x = (stageM.access (Rect.unit (s := S2x512x2048) ![s, 0, 0] ![1, 512, 2048] inb)).read (Elt F) (STG I c r) x := by
  obtain ⟨d0, d1, d2⟩ := unit3_emb inb x
  have l1 : (x 1).val < 512 := (x 1).isLt
  have l2 : (x 2).val < 2048 := (x 2).isLt
  show _ = STG I c r ((Rect.unit (s := S2x512x2048) ![s, 0, 0] ![1, 512, 2048] inb).emb x)
  unfold STG outw
  have hx : x = ix3 (0 : Fin 1) (x 1) (x 2) := (eq_ix3 x).trans (congrArg (fun z => ix3 z (x 1) (x 2)) (Fin.ext (by have := (x 0).isLt; show (x 0).val = 0; change (x 0).val < 1 at this; omega)))
  refine (congrArg (shapeCast S1x512x2048 (outblk I c r) shapeCasts_S512x2048_S1x512x2048) hx).trans
    ((shapeCast_ab_1ab_apply (outblk I c r) shapeCasts_S512x2048_S1x512x2048 (0 : Fin 1) (x 1) (x 2)).trans (congrArg (outblk I c r) (oi_eq _ _ _ ?_ ?_)))
  · rw [d1]; show (x 1).val = _; omega
  · rw [d2]; show (x 2).val = _; omega

theorem same_out (r s : ℕ) {o : ℕ} (ho : o = 512 * r)
    {inb : ∀ a, (![o, 0] : Fin 2 → ℕ) a + (![512, 2048] : Fin 2 → ℕ) a ≤ S4096x2048.size a} {hst}
    {inb' : ∀ a, (![s, 0, 0] : Fin 3 → ℕ) a + (![1, 512, 2048] : Fin 3 → ℕ) a ≤ S2x512x2048.size a} {hst'} {hq : (⟨3, ![1, 512, 2048]⟩ : Shape).Squeezes ⟨2, ![512, 2048]⟩}
    (x : (⟨2, ![512, 2048]⟩ : Shape).Idx) :
    ((stageM.slice (Rect.unit (s := S2x512x2048) ![s, 0, 0] ![1, 512, 2048] inb') hst').squeeze ⟨2, ![512, 2048]⟩ hq).view.read (Elt F) (STG I c r) x
      = (outM.slice (Rect.unit (s := S4096x2048) ![o, 0] ![512, 2048] inb) hst).view.read (Elt F) (OUT I c) x := by
  obtain ⟨e0, e1⟩ := unit2_emb inb x
  obtain ⟨d0, d1, d2⟩ := sq_emb inb' hq.numel_eq x
  have l0 : (x 0).val < 512 := (x 0).isLt
  show STG I c r ((Rect.unit (s := S2x512x2048) ![s, 0, 0] ![1, 512, 2048] inb').emb (Shape.reshapeEquiv _ x)) = OUT I c ((Rect.unit (s := S4096x2048) ![o, 0] ![512, 2048] inb).emb x)
  unfold STG OUT
  refine congr (congrArg _ ?_) (oi_eq _ _ _ ?_ ?_)
  · rw [e0]; omega
  · show _ % 512 = _ % 512
    rw [d1, e0]; omega
  · show _ % 2048 = _ % 2048
    rw [d2, e1, Nat.zero_add]

/-- Scale a finished row strip into a slot and start copying it to the result. -/
theorem wp_out {α : Type} {Q : α → sProp 𝕄} (T r s o : ℕ) (d : DmaSem sig) (hr : r < 8) (h0 : cnt T r 0 = 4) (h1 : cnt T r 1 = 4) (ho : o = 512 * r)
    {pay : (S512x2048.Idx → F .bf16) → S1x512x2048.Idx → F .f32} (hpay : pay (rowval I c r) = outw I c r)
    {inb inb2 : ∀ a, (![o, 0] : Fin 2 → ℕ) a + (![512, 2048] : Fin 2 → ℕ) a ≤ S4096x2048.size a} {hst}
    {inb' inb3 : ∀ a, (![s, 0, 0] : Fin 3 → ℕ) a + (![1, 512, 2048] : Fin 3 → ℕ) a ≤ S2x512x2048.size a} {hst'} {hq : (⟨3, ![1, 512, 2048]⟩ : Shape).Squeezes ⟨2, ![512, 2048]⟩}
    {h2 : accM.view.LoadsAt (Rect.unit (s := S4096x2048) ![o, 0] ![512, 2048] inb)} {h3 : stageM.view.LoadsAt (Rect.unit (s := S2x512x2048) ![s, 0, 0] ![1, 512, 2048] inb')}
    {h4 : (stageM.access (Rect.unit (s := S2x512x2048) ![s, 0, 0] ![1, 512, 2048] inb')).Stores Finset.univ} {h5}
    {h6 : ((stageM.slice (Rect.unit (s := S2x512x2048) ![s, 0, 0] ![1, 512, 2048] inb3) hst').squeeze ⟨2, ![512, 2048]⟩ hq).view.WordExact}
    {h7 : (outM.slice (Rect.unit (s := S4096x2048) ![o, 0] ![512, 2048] inb2) hst).view.WordExact}
    {h8 : DmaTarget.Typed (nD := nD) (p := (Proc.tc : Proc τ)) .vmem (.dma d) (.here (outM.slice (Rect.unit (s := S4096x2048) ![o, 0] ![512, 2048] inb2) hst))}
    {k : PUnit → Prog (TpuEff nD τ sig (Elt F) Λ₀ .tc) α} :
    iprop(Acc I c T ∗ OS (F := F) c s ∗ (∃ f, outP (F := F) c (rows (512 * r) (512 * r + 512)) fullShare f) ∗ semVal ((c : Thread nD τ), .dma d) 0)
      ⊢ iprop((iprop(Acc I c T ∗ Flight EC (c : Thread nD τ) (.dma d) () (outM.slice (Rect.unit (s := S4096x2048) ![o, 0] ![512, 2048] inb2) hst).view.dmaCredit iprop(outB I c r ∗ OS (F := F) c s))
            -∗ wpC c (k ⟨⟩) Q)
          -∗ wpC c (.op (.load accM (Rect.unit (s := S4096x2048) ![o, 0] ![512, 2048] inb) h2) fun a =>
            .op (.load stageM (Rect.unit (s := S2x512x2048) ![s, 0, 0] ![1, 512, 2048] inb') h3) fun _ =>
            .op (.store stageM (Rect.unit (s := S2x512x2048) ![s, 0, 0] ![1, 512, 2048] inb') (pay a) Finset.univ h4 h5) fun _ =>
            .op (.enqueueDma ((stageM.slice (Rect.unit (s := S2x512x2048) ![s, 0, 0] ![1, 512, 2048] inb3) hst').squeeze ⟨2, ![512, 2048]⟩ hq)
              (.here (outM.slice (Rect.unit (s := S4096x2048) ![o, 0] ![512, 2048] inb2) hst)) (.dma d) h6 h7 h8) k) Q) := by
  subst ho
  unfold Acc OS
  iintro ⟨⟨%f, %hf, HA⟩, HS, HO, Hz⟩ Hk
  iapply (wp_keep c (P := accP c Finset.univ fullShare f) (ld_of c _ (m := accM) (r := Rect.unit (s := S4096x2048) ![512 * r, 0] ![512, 2048] inb) (V := rowval I c r) Finset.univ fullShare f rfl
      (fun x => Finset.mem_univ _) (fun x => acc_row I c T r _ hr h0 h1 rfl inb f hf x))
    (m' := stageM) (r' := Rect.unit (s := S2x512x2048) ![s, 0, 0] ![1, 512, 2048] inb') (fun f => stageP c (slab s 0 (0 + 512)) fullShare f) (STG I c r)
    (fun f => pts_stage' c inb' f) (fun x => (congrFun hpay x).trans (keep_stage I c r s inb' x))) $$ [HA HS]
  · isplitl [HA] <;> iassumption
  iintro ⟨HA, HS⟩
  have hD : iprop(outP c (rows (512 * r) (512 * r + 512)) fullShare (OUT I c) ∗ stageP c (slab s 0 (0 + 512)) fullShare (STG I c r)) ⊢ iprop(outB I c r ∗ ∃ f, stageP (F := F) c (slab s 0 (0 + 512)) fullShare f) := by
    iintro ⟨H1, H2⟩
    isplitl [H1]; · iexact H1
    iexists (STG I c r); iexact H2
  iapply (wp_copy c (src := (stageM.slice (Rect.unit (s := S2x512x2048) ![s, 0, 0] ![1, 512, 2048] inb3) hst').squeeze ⟨2, ![512, 2048]⟩ hq)
    (dst := outM.slice (Rect.unit (s := S4096x2048) ![512 * r, 0] ![512, 2048] inb2) hst) fullShare (STG I c r) (OUT I c) (stageP c (slab s 0 (0 + 512)) fullShare (STG I c r))
    (fun f => outP c (rows (512 * r) (512 * r + 512)) fullShare f) (pts_stage c fullShare inb3 hst' hq _) (fun f => pts_out c fullShare inb2 hst f)
    (same_out I c r s rfl) (show 0 < S512x2048.numel by decide) _ hD) $$ [HS HO Hz]
  · isplitl [HS]; · iexact HS
    isplitl [HO] <;> iassumption
  iintro HF
  iapply Hk
  isplitl [HA]
  · iexists f
    isplitr; · ipureintro; exact hf
    iexact HA
  iexact HF

end Stage
end Cert.KernelIdeal.Work
-- ==== Proof.KernelIdeal.Parts.lean ====
/- The kernel body's parts on the concrete buffers; the neighbours' numbers. -/
module

public import proofs.«01_k».proof.Proof.KernelIdeal.Stage

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

universe u

omit [FloatOps F] in
/-- A part of the body on the buffers and semaphores the launch passes. -/
abbrev pk {β : Type u} (f :
    (arg0 : Memref sig .tc .hbm S4096x1024 .f32) → arg0.IsWhole → (arg1 : Memref sig .tc .hbm S1024x2048 .f32) → arg1.IsWhole → (arg2 : Memref sig .tc
    .smem S1 .f32) → arg2.IsWhole → (arg3 : Memref sig .tc .smem S1 .f32) → arg3.IsWhole → (arg4 : Memref sig .tc .hbm S4096x2048 .f32) → arg4.IsWhole
    → (arg5 : Memref sig .tc .vmem S2048x1024 .fp8e5m2) → arg5.IsWhole → (arg6 : Memref sig .tc .vmem S2048x1024 .fp8e5m2) → arg6.IsWhole → (arg7 :
    Memref sig .tc .vmem S1024x1024 .fp8e5m2) → arg7.IsWhole → (arg8 : Memref sig .tc .vmem S1024x1024 .fp8e5m2) → arg8.IsWhole → (arg9 : Memref sig
    .tc .vmem S3x2048x1024 .fp8e5m2) → arg9.IsWhole → (arg10 : Memref sig .tc .vmem S3x2048x1024 .fp8e5m2) → arg10.IsWhole → (arg11 : Memref sig .tc
    .vmem S3x1024x1024 .fp8e5m2) → arg11.IsWhole → (arg12 : Memref sig .tc .vmem S3x1024x1024 .fp8e5m2) → arg12.IsWhole → (arg13 : Memref sig .tc
    .vmem S4096x2048 .bf16) → arg13.IsWhole → (arg14 : Memref sig .tc .vmem S2x512x2048 .f32) → arg14.IsWhole → (arg15 : Memref sig .tc .vmem
    S2x512x1024 .f32) → arg15.IsWhole → (arg16 : Memref sig .tc .vmem S1024x2048 .f32) → arg16.IsWhole → (arg17 : DmaSems sig S2) → (arg18 : DmaSems
    sig S_) → (arg19 : DmaSems sig S2) → (arg20 : DmaSems sig S2) → (arg21 : DmaSems sig S3) → (arg22 : DmaSems sig S3) → (arg23 : DmaSems sig S_) →
    (arg24 : DmaSems sig S_) → (arg25 : DmaSems sig S2) → (arg26 : DmaSems sig S2) → (arg27 : DmaSems sig S2) → (arg28 : DmaSems sig S2) → (arg29 :
    DmaSems sig S3) → (arg30 : DmaSems sig S3) → (arg31 : DmaSems sig S_) → (arg32 : DmaSems sig S_) → (arg33 : DmaSems sig S2) → (arg34 : DmaSems sig
    S2) → (arg35 : DmaSems sig S2) → β) : β :=
  f (Memref.whole main_arg0) (Memref.isWhole_whole _) (Memref.whole main_arg1) (Memref.isWhole_whole _) (Memref.whole cc0_stg0_0)
  (Memref.isWhole_whole _) (Memref.whole cc0_stg1_0) (Memref.isWhole_whole _) (Memref.whole main_v1) (Memref.isWhole_whole _) (Memref.whole
  cc0_scratch0) (Memref.isWhole_whole _) (Memref.whole cc0_scratch1) (Memref.isWhole_whole _) (Memref.whole cc0_scratch2) (Memref.isWhole_whole _)
  (Memref.whole cc0_scratch3) (Memref.isWhole_whole _) (Memref.whole cc0_scratch4) (Memref.isWhole_whole _) (Memref.whole cc0_scratch5)
  (Memref.isWhole_whole _) (Memref.whole cc0_scratch6) (Memref.isWhole_whole _) (Memref.whole cc0_scratch7) (Memref.isWhole_whole _) (Memref.whole
  cc0_scratch8) (Memref.isWhole_whole _) (Memref.whole cc0_scratch9) (Memref.isWhole_whole _) (Memref.whole cc0_scratch10) (Memref.isWhole_whole _)
  (Memref.whole cc0_scratch11) (Memref.isWhole_whole _) cc0_scratch12 cc0_scratch13 cc0_scratch14 cc0_scratch15 cc0_scratch16 cc0_scratch17
  cc0_scratch18 cc0_scratch19 cc0_scratch20 cc0_scratch21 cc0_scratch22 cc0_scratch23 cc0_scratch24 cc0_scratch25 cc0_scratch26 cc0_scratch27
  cc0_scratch28 cc0_scratch29 cc0_scratch30

theorem dev3_eq (c : Dev nD) : (⟨k0_dev3 c, k0_dev3_lt c⟩ : Dev nD) = peer c 0 := by revert c; decide
theorem dev4_eq (c : Dev nD) : (⟨k0_dev4 c, k0_dev4_lt c⟩ : Dev nD) = peer c 1 := by revert c; decide
theorem dev5_eq (c : Dev nD) : (⟨k0_dev5 c, k0_dev5_lt c⟩ : Dev nD) = peer c 2 := by revert c; decide
theorem dev6_eq (c : Dev nD) : (⟨k0_dev6 c, k0_dev6_lt c⟩ : Dev nD) = peer c 3 := by revert c; decide
theorem dev7_eq (c : Dev nD) : (⟨k0_dev7 c, k0_dev7_lt c⟩ : Dev nD) = peer c 4 := by revert c; decide
theorem dev8_eq (c : Dev nD) : (⟨k0_dev8 c, k0_dev8_lt c⟩ : Dev nD) = peer c 5 := by revert c; decide
theorem dev9_eq (c : Dev nD) : (⟨k0_dev9 c, k0_dev9_lt c⟩ : Dev nD) = peer c 6 := by revert c; decide
theorem dev10_eq (c : Dev nD) : (⟨k0_dev10 c, k0_dev10_lt c⟩ : Dev nD) = peer c 7 := by revert c; decide
theorem dev11_eq (c : Dev nD) : (⟨k0_dev11 c, k0_dev11_lt c⟩ : Dev nD) = peer c 8 := by revert c; decide
theorem dev12_eq (c : Dev nD) : (⟨k0_dev12 c, k0_dev12_lt c⟩ : Dev nD) = peer c 9 := by revert c; decide
theorem dev13_eq (c : Dev nD) : (⟨k0_dev13 c, k0_dev13_lt c⟩ : Dev nD) = peer c 10 := by revert c; decide
theorem dev14_eq (c : Dev nD) : (⟨k0_dev14 c, k0_dev14_lt c⟩ : Dev nD) = peer c 11 := by revert c; decide
theorem dev15_eq (c : Dev nD) : (⟨k0_dev15 c, k0_dev15_lt c⟩ : Dev nD) = peer c 12 := by revert c; decide
theorem dev16_eq (c : Dev nD) : (⟨k0_dev16 c, k0_dev16_lt c⟩ : Dev nD) = peer c 13 := by revert c; decide
theorem dev17_eq (c : Dev nD) : (⟨k0_dev17 c, k0_dev17_lt c⟩ : Dev nD) = peer c 14 := by revert c; decide
theorem dev18_eq (c : Dev nD) : (⟨k0_dev18 c, k0_dev18_lt c⟩ : Dev nD) = peer c 15 := by revert c; decide

/-- Join two adjacent parts and cut the whole into the half kept and the half lent. -/
theorem join_half {ℓ : Loc nD τ sig} {S A B : Finset (Idx ℓ)} {f : Buf (Elt F) ℓ} (h : A ∪ B = S) (hd : Disjoint A B) :
    iprop((ℓ ↦[A]{fullShare} f) ∗ ℓ ↦[B]{fullShare} f) ⊢ (iprop((ℓ ↦[S]{qL} f) ∗ ℓ ↦[S]{qR} f) : sProp 𝕄) :=
  (pts_cut h hd).2.trans pts_half.1

theorem xla_half (c : Dev nD) (a b d : ℕ) (f : S2048x1024.Idx → F .fp8e5m2) (h : a ≤ b) (h' : b ≤ d) :
    iprop(xlaP c (rows a b) fullShare f ∗ xlaP c (rows b d) fullShare f) ⊢ iprop(xlaP c (rows a d) qL f ∗ xlaP c (rows a d) qR f) :=
  join_half (rows_union h h') (rows_disjoint (.inl le_rfl))
theorem xlb_half (c : Dev nD) (a b d : ℕ) (f : S2048x1024.Idx → F .fp8e5m2) (h : a ≤ b) (h' : b ≤ d) :
    iprop(xlbP c (rows a b) fullShare f ∗ xlbP c (rows b d) fullShare f) ⊢ iprop(xlbP c (rows a d) qL f ∗ xlbP c (rows a d) qR f) :=
  join_half (rows_union h h') (rows_disjoint (.inl le_rfl))

end Cert.KernelIdeal.Work
-- ==== Proof.KernelIdeal.Sends.lean ====
/- The transfers to the neighbours, each with what it reads and where it lands. -/
module

public import proofs.«01_k».proof.Proof.KernelIdeal.Parts

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

section Sends
variable (c : Dev nD) (t : Fin 16) (l : List (Fin 16)) (n : Dev nD) (hn : n = peer c t)
include hn

/-- The first transfer of rows of the own half `a` of `x`. -/
theorem send_xa₀ {α : Type} {Q : α → sProp 𝕄} (o : ℕ)
    {inb : ∀ a, (![o, 0] : Fin 2 → ℕ) a + (![1024, 1024] : Fin 2 → ℕ) a ≤ S2048x1024.size a} {hst} {inb' : ∀ a, (![0, o, 0] : Fin 3 → ℕ) a + (![1, 1024, 1024] : Fin 3 → ℕ) a ≤ S3x2048x1024.size a} {hst'} {hq' : (⟨3, ![1, 1024, 1024]⟩ : Shape).Squeezes ⟨2, ![1024, 1024]⟩}
    (hs : sendPay I c t = xlaP c (rows o (o + 1024)) qR (XLA I c)) (hd : ∀ xa xb wa wb, landP (F := F) n xa xb wa wb t = xgaP n (slab 0 o (o + 1024)) fullShare xa) (hside : n = dv c 1)
    (hN : ((xgaM.slice (Rect.unit (s := S3x2048x1024) ![0, o, 0] ![1, 1024, 1024] inb') hst').squeeze ⟨2, ![1024, 1024]⟩ hq').view.dmaCredit = Nn t)
    {hsc : ((xgaM.slice (Rect.unit (s := S3x2048x1024) ![0, o, 0] ![1, 1024, 1024] inb') hst').squeeze ⟨2, ![1024, 1024]⟩ hq').view.ref.isScScratch = false} {hsrc : (xlaM.slice (Rect.unit (s := S2048x1024) ![o, 0] ![1024, 1024] inb) hst).view.WordExact} {hdst : ((xgaM.slice (Rect.unit (s := S3x2048x1024) ![0, o, 0] ![1, 1024, 1024] inb') hst').squeeze ⟨2, ![1024, 1024]⟩ hq').view.WordExact}
    {hsem : DmaTarget.Typed .vmem (.dma (recvSem t)) (.remote (Dev.tc n : Thread nD τ) ((xgaM.slice (Rect.unit (s := S3x2048x1024) ![0, o, 0] ![1, 1024, 1024] inb') hst').squeeze ⟨2, ![1024, 1024]⟩ hq') (.dma (sendSem t)) hsc)}
    {k : PUnit → Prog (TpuEff nD τ sig (Elt F) Λ₀ .tc) α} :
    iprop(Invs I K ∗ xlaP c (rows o (o + 1024)) qR (XLA I c) ∗ Todo (F := F) c (t :: l))
      ⊢ iprop((iprop(fly (F := F) c t ∗ Todo (F := F) c l) -∗ wpC c (k ⟨⟩) Q)
          -∗ wpC c (.op (.enqueueDma (xlaM.slice (Rect.unit (s := S2048x1024) ![o, 0] ![1024, 1024] inb) hst) (.remote (Dev.tc n : Thread nD τ) ((xgaM.slice (Rect.unit (s := S3x2048x1024) ![0, o, 0] ![1, 1024, 1024] inb') hst').squeeze ⟨2, ![1024, 1024]⟩ hq') (.dma (sendSem t)) hsc) (.dma (recvSem t)) hsrc hdst hsem) k) Q) := by
  rw [← hs]
  exact wp_send_t I K c t l n hn (src := xlaM.slice (Rect.unit (s := S2048x1024) ![o, 0] ![1024, 1024] inb) hst) (dst := (xgaM.slice (Rect.unit (s := S3x2048x1024) ![0, o, 0] ![1, 1024, 1024] inb') hst').squeeze ⟨2, ![1024, 1024]⟩ hq') (XLA I c) (fun xa xb wa wb => xa)
    (hs.trans (pts_xla c qR inb hst _)) (fun xa xb wa wb => (hd xa xb wa wb).trans (pts_xga n fullShare inb' hst' hq' _)) (same_xa₀ I c n hside) hN

/-- The first transfer of the own half `a` of `w`. -/
theorem send_wa₀ {α : Type} {Q : α → sProp 𝕄}
    {inb' : ∀ a, (![0, 0, 0] : Fin 3 → ℕ) a + (![1, 1024, 1024] : Fin 3 → ℕ) a ≤ S3x1024x1024.size a} {hst'} {hq' : (⟨3, ![1, 1024, 1024]⟩ : Shape).Squeezes ⟨2, ![1024, 1024]⟩}
    (hs : sendPay I c t = wlaP c Finset.univ qR (WLA I c)) (hd : ∀ xa xb wa wb, landP (F := F) n xa xb wa wb t = wgaP n (slab 0 0 (0 + 1024)) fullShare wa) (hside : n = dv c 1)
    (hN : ((wgaM.slice (Rect.unit (s := S3x1024x1024) ![0, 0, 0] ![1, 1024, 1024] inb') hst').squeeze ⟨2, ![1024, 1024]⟩ hq').view.dmaCredit = Nn t)
    {hsc : ((wgaM.slice (Rect.unit (s := S3x1024x1024) ![0, 0, 0] ![1, 1024, 1024] inb') hst').squeeze ⟨2, ![1024, 1024]⟩ hq').view.ref.isScScratch = false} {hsrc : (wlaM).view.WordExact} {hdst : ((wgaM.slice (Rect.unit (s := S3x1024x1024) ![0, 0, 0] ![1, 1024, 1024] inb') hst').squeeze ⟨2, ![1024, 1024]⟩ hq').view.WordExact}
    {hsem : DmaTarget.Typed .vmem (.dma (recvSem t)) (.remote (Dev.tc n : Thread nD τ) ((wgaM.slice (Rect.unit (s := S3x1024x1024) ![0, 0, 0] ![1, 1024, 1024] inb') hst').squeeze ⟨2, ![1024, 1024]⟩ hq') (.dma (sendSem t)) hsc)}
    {k : PUnit → Prog (TpuEff nD τ sig (Elt F) Λ₀ .tc) α} :
    iprop(Invs I K ∗ wlaP c Finset.univ qR (WLA I c) ∗ Todo (F := F) c (t :: l))
      ⊢ iprop((iprop(fly (F := F) c t ∗ Todo (F := F) c l) -∗ wpC c (k ⟨⟩) Q)
          -∗ wpC c (.op (.enqueueDma (wlaM) (.remote (Dev.tc n : Thread nD τ) ((wgaM.slice (Rect.unit (s := S3x1024x1024) ![0, 0, 0] ![1, 1024, 1024] inb') hst').squeeze ⟨2, ![1024, 1024]⟩ hq') (.dma (sendSem t)) hsc) (.dma (recvSem t)) hsrc hdst hsem) k) Q) := by
  rw [← hs]
  exact wp_send_t I K c t l n hn (src := wlaM) (dst := (wgaM.slice (Rect.unit (s := S3x1024x1024) ![0, 0, 0] ![1, 1024, 1024] inb') hst').squeeze ⟨2, ![1024, 1024]⟩ hq') (WLA I c) (fun xa xb wa wb => wa)
    (hs.trans (pts_wla c qR _)) (fun xa xb wa wb => (hd xa xb wa wb).trans (pts_wga n fullShare inb' hst' hq' _)) (same_wa₀ I c n hside) hN

/-- Passing rows of half `a` of a received slot of `x` on. -/
theorem send_xa {α : Type} {Q : α → sProp 𝕄} (h h' o R : ℕ)
    {inb : ∀ a, (![h, o, 0] : Fin 3 → ℕ) a + (![1, R, 1024] : Fin 3 → ℕ) a ≤ S3x2048x1024.size a} {hst} {hq : (⟨3, ![1, R, 1024]⟩ : Shape).Squeezes ⟨2, ![R, 1024]⟩} {inb' : ∀ a, (![h', o, 0] : Fin 3 → ℕ) a + (![1, R, 1024] : Fin 3 → ℕ) a ≤ S3x2048x1024.size a} {hst'} {hq' : (⟨3, ![1, R, 1024]⟩ : Shape).Squeezes ⟨2, ![R, 1024]⟩}
    (hs : sendPay I c t = xgaP c (slab h o (o + R)) qR (XGA I c)) (hd : ∀ xa xb wa wb, landP (F := F) n xa xb wa wb t = xgaP n (slab h' o (o + R)) fullShare xa) (hside : n = dv c 1 ∧ h' = h + 1 ∧ h < 3)
    (hN : ((xgaM.slice (Rect.unit (s := S3x2048x1024) ![h', o, 0] ![1, R, 1024] inb') hst').squeeze ⟨2, ![R, 1024]⟩ hq').view.dmaCredit = Nn t)
    {hsc : ((xgaM.slice (Rect.unit (s := S3x2048x1024) ![h', o, 0] ![1, R, 1024] inb') hst').squeeze ⟨2, ![R, 1024]⟩ hq').view.ref.isScScratch = false} {hsrc : ((xgaM.slice (Rect.unit (s := S3x2048x1024) ![h, o, 0] ![1, R, 1024] inb) hst).squeeze ⟨2, ![R, 1024]⟩ hq).view.WordExact} {hdst : ((xgaM.slice (Rect.unit (s := S3x2048x1024) ![h', o, 0] ![1, R, 1024] inb') hst').squeeze ⟨2, ![R, 1024]⟩ hq').view.WordExact}
    {hsem : DmaTarget.Typed .vmem (.dma (recvSem t)) (.remote (Dev.tc n : Thread nD τ) ((xgaM.slice (Rect.unit (s := S3x2048x1024) ![h', o, 0] ![1, R, 1024] inb') hst').squeeze ⟨2, ![R, 1024]⟩ hq') (.dma (sendSem t)) hsc)}
    {k : PUnit → Prog (TpuEff nD τ sig (Elt F) Λ₀ .tc) α} :
    iprop(Invs I K ∗ xgaP c (slab h o (o + R)) qR (XGA I c) ∗ Todo (F := F) c (t :: l))
      ⊢ iprop((iprop(fly (F := F) c t ∗ Todo (F := F) c l) -∗ wpC c (k ⟨⟩) Q)
          -∗ wpC c (.op (.enqueueDma ((xgaM.slice (Rect.unit (s := S3x2048x1024) ![h, o, 0] ![1, R, 1024] inb) hst).squeeze ⟨2, ![R, 1024]⟩ hq) (.remote (Dev.tc n : Thread nD τ) ((xgaM.slice (Rect.unit (s := S3x2048x1024) ![h', o, 0] ![1, R, 1024] inb') hst').squeeze ⟨2, ![R, 1024]⟩ hq') (.dma (sendSem t)) hsc) (.dma (recvSem t)) hsrc hdst hsem) k) Q) := by
  rw [← hs]
  exact wp_send_t I K c t l n hn (src := (xgaM.slice (Rect.unit (s := S3x2048x1024) ![h, o, 0] ![1, R, 1024] inb) hst).squeeze ⟨2, ![R, 1024]⟩ hq) (dst := (xgaM.slice (Rect.unit (s := S3x2048x1024) ![h', o, 0] ![1, R, 1024] inb') hst').squeeze ⟨2, ![R, 1024]⟩ hq') (XGA I c) (fun xa xb wa wb => xa)
    (hs.trans (pts_xga c qR inb hst hq _)) (fun xa xb wa wb => (hd xa xb wa wb).trans (pts_xga n fullShare inb' hst' hq' _)) (same_xga I c n hside.1 hside.2) hN

/-- Passing half `a` of a received slot of `w` on. -/
theorem send_wa {α : Type} {Q : α → sProp 𝕄} (h h' : ℕ)
    {inb : ∀ a, (![h, 0, 0] : Fin 3 → ℕ) a + (![1, 1024, 1024] : Fin 3 → ℕ) a ≤ S3x1024x1024.size a} {hst} {hq : (⟨3, ![1, 1024, 1024]⟩ : Shape).Squeezes ⟨2, ![1024, 1024]⟩} {inb' : ∀ a, (![h', 0, 0] : Fin 3 → ℕ) a + (![1, 1024, 1024] : Fin 3 → ℕ) a ≤ S3x1024x1024.size a} {hst'} {hq' : (⟨3, ![1, 1024, 1024]⟩ : Shape).Squeezes ⟨2, ![1024, 1024]⟩}
    (hs : sendPay I c t = wgaP c (slab h 0 (0 + 1024)) qR (WGA I c)) (hd : ∀ xa xb wa wb, landP (F := F) n xa xb wa wb t = wgaP n (slab h' 0 (0 + 1024)) fullShare wa) (hside : n = dv c 1 ∧ h' = h + 1 ∧ h < 3)
    (hN : ((wgaM.slice (Rect.unit (s := S3x1024x1024) ![h', 0, 0] ![1, 1024, 1024] inb') hst').squeeze ⟨2, ![1024, 1024]⟩ hq').view.dmaCredit = Nn t)
    {hsc : ((wgaM.slice (Rect.unit (s := S3x1024x1024) ![h', 0, 0] ![1, 1024, 1024] inb') hst').squeeze ⟨2, ![1024, 1024]⟩ hq').view.ref.isScScratch = false} {hsrc : ((wgaM.slice (Rect.unit (s := S3x1024x1024) ![h, 0, 0] ![1, 1024, 1024] inb) hst).squeeze ⟨2, ![1024, 1024]⟩ hq).view.WordExact} {hdst : ((wgaM.slice (Rect.unit (s := S3x1024x1024) ![h', 0, 0] ![1, 1024, 1024] inb') hst').squeeze ⟨2, ![1024, 1024]⟩ hq').view.WordExact}
    {hsem : DmaTarget.Typed .vmem (.dma (recvSem t)) (.remote (Dev.tc n : Thread nD τ) ((wgaM.slice (Rect.unit (s := S3x1024x1024) ![h', 0, 0] ![1, 1024, 1024] inb') hst').squeeze ⟨2, ![1024, 1024]⟩ hq') (.dma (sendSem t)) hsc)}
    {k : PUnit → Prog (TpuEff nD τ sig (Elt F) Λ₀ .tc) α} :
    iprop(Invs I K ∗ wgaP c (slab h 0 (0 + 1024)) qR (WGA I c) ∗ Todo (F := F) c (t :: l))
      ⊢ iprop((iprop(fly (F := F) c t ∗ Todo (F := F) c l) -∗ wpC c (k ⟨⟩) Q)
          -∗ wpC c (.op (.enqueueDma ((wgaM.slice (Rect.unit (s := S3x1024x1024) ![h, 0, 0] ![1, 1024, 1024] inb) hst).squeeze ⟨2, ![1024, 1024]⟩ hq) (.remote (Dev.tc n : Thread nD τ) ((wgaM.slice (Rect.unit (s := S3x1024x1024) ![h', 0, 0] ![1, 1024, 1024] inb') hst').squeeze ⟨2, ![1024, 1024]⟩ hq') (.dma (sendSem t)) hsc) (.dma (recvSem t)) hsrc hdst hsem) k) Q) := by
  rw [← hs]
  exact wp_send_t I K c t l n hn (src := (wgaM.slice (Rect.unit (s := S3x1024x1024) ![h, 0, 0] ![1, 1024, 1024] inb) hst).squeeze ⟨2, ![1024, 1024]⟩ hq) (dst := (wgaM.slice (Rect.unit (s := S3x1024x1024) ![h', 0, 0] ![1, 1024, 1024] inb') hst').squeeze ⟨2, ![1024, 1024]⟩ hq') (WGA I c) (fun xa xb wa wb => wa)
    (hs.trans (pts_wga c qR inb hst hq _)) (fun xa xb wa wb => (hd xa xb wa wb).trans (pts_wga n fullShare inb' hst' hq' _)) (same_wga I c n hside.1 hside.2) hN

/-- The first transfer of rows of the own half `b` of `x`. -/
theorem send_xb₀ {α : Type} {Q : α → sProp 𝕄} (o : ℕ)
    {inb : ∀ a, (![o, 0] : Fin 2 → ℕ) a + (![1024, 1024] : Fin 2 → ℕ) a ≤ S2048x1024.size a} {hst} {inb' : ∀ a, (![0, o, 0] : Fin 3 → ℕ) a + (![1, 1024, 1024] : Fin 3 → ℕ) a ≤ S3x2048x1024.size a} {hst'} {hq' : (⟨3, ![1, 1024, 1024]⟩ : Shape).Squeezes ⟨2, ![1024, 1024]⟩}
    (hs : sendPay I c t = xlbP c (rows o (o + 1024)) qR (XLB I c)) (hd : ∀ xa xb wa wb, landP (F := F) n xa xb wa wb t = xgbP n (slab 0 o (o + 1024)) fullShare xb) (hside : n = dv c 3)
    (hN : ((xgbM.slice (Rect.unit (s := S3x2048x1024) ![0, o, 0] ![1, 1024, 1024] inb') hst').squeeze ⟨2, ![1024, 1024]⟩ hq').view.dmaCredit = Nn t)
    {hsc : ((xgbM.slice (Rect.unit (s := S3x2048x1024) ![0, o, 0] ![1, 1024, 1024] inb') hst').squeeze ⟨2, ![1024, 1024]⟩ hq').view.ref.isScScratch = false} {hsrc : (xlbM.slice (Rect.unit (s := S2048x1024) ![o, 0] ![1024, 1024] inb) hst).view.WordExact} {hdst : ((xgbM.slice (Rect.unit (s := S3x2048x1024) ![0, o, 0] ![1, 1024, 1024] inb') hst').squeeze ⟨2, ![1024, 1024]⟩ hq').view.WordExact}
    {hsem : DmaTarget.Typed .vmem (.dma (recvSem t)) (.remote (Dev.tc n : Thread nD τ) ((xgbM.slice (Rect.unit (s := S3x2048x1024) ![0, o, 0] ![1, 1024, 1024] inb') hst').squeeze ⟨2, ![1024, 1024]⟩ hq') (.dma (sendSem t)) hsc)}
    {k : PUnit → Prog (TpuEff nD τ sig (Elt F) Λ₀ .tc) α} :
    iprop(Invs I K ∗ xlbP c (rows o (o + 1024)) qR (XLB I c) ∗ Todo (F := F) c (t :: l))
      ⊢ iprop((iprop(fly (F := F) c t ∗ Todo (F := F) c l) -∗ wpC c (k ⟨⟩) Q)
          -∗ wpC c (.op (.enqueueDma (xlbM.slice (Rect.unit (s := S2048x1024) ![o, 0] ![1024, 1024] inb) hst) (.remote (Dev.tc n : Thread nD τ) ((xgbM.slice (Rect.unit (s := S3x2048x1024) ![0, o, 0] ![1, 1024, 1024] inb') hst').squeeze ⟨2, ![1024, 1024]⟩ hq') (.dma (sendSem t)) hsc) (.dma (recvSem t)) hsrc hdst hsem) k) Q) := by
  rw [← hs]
  exact wp_send_t I K c t l n hn (src := xlbM.slice (Rect.unit (s := S2048x1024) ![o, 0] ![1024, 1024] inb) hst) (dst := (xgbM.slice (Rect.unit (s := S3x2048x1024) ![0, o, 0] ![1, 1024, 1024] inb') hst').squeeze ⟨2, ![1024, 1024]⟩ hq') (XLB I c) (fun xa xb wa wb => xb)
    (hs.trans (pts_xlb c qR inb hst _)) (fun xa xb wa wb => (hd xa xb wa wb).trans (pts_xgb n fullShare inb' hst' hq' _)) (same_xb₀ I c n hside) hN

/-- The first transfer of the own half `b` of `w`. -/
theorem send_wb₀ {α : Type} {Q : α → sProp 𝕄}
    {inb' : ∀ a, (![0, 0, 0] : Fin 3 → ℕ) a + (![1, 1024, 1024] : Fin 3 → ℕ) a ≤ S3x1024x1024.size a} {hst'} {hq' : (⟨3, ![1, 1024, 1024]⟩ : Shape).Squeezes ⟨2, ![1024, 1024]⟩}
    (hs : sendPay I c t = wlbP c Finset.univ qR (WLB I c)) (hd : ∀ xa xb wa wb, landP (F := F) n xa xb wa wb t = wgbP n (slab 0 0 (0 + 1024)) fullShare wb) (hside : n = dv c 3)
    (hN : ((wgbM.slice (Rect.unit (s := S3x1024x1024) ![0, 0, 0] ![1, 1024, 1024] inb') hst').squeeze ⟨2, ![1024, 1024]⟩ hq').view.dmaCredit = Nn t)
    {hsc : ((wgbM.slice (Rect.unit (s := S3x1024x1024) ![0, 0, 0] ![1, 1024, 1024] inb') hst').squeeze ⟨2, ![1024, 1024]⟩ hq').view.ref.isScScratch = false} {hsrc : (wlbM).view.WordExact} {hdst : ((wgbM.slice (Rect.unit (s := S3x1024x1024) ![0, 0, 0] ![1, 1024, 1024] inb') hst').squeeze ⟨2, ![1024, 1024]⟩ hq').view.WordExact}
    {hsem : DmaTarget.Typed .vmem (.dma (recvSem t)) (.remote (Dev.tc n : Thread nD τ) ((wgbM.slice (Rect.unit (s := S3x1024x1024) ![0, 0, 0] ![1, 1024, 1024] inb') hst').squeeze ⟨2, ![1024, 1024]⟩ hq') (.dma (sendSem t)) hsc)}
    {k : PUnit → Prog (TpuEff nD τ sig (Elt F) Λ₀ .tc) α} :
    iprop(Invs I K ∗ wlbP c Finset.univ qR (WLB I c) ∗ Todo (F := F) c (t :: l))
      ⊢ iprop((iprop(fly (F := F) c t ∗ Todo (F := F) c l) -∗ wpC c (k ⟨⟩) Q)
          -∗ wpC c (.op (.enqueueDma (wlbM) (.remote (Dev.tc n : Thread nD τ) ((wgbM.slice (Rect.unit (s := S3x1024x1024) ![0, 0, 0] ![1, 1024, 1024] inb') hst').squeeze ⟨2, ![1024, 1024]⟩ hq') (.dma (sendSem t)) hsc) (.dma (recvSem t)) hsrc hdst hsem) k) Q) := by
  rw [← hs]
  exact wp_send_t I K c t l n hn (src := wlbM) (dst := (wgbM.slice (Rect.unit (s := S3x1024x1024) ![0, 0, 0] ![1, 1024, 1024] inb') hst').squeeze ⟨2, ![1024, 1024]⟩ hq') (WLB I c) (fun xa xb wa wb => wb)
    (hs.trans (pts_wlb c qR _)) (fun xa xb wa wb => (hd xa xb wa wb).trans (pts_wgb n fullShare inb' hst' hq' _)) (same_wb₀ I c n hside) hN

/-- Passing rows of half `b` of a received slot of `x` on. -/
theorem send_xb {α : Type} {Q : α → sProp 𝕄} (h h' o R : ℕ)
    {inb : ∀ a, (![h, o, 0] : Fin 3 → ℕ) a + (![1, R, 1024] : Fin 3 → ℕ) a ≤ S3x2048x1024.size a} {hst} {hq : (⟨3, ![1, R, 1024]⟩ : Shape).Squeezes ⟨2, ![R, 1024]⟩} {inb' : ∀ a, (![h', o, 0] : Fin 3 → ℕ) a + (![1, R, 1024] : Fin 3 → ℕ) a ≤ S3x2048x1024.size a} {hst'} {hq' : (⟨3, ![1, R, 1024]⟩ : Shape).Squeezes ⟨2, ![R, 1024]⟩}
    (hs : sendPay I c t = xgbP c (slab h o (o + R)) qR (XGB I c)) (hd : ∀ xa xb wa wb, landP (F := F) n xa xb wa wb t = xgbP n (slab h' o (o + R)) fullShare xb) (hside : n = dv c 3 ∧ h' = h + 1 ∧ h < 3)
    (hN : ((xgbM.slice (Rect.unit (s := S3x2048x1024) ![h', o, 0] ![1, R, 1024] inb') hst').squeeze ⟨2, ![R, 1024]⟩ hq').view.dmaCredit = Nn t)
    {hsc : ((xgbM.slice (Rect.unit (s := S3x2048x1024) ![h', o, 0] ![1, R, 1024] inb') hst').squeeze ⟨2, ![R, 1024]⟩ hq').view.ref.isScScratch = false} {hsrc : ((xgbM.slice (Rect.unit (s := S3x2048x1024) ![h, o, 0] ![1, R, 1024] inb) hst).squeeze ⟨2, ![R, 1024]⟩ hq).view.WordExact} {hdst : ((xgbM.slice (Rect.unit (s := S3x2048x1024) ![h', o, 0] ![1, R, 1024] inb') hst').squeeze ⟨2, ![R, 1024]⟩ hq').view.WordExact}
    {hsem : DmaTarget.Typed .vmem (.dma (recvSem t)) (.remote (Dev.tc n : Thread nD τ) ((xgbM.slice (Rect.unit (s := S3x2048x1024) ![h', o, 0] ![1, R, 1024] inb') hst').squeeze ⟨2, ![R, 1024]⟩ hq') (.dma (sendSem t)) hsc)}
    {k : PUnit → Prog (TpuEff nD τ sig (Elt F) Λ₀ .tc) α} :
    iprop(Invs I K ∗ xgbP c (slab h o (o + R)) qR (XGB I c) ∗ Todo (F := F) c (t :: l))
      ⊢ iprop((iprop(fly (F := F) c t ∗ Todo (F := F) c l) -∗ wpC c (k ⟨⟩) Q)
          -∗ wpC c (.op (.enqueueDma ((xgbM.slice (Rect.unit (s := S3x2048x1024) ![h, o, 0] ![1, R, 1024] inb) hst).squeeze ⟨2, ![R, 1024]⟩ hq) (.remote (Dev.tc n : Thread nD τ) ((xgbM.slice (Rect.unit (s := S3x2048x1024) ![h', o, 0] ![1, R, 1024] inb') hst').squeeze ⟨2, ![R, 1024]⟩ hq') (.dma (sendSem t)) hsc) (.dma (recvSem t)) hsrc hdst hsem) k) Q) := by
  rw [← hs]
  exact wp_send_t I K c t l n hn (src := (xgbM.slice (Rect.unit (s := S3x2048x1024) ![h, o, 0] ![1, R, 1024] inb) hst).squeeze ⟨2, ![R, 1024]⟩ hq) (dst := (xgbM.slice (Rect.unit (s := S3x2048x1024) ![h', o, 0] ![1, R, 1024] inb') hst').squeeze ⟨2, ![R, 1024]⟩ hq') (XGB I c) (fun xa xb wa wb => xb)
    (hs.trans (pts_xgb c qR inb hst hq _)) (fun xa xb wa wb => (hd xa xb wa wb).trans (pts_xgb n fullShare inb' hst' hq' _)) (same_xgb I c n hside.1 hside.2) hN

/-- Passing half `b` of a received slot of `w` on. -/
theorem send_wb {α : Type} {Q : α → sProp 𝕄} (h h' : ℕ)
    {inb : ∀ a, (![h, 0, 0] : Fin 3 → ℕ) a + (![1, 1024, 1024] : Fin 3 → ℕ) a ≤ S3x1024x1024.size a} {hst} {hq : (⟨3, ![1, 1024, 1024]⟩ : Shape).Squeezes ⟨2, ![1024, 1024]⟩} {inb' : ∀ a, (![h', 0, 0] : Fin 3 → ℕ) a + (![1, 1024, 1024] : Fin 3 → ℕ) a ≤ S3x1024x1024.size a} {hst'} {hq' : (⟨3, ![1, 1024, 1024]⟩ : Shape).Squeezes ⟨2, ![1024, 1024]⟩}
    (hs : sendPay I c t = wgbP c (slab h 0 (0 + 1024)) qR (WGB I c)) (hd : ∀ xa xb wa wb, landP (F := F) n xa xb wa wb t = wgbP n (slab h' 0 (0 + 1024)) fullShare wb) (hside : n = dv c 3 ∧ h' = h + 1 ∧ h < 3)
    (hN : ((wgbM.slice (Rect.unit (s := S3x1024x1024) ![h', 0, 0] ![1, 1024, 1024] inb') hst').squeeze ⟨2, ![1024, 1024]⟩ hq').view.dmaCredit = Nn t)
    {hsc : ((wgbM.slice (Rect.unit (s := S3x1024x1024) ![h', 0, 0] ![1, 1024, 1024] inb') hst').squeeze ⟨2, ![1024, 1024]⟩ hq').view.ref.isScScratch = false} {hsrc : ((wgbM.slice (Rect.unit (s := S3x1024x1024) ![h, 0, 0] ![1, 1024, 1024] inb) hst).squeeze ⟨2, ![1024, 1024]⟩ hq).view.WordExact} {hdst : ((wgbM.slice (Rect.unit (s := S3x1024x1024) ![h', 0, 0] ![1, 1024, 1024] inb') hst').squeeze ⟨2, ![1024, 1024]⟩ hq').view.WordExact}
    {hsem : DmaTarget.Typed .vmem (.dma (recvSem t)) (.remote (Dev.tc n : Thread nD τ) ((wgbM.slice (Rect.unit (s := S3x1024x1024) ![h', 0, 0] ![1, 1024, 1024] inb') hst').squeeze ⟨2, ![1024, 1024]⟩ hq') (.dma (sendSem t)) hsc)}
    {k : PUnit → Prog (TpuEff nD τ sig (Elt F) Λ₀ .tc) α} :
    iprop(Invs I K ∗ wgbP c (slab h 0 (0 + 1024)) qR (WGB I c) ∗ Todo (F := F) c (t :: l))
      ⊢ iprop((iprop(fly (F := F) c t ∗ Todo (F := F) c l) -∗ wpC c (k ⟨⟩) Q)
          -∗ wpC c (.op (.enqueueDma ((wgbM.slice (Rect.unit (s := S3x1024x1024) ![h, 0, 0] ![1, 1024, 1024] inb) hst).squeeze ⟨2, ![1024, 1024]⟩ hq) (.remote (Dev.tc n : Thread nD τ) ((wgbM.slice (Rect.unit (s := S3x1024x1024) ![h', 0, 0] ![1, 1024, 1024] inb') hst').squeeze ⟨2, ![1024, 1024]⟩ hq') (.dma (sendSem t)) hsc) (.dma (recvSem t)) hsrc hdst hsem) k) Q) := by
  rw [← hs]
  exact wp_send_t I K c t l n hn (src := (wgbM.slice (Rect.unit (s := S3x1024x1024) ![h, 0, 0] ![1, 1024, 1024] inb) hst).squeeze ⟨2, ![1024, 1024]⟩ hq) (dst := (wgbM.slice (Rect.unit (s := S3x1024x1024) ![h', 0, 0] ![1, 1024, 1024] inb') hst').squeeze ⟨2, ![1024, 1024]⟩ hq') (WGB I c) (fun xa xb wa wb => wb)
    (hs.trans (pts_wgb c qR inb hst hq _)) (fun xa xb wa wb => (hd xa xb wa wb).trans (pts_wgb n fullShare inb' hst' hq' _)) (same_wgb I c n hside.1 hside.2) hN

end Sends

end Cert.KernelIdeal.Work
-- ==== Proof.KernelIdeal.Body1.lean ====
/- The body's parts: staging the inputs and sending the first halves. -/
module

public import proofs.«01_k».proof.Proof.KernelIdeal.Sends

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

theorem ne_x0 : ∀ b : Bool × Fin 16, (if b.1 then recvSem b.2 else sendSem b.2) ≠ (2 : DmaSem sig) := by decide
theorem ne_x1 : ∀ b : Bool × Fin 16, (if b.1 then recvSem b.2 else sendSem b.2) ≠ (3 : DmaSem sig) := by decide
theorem ne_w : ∀ b : Bool × Fin 16, (if b.1 then recvSem b.2 else sendSem b.2) ≠ (4 : DmaSem sig) := by decide

abbrev AX (c : Dev nD) (o : ℕ) : sProp 𝕄 := iprop(∃ f, xlaP (F := F) c (rows o (o + 512)) fullShare f)
abbrev BX (c : Dev nD) (o : ℕ) : sProp 𝕄 := iprop(∃ f, xlbP (F := F) c (rows o (o + 512)) fullShare f)
abbrev nX : ℕ := (((xstgM.slice (Rect.unit (s := S2x512x1024) ![0, 0, 0] ![1, 512, 1024] inb_S2x512x1024_S1x512x1024_0_0_0) (fun _ => rfl)).squeeze S512x1024 squeezes_S1x512x1024_S512x1024).view.dmaCredit)

/-- The state before the inputs are staged. -/
def stIn (c : Dev nD) : sProp 𝕄 :=
  iprop(Flight EC (c : Thread nD τ) (.dma 4) () wstgM.view.dmaCredit (WD I c) ∗ Todo (F := F) c [0, 1, 2, 3, 4, 5, 6, 7, 8, 9, 10, 11, 12, 13, 14, 15]
    ∗ XS (F := F) c 0 ∗ XS (F := F) c 1 ∗ semVal ((c : Thread nD τ), .dma 2) 0 ∗ semVal ((c : Thread nD τ), .dma 3) 0
    ∗ xhB I c 0 ∗ xhB I c 1 ∗ xhB I c 2 ∗ xhB I c 3 ∗ xhB I c 4 ∗ xhB I c 5 ∗ xhB I c 6 ∗ xhB I c 7
    ∗ AX (F := F) c 0 ∗ AX (F := F) c 512 ∗ AX (F := F) c 1024 ∗ AX (F := F) c 1536
    ∗ BX (F := F) c 0 ∗ BX (F := F) c 512 ∗ BX (F := F) c 1024 ∗ BX (F := F) c 1536
    ∗ (∃ f, wlaP (F := F) c Finset.univ fullShare f) ∗ (∃ f, wlbP (F := F) c Finset.univ fullShare f))
/-- The state when all but the last staged strips have arrived. -/
def stMid (c : Dev nD) : sProp 𝕄 :=
  iprop(Todo (F := F) c [4, 5, 6, 7, 8, 9, 10, 11, 12, 13, 14, 15]
    ∗ (whP c Finset.univ fullShare (I.w c) ∗ (∃ f, wstgP (F := F) c Finset.univ fullShare f) ∗ semVal ((c : Thread nD τ), .dma 4) 0)
    ∗ (xhB I c 0 ∗ xhB I c 1 ∗ xhB I c 2 ∗ xhB I c 3 ∗ xhB I c 4 ∗ xhB I c 5 ∗ xhB I c 6)
    ∗ XS (F := F) c 0 ∗ semVal ((c : Thread nD τ), .dma 2) 0
    ∗ Flight EC (c : Thread nD τ) (.dma 3) () nX iprop(XSr I c 7 1 ∗ xhB I c 7)
    ∗ xlaP c (rows 0 1024) qL (XLA I c) ∗ xlaP c (rows 1024 1536) fullShare (XLA I c) ∗ xlaP c (rows 1536 2048) fullShare (XLA I c)
    ∗ xlbP c (rows 0 1024) qL (XLB I c) ∗ xlbP c (rows 1024 1536) fullShare (XLB I c) ∗ BX (F := F) c 1536
    ∗ wlaP c Finset.univ qL (WLA I c) ∗ wlbP c Finset.univ qL (WLB I c)
    ∗ fly (F := F) c 0 ∗ fly (F := F) c 1 ∗ fly (F := F) c 2 ∗ fly (F := F) c 3)

/-- Staging the inputs: the strips of `x` arrive through two slots, the two halves of `w` through one buffer; each first half is sent on once it is complete. -/
theorem wp_stage {α : Type} {Q : α → sProp 𝕄} (c : Dev nD) (v13 v24 : BitVec 32) {k : ((_ : BitVec 32) ×' BitVec 32) → Prog (TpuEff nD τ sig (Elt F) Λ₀ .tc) α} :
    iprop(Invs I K ∗ stIn I c) ⊢ iprop((∀ r, stMid I c -∗ wpC c (k r) Q) -∗ wpC c (pk k0_part2 >>= fun _ => pk k0_part3 >>= fun _ => pk k0_part4 c v24 >>= fun _ => pk k0_part5 c v13 v24 >>= fun _ => pk k0_part6 c v13 >>= fun _ => pk k0_part7 v24 >>= k) Q) := by
  simp only [pk, k0_part2_eq_skeleton, k0_part3_eq_skeleton, k0_part4_eq_skeleton, k0_part5_eq_skeleton, k0_part6_eq_skeleton, k0_part7_eq_skeleton]
  unfold k0_part2_skel k0_part3_skel k0_part4_skel k0_part5_skel k0_part6_skel k0_part7_skel
  simp only [Prog.lift, Prog.bind_op, Prog.bind_ret, Prog.pure_eq_ret]
  unfold stIn
  iintro ⟨#HI, HFW, HT, HS0, HS1, Hz2, Hz3, Hx0, Hx1, Hx2, Hx3, Hx4, Hx5, Hx6, Hx7, HA0, HA1, HA2, HA3, HB0, HB1, HB2, HB3, HWA, HWB⟩ Hk
  iapply (wp_xcopy I c 0 0 0 2 (by decide) rfl rfl rfl) $$ [Hx0 HS0 Hz2]
  · iframe
  iintro HF0
  iapply (wp_xcopy I c 4 1 2048 3 (by decide) rfl rfl rfl) $$ [Hx4 HS1 Hz3]
  · iframe
  iintro HF1
  iapply (wp_xin_a I K c _ 0 0 0 ne_x0 rfl (xs_cast I c 0)) $$ [HF0 HT HA0]
  · iframe HI; iframe
  iintro ⟨Hx0, HS0, Hz2, HT, HA0⟩
  iapply (wp_xcopy I c 1 0 512 2 (by decide) rfl rfl rfl) $$ [Hx1 HS0 Hz2]
  · iframe
  iintro HF0
  iapply (wp_xin_b I K c _ 4 1 0 ne_x1 rfl (xs_cast I c 4)) $$ [HF1 HT HB0]
  · iframe HI; iframe
  iintro ⟨Hx4, HS1, Hz3, HT, HB0⟩
  iapply (wp_xcopy I c 5 1 2560 3 (by decide) rfl rfl rfl) $$ [Hx5 HS1 Hz3]
  · iframe
  iintro HF1
  iapply (wp_xin_a I K c _ 1 0 512 ne_x0 rfl (xs_cast I c 1)) $$ [HF0 HT HA1]
  · iframe HI; iframe
  iintro ⟨Hx1, HS0, Hz2, HT, HA1⟩
  iapply (wp_xcopy I c 2 0 1024 2 (by decide) rfl rfl rfl) $$ [Hx2 HS0 Hz2]
  · iframe
  iintro HF0
  ihave HA := (xla_half c 0 512 1024 (XLA I c) (by decide) (by decide)) $$ [HA0 HA1]
  · isplitl [HA0] <;> iassumption
  icases HA with ⟨HA, HR⟩
  iapply (send_xa₀ I K c 0 _ _ (dev3_eq c) 0 rfl (fun _ _ _ _ => rfl) (dev3_eq c) rfl) $$ [HR HT]
  · iframe HI; iframe
  iintro ⟨Hf0, HT⟩
  iapply (wp_xin_b I K c _ 5 1 512 ne_x1 rfl (xs_cast I c 5)) $$ [HF1 HT HB1]
  · iframe HI; iframe
  iintro ⟨Hx5, HS1, Hz3, HT, HB1⟩
  iapply (wp_xcopy I c 6 1 3072 3 (by decide) rfl rfl rfl) $$ [Hx6 HS1 Hz3]
  · iframe
  iintro HF1
  ihave HB := (xlb_half c 0 512 1024 (XLB I c) (by decide) (by decide)) $$ [HB0 HB1]
  · isplitl [HB0] <;> iassumption
  icases HB with ⟨HB, HR⟩
  iapply (send_xb₀ I K c 1 _ _ (dev4_eq c) 0 rfl (fun _ _ _ _ => rfl) (dev4_eq c) rfl) $$ [HR HT]
  · iframe HI; iframe
  iintro ⟨Hf1, HT⟩
  iapply (wp_win I K c _ ne_w) $$ [HFW HT HWA HWB]
  · iframe HI; iframe
  iintro ⟨Hwh, Hws, Hz4, HT, HWA, HWB⟩
  ihave HWA := pts_half.1 $$ HWA
  icases HWA with ⟨HWA, HR⟩
  iapply (send_wa₀ I K c 2 _ _ (dev5_eq c) rfl (fun _ _ _ _ => rfl) (dev5_eq c) rfl) $$ [HR HT]
  · iframe HI; iframe
  iintro ⟨Hf2, HT⟩
  ihave HWB := pts_half.1 $$ HWB
  icases HWB with ⟨HWB, HR⟩
  iapply (send_wb₀ I K c 3 _ _ (dev6_eq c) rfl (fun _ _ _ _ => rfl) (dev6_eq c) rfl) $$ [HR HT]
  · iframe HI; iframe
  iintro ⟨Hf3, HT⟩
  iapply (wp_xin_a I K c _ 2 0 1024 ne_x0 rfl (xs_cast I c 2)) $$ [HF0 HT HA2]
  · iframe HI; iframe
  iintro ⟨Hx2, HS0, Hz2, HT, HA2⟩
  iapply (wp_xcopy I c 3 0 1536 2 (by decide) rfl rfl rfl) $$ [Hx3 HS0 Hz2]
  · iframe
  iintro HF0
  iapply (wp_xin_b I K c _ 6 1 1024 ne_x1 rfl (xs_cast I c 6)) $$ [HF1 HT HB2]
  · iframe HI; iframe
  iintro ⟨Hx6, HS1, Hz3, HT, HB2⟩
  iapply (wp_xcopy I c 7 1 3584 3 (by decide) rfl rfl rfl) $$ [Hx7 HS1 Hz3]
  · iframe
  iintro HF1
  iapply (wp_xin_a I K c _ 3 0 1536 ne_x0 rfl (xs_cast I c 3)) $$ [HF0 HT HA3]
  · iframe HI; iframe
  iintro ⟨Hx3, HS0, Hz2, HT, HA3⟩
  unfold stMid
  iapply Hk
  iframe HT; iframe Hwh Hws Hz4; iframe Hx0 Hx1 Hx2 Hx3 Hx4 Hx5 Hx6; iframe HS0 Hz2 HF1; iframe HA; iframe HA2; iframe HA3; iframe HB; iframe HB2; iframe

end Cert.KernelIdeal.Work
-- ==== Proof.KernelIdeal.Body2.lean ====
/- The body's parts: the second halves sent, and the products of the own blocks. -/
module

public import proofs.«01_k».proof.Proof.KernelIdeal.Body1

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

theorem xla_join (c : Dev nD) (a b d : ℕ) (q : PosShare TreeShare) (f : S2048x1024.Idx → F .fp8e5m2) (h : a ≤ b) (h' : b ≤ d) :
    iprop(xlaP c (rows a b) q f ∗ xlaP c (rows b d) q f) ⊢ xlaP c (rows a d) q f := (pts_cut (rows_union h h') (rows_disjoint (.inl le_rfl))).2
theorem xlb_join (c : Dev nD) (a b d : ℕ) (q : PosShare TreeShare) (f : S2048x1024.Idx → F .fp8e5m2) (h : a ≤ b) (h' : b ≤ d) :
    iprop(xlbP c (rows a b) q f ∗ xlbP c (rows b d) q f) ⊢ xlbP c (rows a d) q f := (pts_cut (rows_union h h') (rows_disjoint (.inl le_rfl))).2

/-- The inputs as loads see them: the half share kept of each. -/
def Own (c : Dev nD) : sProp 𝕄 :=
  iprop(xlaP c (rows 0 2048) qL (XLA I c) ∗ xlbP c (rows 0 2048) qL (XLB I c) ∗ wlaP c Finset.univ qL (WLA I c) ∗ wlbP c Finset.univ qL (WLB I c))

theorem acc_zero (c : Dev nD) : (iprop(∃ f, accP (F := F) c Finset.univ fullShare f) : sProp 𝕄) ⊢ Acc I c 0 := by
  unfold Acc
  iintro ⟨%f, H⟩
  iexists f
  isplitr
  · ipureintro
    intro r q hr hq h
    exact absurd h (by unfold cnt; simp)
  iexact H

/-- Sending the second halves, and the four products of the own half blocks. -/
theorem wp_local {α : Type} {Q : α → sProp 𝕄} (c : Dev nD) (v13 v191 c0 : BitVec 32) {k : PUnit → Prog (TpuEff nD τ sig (Elt F) Λ₀ .tc) α} :
    iprop(Invs I K ∗ Todo (F := F) c [4, 5, 6, 7, 8, 9, 10, 11, 12, 13, 14, 15] ∗ Flight EC (c : Thread nD τ) (.dma 3) () nX iprop(XSr I c 7 1 ∗ xhB I c 7)
        ∗ (xlaP c (rows 0 1024) qL (XLA I c) ∗ xlaP c (rows 1024 1536) fullShare (XLA I c) ∗ xlaP c (rows 1536 2048) fullShare (XLA I c)
          ∗ xlbP c (rows 0 1024) qL (XLB I c) ∗ xlbP c (rows 1024 1536) fullShare (XLB I c) ∗ BX (F := F) c 1536)
        ∗ wlaP c Finset.univ qL (WLA I c) ∗ wlbP c Finset.univ qL (WLB I c) ∗ (∃ f, accP (F := F) c Finset.univ fullShare f))
      ⊢ iprop((iprop(Todo (F := F) c [6, 7, 8, 9, 10, 11, 12, 13, 14, 15] ∗ fly (F := F) c 4 ∗ fly (F := F) c 5 ∗ (xhB I c 7 ∗ XS (F := F) c 1 ∗ semVal ((c : Thread nD τ), .dma 3) 0)
            ∗ Own I c ∗ Acc I c 16) -∗ wpC c (k ⟨⟩) Q)
          -∗ wpC c (pk k0_part8 c v13 v191 c0 >>= fun v => pk k0_part9 v >>= fun v => pk k0_part10 v >>= fun v => pk k0_part11 v >>= fun v => pk k0_part12 v >>= k) Q) := by
  simp only [pk, k0_part8_eq_skeleton, k0_part9_eq_skeleton, k0_part10_eq_skeleton, k0_part11_eq_skeleton, k0_part12_eq_skeleton]
  unfold k0_part8_skel k0_part9_skel k0_part10_skel k0_part11_skel k0_part12_skel
  simp only [Prog.lift, Prog.bind_op, Prog.bind_ret, Prog.pure_eq_ret]
  iintro ⟨#HI, HT, HF1, ⟨HA0, HA2, HA3, HB0, HB2, HB3⟩, HWA, HWB, HC⟩ Hk
  ihave HC := (acc_zero I c) $$ HC
  ihave HA := (xla_half c 1024 1536 2048 (XLA I c) (by decide) (by decide)) $$ [HA2 HA3]
  · iframe
  icases HA with ⟨HA, HR⟩
  iapply (send_xa₀ I K c 4 _ _ (dev7_eq c) 1024 rfl (fun _ _ _ _ => rfl) (dev7_eq c) rfl) $$ [HR HT]
  · iframe HI; iframe
  iintro ⟨Hf4, HT⟩
  ihave HA := (xla_join c 0 1024 2048 qL (XLA I c) (by decide) (by decide)) $$ [HA0 HA]
  · iframe
  iapply (wp_xin_b I K c _ 7 1 1536 ne_x1 rfl (xs_cast I c 7)) $$ [HF1 HT HB3]
  · iframe HI; iframe
  iintro ⟨Hx7, HS1, Hz3, HT, HB3⟩
  ihave HB := (xlb_half c 1024 1536 2048 (XLB I c) (by decide) (by decide)) $$ [HB2 HB3]
  · iframe
  icases HB with ⟨HB, HR⟩
  iapply (send_xb₀ I K c 5 _ _ (dev8_eq c) 1024 rfl (fun _ _ _ _ => rfl) (dev8_eq c) rfl) $$ [HR HT]
  · iframe HI; iframe
  iintro ⟨Hf5, HT⟩
  ihave HB := (xlb_join c 0 1024 2048 qL (XLB I c) (by decide) (by decide)) $$ [HB0 HB]
  · iframe
  iapply (wp_blk1 I c 0 0 0 0 0 (by decide) (by decide) rfl (by decide) rfl rfl (ldx_la (a := 0) (b := 2048) I c qL _ 0 rfl (by decide) (by decide)) (ldw_la I c qL _) (pay := k0_pay11) (by unfold k0_pay11; exact shapeCast_self _ _)) $$ [HA HWA HC]
  · iframe
  iintro ⟨HA, HWA, HC⟩
  iapply (wp_blk1 I c 1 1 0 512 0 (by decide) (by decide) rfl (by decide) rfl rfl (ldx_la (a := 0) (b := 2048) I c qL _ 1 rfl (by decide) (by decide)) (ldw_la I c qL _) (pay := k0_pay12) (by unfold k0_pay12; exact shapeCast_self _ _)) $$ [HA HWA HC]
  · iframe
  iintro ⟨HA, HWA, HC⟩
  iapply (wp_blk1 I c 2 2 0 1024 0 (by decide) (by decide) rfl (by decide) rfl rfl (ldx_la (a := 0) (b := 2048) I c qL _ 2 rfl (by decide) (by decide)) (ldw_la I c qL _) (pay := k0_pay13) (by unfold k0_pay13; exact shapeCast_self _ _)) $$ [HA HWA HC]
  · iframe
  iintro ⟨HA, HWA, HC⟩
  iapply (wp_blk1 I c 3 3 0 1536 0 (by decide) (by decide) rfl (by decide) rfl rfl (ldx_la (a := 0) (b := 2048) I c qL _ 3 rfl (by decide) (by decide)) (ldw_la I c qL _) (pay := k0_pay14) (by unfold k0_pay14; exact shapeCast_self _ _)) $$ [HA HWA HC]
  · iframe
  iintro ⟨HA, HWA, HC⟩
  iapply (wp_blk1 I c 4 0 1 0 1024 (by decide) (by decide) rfl (by decide) rfl rfl (ldx_la (a := 0) (b := 2048) I c qL _ 0 rfl (by decide) (by decide)) (ldw_lb I c qL _) (pay := k0_pay15) (by unfold k0_pay15; exact shapeCast_self _ _)) $$ [HA HWB HC]
  · iframe
  iintro ⟨HA, HWB, HC⟩
  iapply (wp_blk1 I c 5 1 1 512 1024 (by decide) (by decide) rfl (by decide) rfl rfl (ldx_la (a := 0) (b := 2048) I c qL _ 1 rfl (by decide) (by decide)) (ldw_lb I c qL _) (pay := k0_pay16) (by unfold k0_pay16; exact shapeCast_self _ _)) $$ [HA HWB HC]
  · iframe
  iintro ⟨HA, HWB, HC⟩
  iapply (wp_blk1 I c 6 2 1 1024 1024 (by decide) (by decide) rfl (by decide) rfl rfl (ldx_la (a := 0) (b := 2048) I c qL _ 2 rfl (by decide) (by decide)) (ldw_lb I c qL _) (pay := k0_pay17) (by unfold k0_pay17; exact shapeCast_self _ _)) $$ [HA HWB HC]
  · iframe
  iintro ⟨HA, HWB, HC⟩
  iapply (wp_blk1 I c 7 3 1 1536 1024 (by decide) (by decide) rfl (by decide) rfl rfl (ldx_la (a := 0) (b := 2048) I c qL _ 3 rfl (by decide) (by decide)) (ldw_lb I c qL _) (pay := k0_pay18) (by unfold k0_pay18; exact shapeCast_self _ _)) $$ [HA HWB HC]
  · iframe
  iintro ⟨HA, HWB, HC⟩
  iapply (wp_blk1 I c 8 4 0 2048 0 (by decide) (by decide) rfl (by decide) rfl rfl (ldx_lb (a := 0) (b := 2048) I c qL _ 4 rfl (by decide) (by decide)) (ldw_la I c qL _) (pay := k0_pay19) (by unfold k0_pay19; exact shapeCast_self _ _)) $$ [HB HWA HC]
  · iframe
  iintro ⟨HB, HWA, HC⟩
  iapply (wp_blk1 I c 9 5 0 2560 0 (by decide) (by decide) rfl (by decide) rfl rfl (ldx_lb (a := 0) (b := 2048) I c qL _ 5 rfl (by decide) (by decide)) (ldw_la I c qL _) (pay := k0_pay20) (by unfold k0_pay20; exact shapeCast_self _ _)) $$ [HB HWA HC]
  · iframe
  iintro ⟨HB, HWA, HC⟩
  iapply (wp_blk1 I c 10 6 0 3072 0 (by decide) (by decide) rfl (by decide) rfl rfl (ldx_lb (a := 0) (b := 2048) I c qL _ 6 rfl (by decide) (by decide)) (ldw_la I c qL _) (pay := k0_pay21) (by unfold k0_pay21; exact shapeCast_self _ _)) $$ [HB HWA HC]
  · iframe
  iintro ⟨HB, HWA, HC⟩
  iapply (wp_blk1 I c 11 7 0 3584 0 (by decide) (by decide) rfl (by decide) rfl rfl (ldx_lb (a := 0) (b := 2048) I c qL _ 7 rfl (by decide) (by decide)) (ldw_la I c qL _) (pay := k0_pay22) (by unfold k0_pay22; exact shapeCast_self _ _)) $$ [HB HWA HC]
  · iframe
  iintro ⟨HB, HWA, HC⟩
  iapply (wp_blk1 I c 12 4 1 2048 1024 (by decide) (by decide) rfl (by decide) rfl rfl (ldx_lb (a := 0) (b := 2048) I c qL _ 4 rfl (by decide) (by decide)) (ldw_lb I c qL _) (pay := k0_pay23) (by unfold k0_pay23; exact shapeCast_self _ _)) $$ [HB HWB HC]
  · iframe
  iintro ⟨HB, HWB, HC⟩
  iapply (wp_blk1 I c 13 5 1 2560 1024 (by decide) (by decide) rfl (by decide) rfl rfl (ldx_lb (a := 0) (b := 2048) I c qL _ 5 rfl (by decide) (by decide)) (ldw_lb I c qL _) (pay := k0_pay24) (by unfold k0_pay24; exact shapeCast_self _ _)) $$ [HB HWB HC]
  · iframe
  iintro ⟨HB, HWB, HC⟩
  iapply (wp_blk1 I c 14 6 1 3072 1024 (by decide) (by decide) rfl (by decide) rfl rfl (ldx_lb (a := 0) (b := 2048) I c qL _ 6 rfl (by decide) (by decide)) (ldw_lb I c qL _) (pay := k0_pay25) (by unfold k0_pay25; exact shapeCast_self _ _)) $$ [HB HWB HC]
  · iframe
  iintro ⟨HB, HWB, HC⟩
  iapply (wp_blk1 I c 15 7 1 3584 1024 (by decide) (by decide) rfl (by decide) rfl rfl (ldx_lb (a := 0) (b := 2048) I c qL _ 7 rfl (by decide) (by decide)) (ldw_lb I c qL _) (pay := k0_pay26) (by unfold k0_pay26; exact shapeCast_self _ _)) $$ [HB HWB HC]
  · iframe
  iintro ⟨HB, HWB, HC⟩
  unfold Own
  iapply Hk
  iframe HT; iframe Hf4; iframe Hf5; iframe Hx7 HS1 Hz3; iframe HA HB HWA HWB; iframe

end Cert.KernelIdeal.Work
-- ==== Proof.KernelIdeal.Rings.lean ====
/- What arrives in the rings' slots, and what is left of a transfer. -/
module

public import proofs.«01_k».proof.Proof.KernelIdeal.Body2

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

/-- Join two stretches of a slot. -/
theorem slab_join {ℓ : Loc nD τ sig} {S A B : Finset (Idx ℓ)} {q : PosShare TreeShare} {f : Buf (Elt F) ℓ} (h : A ∪ B = S) (hd : Disjoint A B) :
    iprop((ℓ ↦[A]{q} f) ∗ ℓ ↦[B]{q} f) ⊢ (ℓ ↦[S]{q} f : sProp 𝕄) := (pts_cut h hd).2
/-- Halve a stretch and cut the lent half in two. -/
theorem half_cut {ℓ : Loc nD τ sig} {S A B : Finset (Idx ℓ)} {f : Buf (Elt F) ℓ} (h : A ∪ B = S) (hd : Disjoint A B) :
    (ℓ ↦[S]{fullShare} f) ⊢ (iprop((ℓ ↦[S]{qL} f) ∗ (ℓ ↦[A]{qR} f) ∗ ℓ ↦[B]{qR} f) : sProp 𝕄) := by
  iintro H
  ihave H := (pts_half.1) $$ H
  icases H with ⟨HL, HR⟩
  ihave HR := ((pts_cut h hd).1) $$ HR
  iframe
/-- The kept half and the two parts of the lent one make the whole again. -/
theorem half_uncut {ℓ : Loc nD τ sig} {S A B : Finset (Idx ℓ)} {f : Buf (Elt F) ℓ} (h : A ∪ B = S) (hd : Disjoint A B) :
    iprop((ℓ ↦[S]{qL} f) ∗ (ℓ ↦[A]{qR} f) ∗ ℓ ↦[B]{qR} f) ⊢ (ℓ ↦[S]{fullShare} f : sProp 𝕄) := by
  iintro ⟨HL, HA, HB⟩
  ihave HR := ((pts_cut h hd).2) $$ [HA HB]
  · iframe
  iapply (pts_half.2)
  iframe

section Got
variable (c : Dev nD)
/-! What arrives, cut into the half kept and the half passed on. -/
theorem got_xa0 : iprop(recvPay I c 0 ∗ recvPay I c 4) ⊢ iprop(xgaP c (slab 0 0 2048) qL (XGA I c) ∗ xgaP c (slab 0 0 2048) qR (XGA I c)) :=
  join_half (slab_union (by decide) (by decide)) (slab_disjoint (.inr (.inl le_rfl)))
theorem got_xb0 : iprop(recvPay I c 1 ∗ recvPay I c 5) ⊢ iprop(xgbP c (slab 0 0 2048) qL (XGB I c) ∗ xgbP c (slab 0 0 2048) qR (XGB I c)) :=
  join_half (slab_union (by decide) (by decide)) (slab_disjoint (.inr (.inl le_rfl)))
theorem got_wa0 : recvPay I c 2 ⊢ iprop(wgaP c (slab 0 0 1024) qL (WGA I c) ∗ wgaP c (slab 0 0 1024) qR (WGA I c)) := pts_half.1
theorem got_wb0 : recvPay I c 3 ⊢ iprop(wgbP c (slab 0 0 1024) qL (WGB I c) ∗ wgbP c (slab 0 0 1024) qR (WGB I c)) := pts_half.1
theorem got_wa1 : recvPay I c 6 ⊢ iprop(wgaP c (slab 1 0 1024) qL (WGA I c) ∗ wgaP c (slab 1 0 1024) qR (WGA I c)) := pts_half.1
theorem got_wb1 : recvPay I c 8 ⊢ iprop(wgbP c (slab 1 0 1024) qL (WGB I c) ∗ wgbP c (slab 1 0 1024) qR (WGB I c)) := pts_half.1
theorem got_xa1 : recvPay I c 7 ⊢ iprop(xgaP c (slab 1 0 2048) qL (XGA I c) ∗ xgaP c (slab 1 0 1024) qR (XGA I c) ∗ xgaP c (slab 1 1024 2048) qR (XGA I c)) :=
  half_cut (slab_union (by decide) (by decide)) (slab_disjoint (.inr (.inl le_rfl)))
theorem got_xb1 : recvPay I c 9 ⊢ iprop(xgbP c (slab 1 0 2048) qL (XGB I c) ∗ xgbP c (slab 1 0 1024) qR (XGB I c) ∗ xgbP c (slab 1 1024 2048) qR (XGB I c)) :=
  half_cut (slab_union (by decide) (by decide)) (slab_disjoint (.inr (.inl le_rfl)))
theorem got_10 : recvPay I c 10 ⊢ wgaP c (slab 2 0 1024) fullShare (WGA I c) := Entails.of_eq rfl
theorem got_11 : recvPay I c 11 ⊢ xgaP c (slab 2 0 1024) fullShare (XGA I c) := Entails.of_eq rfl
theorem got_12 : recvPay I c 12 ⊢ xgaP c (slab 2 1024 2048) fullShare (XGA I c) := Entails.of_eq rfl
theorem got_13 : recvPay I c 13 ⊢ wgbP c (slab 2 0 1024) fullShare (WGB I c) := Entails.of_eq rfl
theorem got_14 : recvPay I c 14 ⊢ xgbP c (slab 2 0 1024) fullShare (XGB I c) := Entails.of_eq rfl
theorem got_15 : recvPay I c 15 ⊢ xgbP c (slab 2 1024 2048) fullShare (XGB I c) := Entails.of_eq rfl
end Got

/-- What is left of a transfer once waited for: the lent half of its source, and its cells at their ends. -/
def Ret (c : Dev nD) (t : Fin 16) : sProp 𝕄 := iprop(sendPay I c t ∗ done (F := F) c t)
/-- The transfers through the first landing slots. -/
def Ret₁ (c : Dev nD) : sProp 𝕄 := iprop(Ret I c 0 ∗ Ret I c 1 ∗ Ret I c 2 ∗ Ret I c 3 ∗ Ret I c 4 ∗ Ret I c 5)
def Ret₂ (c : Dev nD) : sProp 𝕄 := iprop(Ret I c 6 ∗ Ret I c 7 ∗ Ret I c 8 ∗ Ret I c 9)
def Ret₃ (c : Dev nD) : sProp 𝕄 := iprop(Ret I c 10 ∗ Ret I c 11 ∗ Ret I c 12 ∗ Ret I c 13 ∗ Ret I c 14 ∗ Ret I c 15)

/-- Both waits of a transfer. -/
theorem wp_wt (c : Dev nD) (t : Fin 16) (l : List (Fin 16)) (hl : ∀ t' ∈ l, rlv t < rlv t') {sp₁ sp₂ sp₃ sp₄ : Space} {s₁ s₂ s₃ s₄ : Shape} {e₁ e₂ e₃ e₄ : EltTy}
    {a : Memref sig .tc sp₁ s₁ e₁} {b : Memref sig .tc sp₂ s₂ e₂} {a' : Memref sig .tc sp₃ s₃ e₃} {b' : Memref sig .tc sp₄ s₄ e₄}
    {ha : a.view.WordExact} {hb : b.view.WordExact} {ha' : a'.view.WordExact} {hb' : b'.view.WordExact}
    (hN : b.view.dmaCredit = Nn t) (hN' : b'.view.dmaCredit = Nn t)
    {α : Type} {Q : α → sProp 𝕄} {k : PUnit → Prog (TpuEff nD τ sig (Elt F) Λ₀ .tc) α} :
    iprop(Invs I K ∗ fly (F := F) c t ∗ Todo (F := F) c l)
      ⊢ iprop((iprop(Ret I c t ∗ recvPay I c t ∗ Todo (F := F) c l) -∗ wpC c (k ⟨⟩) Q)
          -∗ wpC c (.op (.waitDma2 (sendSem t) a b ha hb) fun _ => .op (.waitDma2 (recvSem t) a' b' ha' hb') k) Q) := by
  iintro ⟨#HI, Hf, HT⟩ Hk
  iapply (wp_wait_t I K c t l hl hN hN') $$ [Hf HT]
  · iframe HI; iframe
  iintro ⟨Hs, Hr, Hd, HT⟩
  iapply Hk
  unfold Ret
  iframe

end Cert.KernelIdeal.Work
-- ==== Proof.KernelIdeal.Body3.lean ====
/- The body's parts: the first landing slots passed on and multiplied. -/
module

public import proofs.«01_k».proof.Proof.KernelIdeal.Rings

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

/-- The first transfers waited for, and three passed on. -/
theorem wp_pass {α : Type} {Q : α → sProp 𝕄} (c : Dev nD) (v13 v24 : BitVec 32) {k : PUnit → Prog (TpuEff nD τ sig (Elt F) Λ₀ .tc) α} :
    iprop(Invs I K ∗ Todo (F := F) c [6, 7, 8, 9, 10, 11, 12, 13, 14, 15] ∗ fly (F := F) c 0 ∗ fly (F := F) c 1 ∗ fly (F := F) c 2 ∗ fly (F := F) c 3 ∗ fly (F := F) c 4 ∗ fly (F := F) c 5)
      ⊢ iprop((iprop(Todo (F := F) c [9, 10, 11, 12, 13, 14, 15] ∗ fly (F := F) c 6 ∗ fly (F := F) c 7 ∗ fly (F := F) c 8 ∗ Ret₁ I c
            ∗ xgaP c (slab 0 0 2048) qL (XGA I c) ∗ xgbP c (slab 0 0 2048) qL (XGB I c) ∗ xgbP c (slab 0 0 2048) qR (XGB I c) ∗ wgaP c (slab 0 0 1024) qL (WGA I c) ∗ wgbP c (slab 0 0 1024) qL (WGB I c)) -∗ wpC c (k ⟨⟩) Q)
          -∗ wpC c (pk k0_part13 v13 v24 >>= fun _ => pk k0_part14 v13 v24 >>= fun _ => pk k0_part15 v13 v24 >>= fun _ => pk k0_part16 c v13 v24 >>= k) Q) := by
  simp only [pk, k0_part13_eq_skeleton, k0_part14_eq_skeleton, k0_part15_eq_skeleton, k0_part16_eq_skeleton]
  unfold k0_part13_skel k0_part14_skel k0_part15_skel k0_part16_skel
  simp only [Prog.lift, Prog.bind_op, Prog.bind_ret, Prog.pure_eq_ret]
  iintro ⟨#HI, HT, Hf0, Hf1, Hf2, Hf3, Hf4, Hf5⟩ Hk
  iapply (wp_wt I K c 0 [6, 7, 8, 9, 10, 11, 12, 13, 14, 15] (by decide) ?hN ?hN') $$ [Hf0 HT]
  case hN => rfl
  case hN' => rfl
  · iframe HI; iframe
  iintro ⟨Hd0, Hr0, HT⟩
  iapply (wp_wt I K c 1 [6, 7, 8, 9, 10, 11, 12, 13, 14, 15] (by decide) ?hN ?hN') $$ [Hf1 HT]
  case hN => rfl
  case hN' => rfl
  · iframe HI; iframe
  iintro ⟨Hd1, Hr1, HT⟩
  iapply (wp_wt I K c 2 [6, 7, 8, 9, 10, 11, 12, 13, 14, 15] (by decide) ?hN ?hN') $$ [Hf2 HT]
  case hN => rfl
  case hN' => rfl
  · iframe HI; iframe
  iintro ⟨Hd2, Hr2, HT⟩
  iapply (wp_wt I K c 3 [6, 7, 8, 9, 10, 11, 12, 13, 14, 15] (by decide) ?hN ?hN') $$ [Hf3 HT]
  case hN => rfl
  case hN' => rfl
  · iframe HI; iframe
  iintro ⟨Hd3, Hr3, HT⟩
  iapply (wp_wt I K c 4 [6, 7, 8, 9, 10, 11, 12, 13, 14, 15] (by decide) ?hN ?hN') $$ [Hf4 HT]
  case hN => rfl
  case hN' => rfl
  · iframe HI; iframe
  iintro ⟨Hd4, Hr4, HT⟩
  iapply (wp_wt I K c 5 [6, 7, 8, 9, 10, 11, 12, 13, 14, 15] (by decide) ?hN ?hN') $$ [Hf5 HT]
  case hN => rfl
  case hN' => rfl
  · iframe HI; iframe
  iintro ⟨Hd5, Hr5, HT⟩
  ihave H := (got_xa0 I c) $$ [Hr0 Hr4]
  · iframe
  icases H with ⟨HXA, HXAr⟩
  ihave H := (got_xb0 I c) $$ [Hr1 Hr5]
  · iframe
  icases H with ⟨HXB, HXBr⟩
  ihave H := (got_wa0 I c) $$ [Hr2]
  · iframe
  icases H with ⟨HWA, HWAr⟩
  ihave H := (got_wb0 I c) $$ [Hr3]
  · iframe
  icases H with ⟨HWB, HWBr⟩
  iapply (send_wa I K c 6 _ _ (dev9_eq c) 0 1 rfl (fun _ _ _ _ => rfl) ⟨dev9_eq c, rfl, by decide⟩ rfl) $$ [HWAr HT]
  · iframe HI; iframe
  iintro ⟨Hf6, HT⟩
  iapply (send_xa I K c 7 _ _ (dev10_eq c) 0 1 0 2048 rfl (fun _ _ _ _ => rfl) ⟨dev10_eq c, rfl, by decide⟩ rfl) $$ [HXAr HT]
  · iframe HI; iframe
  iintro ⟨Hf7, HT⟩
  iapply (send_wb I K c 8 _ _ (dev11_eq c) 0 1 rfl (fun _ _ _ _ => rfl) ⟨dev11_eq c, rfl, by decide⟩ rfl) $$ [HWBr HT]
  · iframe HI; iframe
  iintro ⟨Hf8, HT⟩
  unfold Ret₁
  iapply Hk
  iframe HT; iframe Hf6; iframe Hf7; iframe Hf8; iframe Hd0 Hd1 Hd2 Hd3 Hd4 Hd5; iframe

/-- The kept halves of the first landing slots. -/
def Near (c : Dev nD) : sProp 𝕄 := iprop(xgaP c (slab 0 0 2048) qL (XGA I c) ∗ xgbP c (slab 0 0 2048) qL (XGB I c) ∗ wgaP c (slab 0 0 1024) qL (WGA I c) ∗ wgbP c (slab 0 0 1024) qL (WGB I c))
/-- And of the second. -/
def Mid (c : Dev nD) : sProp 𝕄 := iprop(xgaP c (slab 1 0 2048) qL (XGA I c) ∗ xgbP c (slab 1 0 2048) qL (XGB I c) ∗ wgaP c (slab 1 0 1024) qL (WGA I c) ∗ wgbP c (slab 1 0 1024) qL (WGB I c))

/-- The products of the blocks one place off in both rings; the second slots waited for, the first of them passed on. -/
theorem wp_near {α : Type} {Q : α → sProp 𝕄} (c : Dev nD) (v13 v24 : BitVec 32) {k : PUnit → Prog (TpuEff nD τ sig (Elt F) Λ₀ .tc) α} :
    iprop(Invs I K ∗ Todo (F := F) c [9, 10, 11, 12, 13, 14, 15] ∗ fly (F := F) c 6 ∗ fly (F := F) c 7 ∗ fly (F := F) c 8
            ∗ (xgaP c (slab 0 0 2048) qL (XGA I c) ∗ xgbP c (slab 0 0 2048) qL (XGB I c) ∗ xgbP c (slab 0 0 2048) qR (XGB I c) ∗ wgaP c (slab 0 0 1024) qL (WGA I c) ∗ wgbP c (slab 0 0 1024) qL (WGB I c)) ∗ Acc I c 16)
      ⊢ iprop((iprop(Todo (F := F) c [13, 14, 15] ∗ fly (F := F) c 10 ∗ fly (F := F) c 11 ∗ fly (F := F) c 12 ∗ Ret₂ I c ∗ Near I c
            ∗ xgaP c (slab 1 0 2048) qL (XGA I c) ∗ wgaP c (slab 1 0 1024) qL (WGA I c) ∗ recvPay I c 8 ∗ recvPay I c 9 ∗ Acc I c 24) -∗ wpC c (k ⟨⟩) Q)
          -∗ wpC c (pk k0_part17 c >>= fun _ => pk k0_part18 >>= fun v => pk k0_part19 v >>= fun v => pk k0_part20 v24 v >>= fun v => pk k0_part21 v24 v >>= fun _ =>
              pk k0_part22 c v24 >>= fun _ => pk k0_part23 v13 >>= k) Q) := by
  simp only [pk, k0_part17_eq_skeleton, k0_part18_eq_skeleton, k0_part19_eq_skeleton, k0_part20_eq_skeleton, k0_part21_eq_skeleton, k0_part22_eq_skeleton, k0_part23_eq_skeleton]
  unfold k0_part17_skel k0_part18_skel k0_part19_skel k0_part20_skel k0_part21_skel k0_part22_skel k0_part23_skel
  simp only [Prog.lift, Prog.bind_op, Prog.bind_ret, Prog.pure_eq_ret]
  iintro ⟨#HI, HT, Hf6, Hf7, Hf8, ⟨HXA, HXB, HXBr, HWA, HWB⟩, HC⟩ Hk
  iapply (send_xb I K c 9 _ _ (dev12_eq c) 0 1 0 2048 rfl (fun _ _ _ _ => rfl) ⟨dev12_eq c, rfl, by decide⟩ rfl) $$ [HXBr HT]
  · iframe HI; iframe
  iintro ⟨Hf9, HT⟩
  iapply (wp_blk2 I c 16 0 0 0 0 3 (by decide) (by decide) rfl (by decide) (by decide) rfl rfl
    (ldx_ga (h := 0) (o := 0) (R := 2048) (o' := 0) (a := 0) (b := 2048) I c qL _ _ _ 0 3 rfl rfl (by decide) (by decide)) (ldw_ga (h := 0) I c qL _ 3 rfl)
    (pay := fun x w a => k0_pay27 x w a) (fun A => by unfold k0_pay27; exact (shapeCast_self _ _).trans (congrArg (fun w => next _ w A) (wblk1_cast I _ _)))) $$ [HXA HWA HC]
  · iframe
  iintro ⟨HXA, HWA, HC⟩
  iapply (wp_blk2 I c 17 1 0 512 0 3 (by decide) (by decide) rfl (by decide) (by decide) rfl rfl
    (ldx_ga (h := 0) (o := 0) (R := 2048) (o' := 512) (a := 0) (b := 2048) I c qL _ _ _ 1 3 rfl rfl (by decide) (by decide)) (ldw_ga (h := 0) I c qL _ 3 rfl)
    (pay := fun x w a => k0_pay28 x w a) (fun A => by unfold k0_pay28; exact (shapeCast_self _ _).trans (congrArg (fun w => next _ w A) (wblk1_cast I _ _)))) $$ [HXA HWA HC]
  · iframe
  iintro ⟨HXA, HWA, HC⟩
  iapply (wp_blk2 I c 18 2 0 1024 0 3 (by decide) (by decide) rfl (by decide) (by decide) rfl rfl
    (ldx_ga (h := 0) (o := 0) (R := 2048) (o' := 1024) (a := 0) (b := 2048) I c qL _ _ _ 2 3 rfl rfl (by decide) (by decide)) (ldw_ga (h := 0) I c qL _ 3 rfl)
    (pay := fun x w a => k0_pay29 x w a) (fun A => by unfold k0_pay29; exact (shapeCast_self _ _).trans (congrArg (fun w => next _ w A) (wblk1_cast I _ _)))) $$ [HXA HWA HC]
  · iframe
  iintro ⟨HXA, HWA, HC⟩
  iapply (wp_blk2 I c 19 3 0 1536 0 3 (by decide) (by decide) rfl (by decide) (by decide) rfl rfl
    (ldx_ga (h := 0) (o := 0) (R := 2048) (o' := 1536) (a := 0) (b := 2048) I c qL _ _ _ 3 3 rfl rfl (by decide) (by decide)) (ldw_ga (h := 0) I c qL _ 3 rfl)
    (pay := fun x w a => k0_pay30 x w a) (fun A => by unfold k0_pay30; exact (shapeCast_self _ _).trans (congrArg (fun w => next _ w A) (wblk1_cast I _ _)))) $$ [HXA HWA HC]
  · iframe
  iintro ⟨HXA, HWA, HC⟩
  iapply (wp_blk2 I c 20 4 1 2048 1024 1 (by decide) (by decide) rfl (by decide) (by decide) rfl rfl
    (ldx_gb (h := 0) (o := 0) (R := 2048) (o' := 0) (a := 0) (b := 2048) I c qL _ _ _ 4 1 rfl rfl (by decide) (by decide)) (ldw_gb (h := 0) I c qL _ 1 rfl)
    (pay := fun x w a => k0_pay31 x w a) (fun A => by unfold k0_pay31; exact (shapeCast_self _ _).trans (congrArg (fun w => next _ w A) (wblk1_cast I _ _)))) $$ [HXB HWB HC]
  · iframe
  iintro ⟨HXB, HWB, HC⟩
  iapply (wp_blk2 I c 21 5 1 2560 1024 1 (by decide) (by decide) rfl (by decide) (by decide) rfl rfl
    (ldx_gb (h := 0) (o := 0) (R := 2048) (o' := 512) (a := 0) (b := 2048) I c qL _ _ _ 5 1 rfl rfl (by decide) (by decide)) (ldw_gb (h := 0) I c qL _ 1 rfl)
    (pay := fun x w a => k0_pay32 x w a) (fun A => by unfold k0_pay32; exact (shapeCast_self _ _).trans (congrArg (fun w => next _ w A) (wblk1_cast I _ _)))) $$ [HXB HWB HC]
  · iframe
  iintro ⟨HXB, HWB, HC⟩
  iapply (wp_blk2 I c 22 6 1 3072 1024 1 (by decide) (by decide) rfl (by decide) (by decide) rfl rfl
    (ldx_gb (h := 0) (o := 0) (R := 2048) (o' := 1024) (a := 0) (b := 2048) I c qL _ _ _ 6 1 rfl rfl (by decide) (by decide)) (ldw_gb (h := 0) I c qL _ 1 rfl)
    (pay := fun x w a => k0_pay34 (k0_pay33 x w) a) (fun A => by unfold k0_pay34 k0_pay33; exact (shapeCast_self _ _).trans (congrArg (fun w => next _ w A) (wblk1_cast I _ _)))) $$ [HXB HWB HC]
  · iframe
  iintro ⟨HXB, HWB, HC⟩
  iapply (wp_blk2 I c 23 7 1 3584 1024 1 (by decide) (by decide) rfl (by decide) (by decide) rfl rfl
    (ldx_gb (h := 0) (o := 0) (R := 2048) (o' := 1536) (a := 0) (b := 2048) I c qL _ _ _ 7 1 rfl rfl (by decide) (by decide)) (ldw_gb (h := 0) I c qL _ 1 rfl)
    (pay := fun x w a => k0_pay35 x w a) (fun A => by unfold k0_pay35; exact (shapeCast_self _ _).trans (congrArg (fun w => next _ w A) (wblk1_cast I _ _)))) $$ [HXB HWB HC]
  · iframe
  iintro ⟨HXB, HWB, HC⟩
  iapply (wp_wt I K c 6 [10, 11, 12, 13, 14, 15] (by decide) ?hN ?hN') $$ [Hf6 HT]
  case hN => rfl
  case hN' => rfl
  · iframe HI; iframe
  iintro ⟨Hd6, Hr6, HT⟩
  iapply (wp_wt I K c 7 [10, 11, 12, 13, 14, 15] (by decide) ?hN ?hN') $$ [Hf7 HT]
  case hN => rfl
  case hN' => rfl
  · iframe HI; iframe
  iintro ⟨Hd7, Hr7, HT⟩
  ihave H := (got_wa1 I c) $$ [Hr6]
  · iframe
  icases H with ⟨HWA1, HWA1r⟩
  ihave H := (got_xa1 I c) $$ [Hr7]
  · iframe
  icases H with ⟨HXA1, HXA1r, HXA1s⟩
  iapply (send_wa I K c 10 _ _ (dev13_eq c) 1 2 rfl (fun _ _ _ _ => rfl) ⟨dev13_eq c, rfl, by decide⟩ rfl) $$ [HWA1r HT]
  · iframe HI; iframe
  iintro ⟨Hf10, HT⟩
  iapply (send_xa I K c 11 _ _ (dev14_eq c) 1 2 0 1024 rfl (fun _ _ _ _ => rfl) ⟨dev14_eq c, rfl, by decide⟩ rfl) $$ [HXA1r HT]
  · iframe HI; iframe
  iintro ⟨Hf11, HT⟩
  iapply (send_xa I K c 12 _ _ (dev15_eq c) 1 2 1024 1024 rfl (fun _ _ _ _ => rfl) ⟨dev15_eq c, rfl, by decide⟩ rfl) $$ [HXA1s HT]
  · iframe HI; iframe
  iintro ⟨Hf12, HT⟩
  iapply (wp_wt I K c 8 [13, 14, 15] (by decide) ?hN ?hN') $$ [Hf8 HT]
  case hN => rfl
  case hN' => rfl
  · iframe HI; iframe
  iintro ⟨Hd8, Hr8, HT⟩
  iapply (wp_wt I K c 9 [13, 14, 15] (by decide) ?hN ?hN') $$ [Hf9 HT]
  case hN => rfl
  case hN' => rfl
  · iframe HI; iframe
  iintro ⟨Hd9, Hr9, HT⟩
  unfold Ret₂ Near
  iapply Hk
  iframe HT; iframe Hf10; iframe Hf11; iframe Hf12; iframe Hd6 Hd7 Hd8 Hd9; iframe HXA HXB HWA HWB; iframe

end Cert.KernelIdeal.Work
-- ==== Proof.KernelIdeal.Body4.lean ====
/- The body's parts: the last sends, and the products two places off. -/
module

public import proofs.«01_k».proof.Proof.KernelIdeal.Body3

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

/-- The last sends, and the products of the blocks two places off in both rings. -/
theorem wp_mid {α : Type} {Q : α → sProp 𝕄} (c : Dev nD) (v13 : BitVec 32) {k : PUnit → Prog (TpuEff nD τ sig (Elt F) Λ₀ .tc) α} :
    iprop(Invs I K ∗ Todo (F := F) c [13, 14, 15] ∗ xgaP c (slab 1 0 2048) qL (XGA I c) ∗ wgaP c (slab 1 0 1024) qL (WGA I c) ∗ recvPay I c 8 ∗ recvPay I c 9 ∗ Acc I c 24)
      ⊢ iprop((iprop(Todo (F := F) c [] ∗ fly (F := F) c 13 ∗ fly (F := F) c 14 ∗ fly (F := F) c 15 ∗ Mid I c ∗ Acc I c 40) -∗ wpC c (k ⟨⟩) Q)
          -∗ wpC c (pk k0_part24 c v13 >>= fun p => pk k0_part25 p.1 p.2 >>= fun p => pk k0_part26 p.1 p.2 >>= fun p => pk k0_part27 p.1 p.2 >>= fun _ =>
              pk k0_part28 >>= fun v => pk k0_part29 v >>= fun v => pk k0_part30 v >>= fun v => pk k0_part31 v >>= k) Q) := by
  simp only [pk, k0_part24_eq_skeleton, k0_part25_eq_skeleton, k0_part26_eq_skeleton, k0_part27_eq_skeleton, k0_part28_eq_skeleton, k0_part29_eq_skeleton, k0_part30_eq_skeleton, k0_part31_eq_skeleton]
  unfold k0_part24_skel k0_part25_skel k0_part26_skel k0_part27_skel k0_part28_skel k0_part29_skel k0_part30_skel k0_part31_skel
  simp only [Prog.lift, Prog.bind_op, Prog.bind_ret, Prog.pure_eq_ret]
  iintro ⟨#HI, HT, HXA, HWA, Hr8, Hr9, HC⟩ Hk
  ihave H := (got_wb1 I c) $$ [Hr8]
  · iframe
  icases H with ⟨HWB, HWBr⟩
  ihave H := (got_xb1 I c) $$ [Hr9]
  · iframe
  icases H with ⟨HXB, HXBr, HXBs⟩
  iapply (send_wb I K c 13 _ _ (dev16_eq c) 1 2 rfl (fun _ _ _ _ => rfl) ⟨dev16_eq c, rfl, by decide⟩ rfl) $$ [HWBr HT]
  · iframe HI; iframe
  iintro ⟨Hf13, HT⟩
  iapply (send_xb I K c 14 _ _ (dev17_eq c) 1 2 0 1024 rfl (fun _ _ _ _ => rfl) ⟨dev17_eq c, rfl, by decide⟩ rfl) $$ [HXBr HT]
  · iframe HI; iframe
  iintro ⟨Hf14, HT⟩
  iapply (send_xb I K c 15 _ _ (dev18_eq c) 1 2 1024 1024 rfl (fun _ _ _ _ => rfl) ⟨dev18_eq c, rfl, by decide⟩ rfl) $$ [HXBs HT]
  · iframe HI; iframe
  iintro ⟨Hf15, HT⟩
  iapply (wp_blk2 I c 24 0 0 0 0 2 (by decide) (by decide) rfl (by decide) (by decide) rfl rfl
    (ldx_ga (h := 1) (o := 0) (R := 2048) (o' := 0) (a := 0) (b := 2048) I c qL _ _ _ 0 2 rfl rfl (by decide) (by decide)) (ldw_ga (h := 1) I c qL _ 2 rfl)
    (pay := fun x w a => k0_pay36 x w a) (fun A => by unfold k0_pay36; exact (shapeCast_self _ _).trans (congrArg (fun w => next _ w A) (wblk1_cast I _ _)))) $$ [HXA HWA HC]
  · iframe
  iintro ⟨HXA, HWA, HC⟩
  iapply (wp_blk2 I c 25 1 0 512 0 2 (by decide) (by decide) rfl (by decide) (by decide) rfl rfl
    (ldx_ga (h := 1) (o := 0) (R := 2048) (o' := 512) (a := 0) (b := 2048) I c qL _ _ _ 1 2 rfl rfl (by decide) (by decide)) (ldw_ga (h := 1) I c qL _ 2 rfl)
    (pay := fun x w a => k0_pay37 x w a) (fun A => by unfold k0_pay37; exact (shapeCast_self _ _).trans (congrArg (fun w => next _ w A) (wblk1_cast I _ _)))) $$ [HXA HWA HC]
  · iframe
  iintro ⟨HXA, HWA, HC⟩
  iapply (wp_blk2 I c 26 2 0 1024 0 2 (by decide) (by decide) rfl (by decide) (by decide) rfl rfl
    (ldx_ga (h := 1) (o := 0) (R := 2048) (o' := 1024) (a := 0) (b := 2048) I c qL _ _ _ 2 2 rfl rfl (by decide) (by decide)) (ldw_ga (h := 1) I c qL _ 2 rfl)
    (pay := fun x w a => k0_pay39 (k0_pay38 x w) a) (fun A => by unfold k0_pay39 k0_pay38; exact (shapeCast_self _ _).trans (congrArg (fun w => next _ w A) (wblk1_cast I _ _)))) $$ [HXA HWA HC]
  · iframe
  iintro ⟨HXA, HWA, HC⟩
  iapply (wp_blk2 I c 27 3 0 1536 0 2 (by decide) (by decide) rfl (by decide) (by decide) rfl rfl
    (ldx_ga (h := 1) (o := 0) (R := 2048) (o' := 1536) (a := 0) (b := 2048) I c qL _ _ _ 3 2 rfl rfl (by decide) (by decide)) (ldw_ga (h := 1) I c qL _ 2 rfl)
    (pay := fun x w a => k0_pay40 x w a) (fun A => by unfold k0_pay40; exact (shapeCast_self _ _).trans (congrArg (fun w => next _ w A) (wblk1_cast I _ _)))) $$ [HXA HWA HC]
  · iframe
  iintro ⟨HXA, HWA, HC⟩
  iapply (wp_blk2 I c 28 0 1 0 1024 2 (by decide) (by decide) rfl (by decide) (by decide) rfl rfl
    (ldx_ga (h := 1) (o := 0) (R := 2048) (o' := 0) (a := 0) (b := 2048) I c qL _ _ _ 0 2 rfl rfl (by decide) (by decide)) (ldw_gb (h := 1) I c qL _ 2 rfl)
    (pay := fun x w a => k0_pay42 (k0_pay41 x w a)) (fun A => by unfold k0_pay42 k0_pay41; exact (shapeCast_self _ _).trans (congrArg (fun w => next _ w A) (wblk1_cast I _ _)))) $$ [HXA HWB HC]
  · iframe
  iintro ⟨HXA, HWB, HC⟩
  iapply (wp_blk2 I c 29 1 1 512 1024 2 (by decide) (by decide) rfl (by decide) (by decide) rfl rfl
    (ldx_ga (h := 1) (o := 0) (R := 2048) (o' := 512) (a := 0) (b := 2048) I c qL _ _ _ 1 2 rfl rfl (by decide) (by decide)) (ldw_gb (h := 1) I c qL _ 2 rfl)
    (pay := fun x w a => k0_pay43 x w a) (fun A => by unfold k0_pay43; exact (shapeCast_self _ _).trans (congrArg (fun w => next _ w A) (wblk1_cast I _ _)))) $$ [HXA HWB HC]
  · iframe
  iintro ⟨HXA, HWB, HC⟩
  iapply (wp_blk2 I c 30 2 1 1024 1024 2 (by decide) (by decide) rfl (by decide) (by decide) rfl rfl
    (ldx_ga (h := 1) (o := 0) (R := 2048) (o' := 1024) (a := 0) (b := 2048) I c qL _ _ _ 2 2 rfl rfl (by decide) (by decide)) (ldw_gb (h := 1) I c qL _ 2 rfl)
    (pay := fun x w a => k0_pay44 x w a) (fun A => by unfold k0_pay44; exact (shapeCast_self _ _).trans (congrArg (fun w => next _ w A) (wblk1_cast I _ _)))) $$ [HXA HWB HC]
  · iframe
  iintro ⟨HXA, HWB, HC⟩
  iapply (wp_blk2 I c 31 3 1 1536 1024 2 (by decide) (by decide) rfl (by decide) (by decide) rfl rfl
    (ldx_ga (h := 1) (o := 0) (R := 2048) (o' := 1536) (a := 0) (b := 2048) I c qL _ _ _ 3 2 rfl rfl (by decide) (by decide)) (ldw_gb (h := 1) I c qL _ 2 rfl)
    (pay := fun x w a => k0_pay45 x w a) (fun A => by unfold k0_pay45; exact (shapeCast_self _ _).trans (congrArg (fun w => next _ w A) (wblk1_cast I _ _)))) $$ [HXA HWB HC]
  · iframe
  iintro ⟨HXA, HWB, HC⟩
  iapply (wp_blk2 I c 32 4 0 2048 0 2 (by decide) (by decide) rfl (by decide) (by decide) rfl rfl
    (ldx_gb (h := 1) (o := 0) (R := 2048) (o' := 0) (a := 0) (b := 2048) I c qL _ _ _ 4 2 rfl rfl (by decide) (by decide)) (ldw_ga (h := 1) I c qL _ 2 rfl)
    (pay := fun x w a => k0_pay46 x w a) (fun A => by unfold k0_pay46; exact (shapeCast_self _ _).trans (congrArg (fun w => next _ w A) (wblk1_cast I _ _)))) $$ [HXB HWA HC]
  · iframe
  iintro ⟨HXB, HWA, HC⟩
  iapply (wp_blk2 I c 33 5 0 2560 0 2 (by decide) (by decide) rfl (by decide) (by decide) rfl rfl
    (ldx_gb (h := 1) (o := 0) (R := 2048) (o' := 512) (a := 0) (b := 2048) I c qL _ _ _ 5 2 rfl rfl (by decide) (by decide)) (ldw_ga (h := 1) I c qL _ 2 rfl)
    (pay := fun x w a => k0_pay47 x w a) (fun A => by unfold k0_pay47; exact (shapeCast_self _ _).trans (congrArg (fun w => next _ w A) (wblk1_cast I _ _)))) $$ [HXB HWA HC]
  · iframe
  iintro ⟨HXB, HWA, HC⟩
  iapply (wp_blk2 I c 34 6 0 3072 0 2 (by decide) (by decide) rfl (by decide) (by decide) rfl rfl
    (ldx_gb (h := 1) (o := 0) (R := 2048) (o' := 1024) (a := 0) (b := 2048) I c qL _ _ _ 6 2 rfl rfl (by decide) (by decide)) (ldw_ga (h := 1) I c qL _ 2 rfl)
    (pay := fun x w a => k0_pay48 x w a) (fun A => by unfold k0_pay48; exact (shapeCast_self _ _).trans (congrArg (fun w => next _ w A) (wblk1_cast I _ _)))) $$ [HXB HWA HC]
  · iframe
  iintro ⟨HXB, HWA, HC⟩
  iapply (wp_blk2 I c 35 7 0 3584 0 2 (by decide) (by decide) rfl (by decide) (by decide) rfl rfl
    (ldx_gb (h := 1) (o := 0) (R := 2048) (o' := 1536) (a := 0) (b := 2048) I c qL _ _ _ 7 2 rfl rfl (by decide) (by decide)) (ldw_ga (h := 1) I c qL _ 2 rfl)
    (pay := fun x w a => k0_pay50 (k0_pay49 x w) a) (fun A => by unfold k0_pay50 k0_pay49; exact (shapeCast_self _ _).trans (congrArg (fun w => next _ w A) (wblk1_cast I _ _)))) $$ [HXB HWA HC]
  · iframe
  iintro ⟨HXB, HWA, HC⟩
  iapply (wp_blk2 I c 36 4 1 2048 1024 2 (by decide) (by decide) rfl (by decide) (by decide) rfl rfl
    (ldx_gb (h := 1) (o := 0) (R := 2048) (o' := 0) (a := 0) (b := 2048) I c qL _ _ _ 4 2 rfl rfl (by decide) (by decide)) (ldw_gb (h := 1) I c qL _ 2 rfl)
    (pay := fun x w a => k0_pay51 x w a) (fun A => by unfold k0_pay51; exact (shapeCast_self _ _).trans (congrArg (fun w => next _ w A) (wblk1_cast I _ _)))) $$ [HXB HWB HC]
  · iframe
  iintro ⟨HXB, HWB, HC⟩
  iapply (wp_blk2 I c 37 5 1 2560 1024 2 (by decide) (by decide) rfl (by decide) (by decide) rfl rfl
    (ldx_gb (h := 1) (o := 0) (R := 2048) (o' := 512) (a := 0) (b := 2048) I c qL _ _ _ 5 2 rfl rfl (by decide) (by decide)) (ldw_gb (h := 1) I c qL _ 2 rfl)
    (pay := fun x w a => k0_pay53 (k0_pay52 x w a)) (fun A => by unfold k0_pay53 k0_pay52; exact (shapeCast_self _ _).trans (congrArg (fun w => next _ w A) (wblk1_cast I _ _)))) $$ [HXB HWB HC]
  · iframe
  iintro ⟨HXB, HWB, HC⟩
  iapply (wp_blk2 I c 38 6 1 3072 1024 2 (by decide) (by decide) rfl (by decide) (by decide) rfl rfl
    (ldx_gb (h := 1) (o := 0) (R := 2048) (o' := 1024) (a := 0) (b := 2048) I c qL _ _ _ 6 2 rfl rfl (by decide) (by decide)) (ldw_gb (h := 1) I c qL _ 2 rfl)
    (pay := fun x w a => k0_pay54 x w a) (fun A => by unfold k0_pay54; exact (shapeCast_self _ _).trans (congrArg (fun w => next _ w A) (wblk1_cast I _ _)))) $$ [HXB HWB HC]
  · iframe
  iintro ⟨HXB, HWB, HC⟩
  iapply (wp_blk2 I c 39 7 1 3584 1024 2 (by decide) (by decide) rfl (by decide) (by decide) rfl rfl
    (ldx_gb (h := 1) (o := 0) (R := 2048) (o' := 1536) (a := 0) (b := 2048) I c qL _ _ _ 7 2 rfl rfl (by decide) (by decide)) (ldw_gb (h := 1) I c qL _ 2 rfl)
    (pay := fun x w a => k0_pay55 x w a) (fun A => by unfold k0_pay55; exact (shapeCast_self _ _).trans (congrArg (fun w => next _ w A) (wblk1_cast I _ _)))) $$ [HXB HWB HC]
  · iframe
  iintro ⟨HXB, HWB, HC⟩
  unfold Mid
  iapply Hk
  iframe HT; iframe Hf13; iframe Hf14; iframe Hf15; iframe HXA HXB HWA HWB; iframe

end Cert.KernelIdeal.Work
-- ==== Proof.KernelIdeal.Body5.lean ====
/- The body's parts: the scales, and the products at a near slot and a far one. -/
module

public import proofs.«01_k».proof.Proof.KernelIdeal.Body4

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

theorem ne_o0 : ∀ b : Bool × Fin 16, (if b.1 then recvSem b.2 else sendSem b.2) ≠ 37 := by decide
theorem ne_o1 : ∀ b : Bool × Fin 16, (if b.1 then recvSem b.2 else sendSem b.2) ≠ 38 := by decide

/-- The two staged scales. -/
def scaP (c : Dev nD) : sProp 𝕄 :=
  iprop(((c : Thread nD τ).loc cc0_stg0_0 ↦[Finset.univ]{fullShare} I.sx c) ∗ ((c : Thread nD τ).loc cc0_stg1_0 ↦[Finset.univ]{fullShare} I.sw c))

theorem s1_idx (x : S1.Idx) : x = ix1 (0 : Fin 1) := (eq_ix1 x).trans (congrArg ix1 (Fin.ext (by have := (x 0).isLt; change (x 0).val < 1 at this; show (x 0).val = 0; omega)))

theorem wp_sx (c : Dev nD) {r : Rect S1} {hl} {α : Type} {Q : α → sProp 𝕄} {k : (r.shape.Idx → F .f32) → Prog (TpuEff nD τ sig (Elt F) Λ₀ .tc) α} :
    ((c : Thread nD τ).loc cc0_stg0_0 ↦[Finset.univ]{fullShare} I.sx c)
      ⊢ iprop((((c : Thread nD τ).loc cc0_stg0_0 ↦[Finset.univ]{fullShare} I.sx c) -∗ wpC c (k fun _ => I.sx c (ix1 (0 : Fin 1))) Q)
        -∗ wpC c (.op (.load (Memref.whole cc0_stg0_0 : Memref sig .tc .smem S1 .f32) r hl) k) Q) :=
  wp_ld c (m := (Memref.whole cc0_stg0_0 : Memref sig .tc .smem S1 .f32)) (r := r) _ Finset.univ fullShare (I.sx c) rfl (Finset.subset_univ _) (fun _ => I.sx c (ix1 (0 : Fin 1)))
    (fun x => congrArg (I.sx c) (s1_idx _))

theorem wp_sw (c : Dev nD) {r : Rect S1} {hl} {α : Type} {Q : α → sProp 𝕄} {k : (r.shape.Idx → F .f32) → Prog (TpuEff nD τ sig (Elt F) Λ₀ .tc) α} :
    ((c : Thread nD τ).loc cc0_stg1_0 ↦[Finset.univ]{fullShare} I.sw c)
      ⊢ iprop((((c : Thread nD τ).loc cc0_stg1_0 ↦[Finset.univ]{fullShare} I.sw c) -∗ wpC c (k fun _ => I.sw c (ix1 (0 : Fin 1))) Q)
        -∗ wpC c (.op (.load (Memref.whole cc0_stg1_0 : Memref sig .tc .smem S1 .f32) r hl) k) Q) :=
  wp_ld c (m := (Memref.whole cc0_stg1_0 : Memref sig .tc .smem S1 .f32)) (r := r) _ Finset.univ fullShare (I.sw c) rfl (Finset.subset_univ _) (fun _ => I.sw c (ix1 (0 : Fin 1)))
    (fun x => congrArg (I.sw c) (s1_idx _))

/-- The products of the blocks at the near slot of one ring and the last of the other. -/
theorem wp_far {α : Type} {Q : α → sProp 𝕄} (c : Dev nD) (v13 v24 : BitVec 32) {k : F .f32 → Prog (TpuEff nD τ sig (Elt F) Λ₀ .tc) α} :
    iprop(Invs I K ∗ Todo (F := F) c [] ∗ fly (F := F) c 10 ∗ fly (F := F) c 13 ∗ Near I c ∗ scaP I c ∗ Acc I c 40)
      ⊢ iprop((iprop(Todo (F := F) c [] ∗ Ret I c 10 ∗ Ret I c 13 ∗ Near I c ∗ wgaP c (slab 2 0 1024) fullShare (WGA I c) ∗ wgbP c (slab 2 0 1024) fullShare (WGB I c) ∗ scaP I c ∗ Acc I c 48) -∗ wpC c (k (scale I c)) Q)
          -∗ wpC c (pk k0_part32 v24 >>= fun p => pk k0_part33 p.2 >>= fun v => pk k0_part34 v13 v >>= fun _ => pk k0_part35 >>= fun _ => pk k0_part36 >>= fun _ => k p.1) Q) := by
  simp only [pk, k0_part32_eq_skeleton, k0_part33_eq_skeleton, k0_part34_eq_skeleton, k0_part35_eq_skeleton, k0_part36_eq_skeleton]
  unfold k0_part32_skel k0_part33_skel k0_part34_skel k0_part35_skel k0_part36_skel
  simp only [Prog.lift, Prog.bind_op, Prog.bind_ret, Prog.pure_eq_ret, smemLoad, smemLoadElt]
  unfold Near scaP
  iintro ⟨#HI, HT, Hf10, Hf13, ⟨HXA, HXB, HWA, HWB⟩, ⟨Hsx, Hsw⟩, HC⟩ Hk
  iapply (wp_sx I c) $$ Hsx
  iintro Hsx
  iapply (wp_sw I c) $$ Hsw
  iintro Hsw
  iapply (wp_wt I K c 10 [] (by decide) ?hN ?hN') $$ [Hf10 HT]
  case hN => rfl
  case hN' => rfl
  · iframe HI; iframe
  iintro ⟨Hd10, Hr10, HT⟩
  ihave HWA2 := (got_10 I c) $$ [Hr10]
  · iframe
  iapply (wp_blk2 I c 40 4 0 2048 0 1 (by decide) (by decide) rfl (by decide) (by decide) rfl rfl
    (ldx_gb (h := 0) (o := 0) (R := 2048) (o' := 0) (a := 0) (b := 2048) I c qL _ _ _ 4 1 rfl rfl (by decide) (by decide)) (ldw_ga (h := 2) I c fullShare _ 1 rfl)
    (pay := fun x w a => k0_pay58 (k0_pay57 x w a)) (fun A => by unfold k0_pay58 k0_pay57; exact (shapeCast_self _ _).trans (congrArg (fun w => next _ w A) (wblk1_cast I _ _)))) $$ [HXB HWA2 HC]
  · iframe
  iintro ⟨HXB, HWA2, HC⟩
  iapply (wp_blk2 I c 41 5 0 2560 0 1 (by decide) (by decide) rfl (by decide) (by decide) rfl rfl
    (ldx_gb (h := 0) (o := 0) (R := 2048) (o' := 512) (a := 0) (b := 2048) I c qL _ _ _ 5 1 rfl rfl (by decide) (by decide)) (ldw_ga (h := 2) I c fullShare _ 1 rfl)
    (pay := fun x w a => k0_pay59 x w a) (fun A => by unfold k0_pay59; exact (shapeCast_self _ _).trans (congrArg (fun w => next _ w A) (wblk1_cast I _ _)))) $$ [HXB HWA2 HC]
  · iframe
  iintro ⟨HXB, HWA2, HC⟩
  iapply (wp_blk2 I c 42 6 0 3072 0 1 (by decide) (by decide) rfl (by decide) (by decide) rfl rfl
    (ldx_gb (h := 0) (o := 0) (R := 2048) (o' := 1024) (a := 0) (b := 2048) I c qL _ _ _ 6 1 rfl rfl (by decide) (by decide)) (ldw_ga (h := 2) I c fullShare _ 1 rfl)
    (pay := fun x w a => k0_pay60 x w a) (fun A => by unfold k0_pay60; exact (shapeCast_self _ _).trans (congrArg (fun w => next _ w A) (wblk1_cast I _ _)))) $$ [HXB HWA2 HC]
  · iframe
  iintro ⟨HXB, HWA2, HC⟩
  iapply (wp_blk2 I c 43 7 0 3584 0 1 (by decide) (by decide) rfl (by decide) (by decide) rfl rfl
    (ldx_gb (h := 0) (o := 0) (R := 2048) (o' := 1536) (a := 0) (b := 2048) I c qL _ _ _ 7 1 rfl rfl (by decide) (by decide)) (ldw_ga (h := 2) I c fullShare _ 1 rfl)
    (pay := fun x w a => k0_pay61 x w a) (fun A => by unfold k0_pay61; exact (shapeCast_self _ _).trans (congrArg (fun w => next _ w A) (wblk1_cast I _ _)))) $$ [HXB HWA2 HC]
  · iframe
  iintro ⟨HXB, HWA2, HC⟩
  iapply (wp_wt I K c 13 [] (by decide) ?hN ?hN') $$ [Hf13 HT]
  case hN => rfl
  case hN' => rfl
  · iframe HI; iframe
  iintro ⟨Hd13, Hr13, HT⟩
  ihave HWB2 := (got_13 I c) $$ [Hr13]
  · iframe
  iapply (wp_blk2 I c 44 0 1 0 1024 3 (by decide) (by decide) rfl (by decide) (by decide) rfl rfl
    (ldx_ga (h := 0) (o := 0) (R := 2048) (o' := 0) (a := 0) (b := 2048) I c qL _ _ _ 0 3 rfl rfl (by decide) (by decide)) (ldw_gb (h := 2) I c fullShare _ 3 rfl)
    (pay := fun x w a => k0_pay62 x w a) (fun A => by unfold k0_pay62; exact (shapeCast_self _ _).trans (congrArg (fun w => next _ w A) (wblk1_cast I _ _)))) $$ [HXA HWB2 HC]
  · iframe
  iintro ⟨HXA, HWB2, HC⟩
  iapply (wp_blk2 I c 45 1 1 512 1024 3 (by decide) (by decide) rfl (by decide) (by decide) rfl rfl
    (ldx_ga (h := 0) (o := 0) (R := 2048) (o' := 512) (a := 0) (b := 2048) I c qL _ _ _ 1 3 rfl rfl (by decide) (by decide)) (ldw_gb (h := 2) I c fullShare _ 3 rfl)
    (pay := fun x w a => k0_pay63 x w a) (fun A => by unfold k0_pay63; exact (shapeCast_self _ _).trans (congrArg (fun w => next _ w A) (wblk1_cast I _ _)))) $$ [HXA HWB2 HC]
  · iframe
  iintro ⟨HXA, HWB2, HC⟩
  iapply (wp_blk2 I c 46 2 1 1024 1024 3 (by decide) (by decide) rfl (by decide) (by decide) rfl rfl
    (ldx_ga (h := 0) (o := 0) (R := 2048) (o' := 1024) (a := 0) (b := 2048) I c qL _ _ _ 2 3 rfl rfl (by decide) (by decide)) (ldw_gb (h := 2) I c fullShare _ 3 rfl)
    (pay := fun x w a => k0_pay64 x w a) (fun A => by unfold k0_pay64; exact (shapeCast_self _ _).trans (congrArg (fun w => next _ w A) (wblk1_cast I _ _)))) $$ [HXA HWB2 HC]
  · iframe
  iintro ⟨HXA, HWB2, HC⟩
  iapply (wp_blk2 I c 47 3 1 1536 1024 3 (by decide) (by decide) rfl (by decide) (by decide) rfl rfl
    (ldx_ga (h := 0) (o := 0) (R := 2048) (o' := 1536) (a := 0) (b := 2048) I c qL _ _ _ 3 3 rfl rfl (by decide) (by decide)) (ldw_gb (h := 2) I c fullShare _ 3 rfl)
    (pay := fun x w a => k0_pay65 x w a) (fun A => by unfold k0_pay65; exact (shapeCast_self _ _).trans (congrArg (fun w => next _ w A) (wblk1_cast I _ _)))) $$ [HXA HWB2 HC]
  · iframe
  iintro ⟨HXA, HWB2, HC⟩
  iapply Hk
  iframe HT; iframe Hd10 Hd13; iframe HXA HXB HWA HWB; iframe HWA2 HWB2; iframe

end Cert.KernelIdeal.Work
-- ==== Proof.KernelIdeal.Body6.lean ====
/- The body's parts: the last products, and the strips of the result written out. -/
module

public import proofs.«01_k».proof.Proof.KernelIdeal.Body5

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

/-- Row strip `r` of the result's array, with any contents. -/
def OE (c : Dev nD) (r : ℕ) : sProp 𝕄 := iprop(∃ f, outP (F := F) c (rows (512 * r) (512 * r + 512)) fullShare f)
/-- The copy out of strip `r` through staging slot `s`. -/
abbrev flyO (c : Dev nD) (r s : ℕ) (d : DmaSem sig) (n : ℕ) : sProp 𝕄 := Flight EC (c : Thread nD τ) (.dma d) () n iprop(outB I c r ∗ OS (F := F) c s)
/-- What a copy of a strip counts. -/
def nO : ℕ := (outM.slice (Rect.unit (s := S4096x2048) ![3072, 0] S512x2048.size inb_S4096x2048_S512x2048_3072_0) (fun _ => rfl)).view.dmaCredit

/-- The last products, and the result written out. -/
theorem wp_tail {α : Type} {Q : α → sProp 𝕄} (c : Dev nD) (v13 v24 : BitVec 32) {k : PUnit → Prog (TpuEff nD τ sig (Elt F) Λ₀ .tc) α} :
    iprop(Invs I K ∗ Todo (F := F) c [] ∗ (fly (F := F) c 11 ∗ fly (F := F) c 12 ∗ fly (F := F) c 14 ∗ fly (F := F) c 15) ∗ Near I c ∗ (wgaP c (slab 2 0 1024) fullShare (WGA I c) ∗ wgbP c (slab 2 0 1024) fullShare (WGB I c)) ∗ Acc I c 48
        ∗ (OS (F := F) c 0 ∗ OS (F := F) c 1 ∗ semVal ((c : Thread nD τ), .dma 37) 0 ∗ semVal ((c : Thread nD τ), .dma 38) 0)
        ∗ (OE (F := F) c 0 ∗ OE (F := F) c 1 ∗ OE (F := F) c 2 ∗ OE (F := F) c 3 ∗ OE (F := F) c 4 ∗ OE (F := F) c 5 ∗ OE (F := F) c 6 ∗ OE (F := F) c 7))
      ⊢ iprop((iprop(Todo (F := F) c [] ∗ (Ret I c 11 ∗ Ret I c 12 ∗ Ret I c 14 ∗ Ret I c 15) ∗ Near I c ∗ (wgaP c (slab 2 0 1024) fullShare (WGA I c) ∗ wgbP c (slab 2 0 1024) fullShare (WGB I c)) ∗ (xgaP c (slab 2 0 1024) fullShare (XGA I c) ∗ xgaP c (slab 2 1024 2048) fullShare (XGA I c) ∗ xgbP c (slab 2 0 1024) fullShare (XGB I c) ∗ xgbP c (slab 2 1024 2048) fullShare (XGB I c)) ∗ Acc I c 64
            ∗ flyO I c 6 0 37 nO ∗ flyO I c 7 1 38 nO ∗ (outB I c 0 ∗ outB I c 1 ∗ outB I c 2 ∗ outB I c 3 ∗ outB I c 4 ∗ outB I c 5)) -∗ wpC c (k ⟨⟩) Q)
          -∗ wpC c (pk k0_part37 v24 >>= fun _ => pk k0_part38 >>= fun p => pk k0_part39 (scale I c) p.1 p.2 >>= fun _ => pk k0_part40 v24 >>= fun v => pk k0_part41 v >>= fun _ =>
              pk k0_part42 (scale I c) >>= fun _ => pk k0_part43 (scale I c) >>= fun _ => pk k0_part44 v13 >>= fun v => pk k0_part45 v >>= fun v => pk k0_part46 (scale I c) v >>= fun v =>
              pk k0_part47 v13 v >>= fun _ => pk k0_part48 >>= fun p => pk k0_part49 (scale I c) p.1 p.2 >>= fun v => pk k0_part50 (scale I c) v >>= k) Q) := by
  simp only [pk, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part37_skel k0_part38_skel k0_part39_skel k0_part40_skel k0_part41_skel k0_part42_skel k0_part43_skel k0_part44_skel k0_part45_skel k0_part46_skel k0_part47_skel k0_part48_skel k0_part49_skel k0_part50_skel
  simp only [Prog.lift, Prog.bind_op, Prog.bind_ret, Prog.pure_eq_ret]
  unfold Near OE
  iintro ⟨#HI, HT, ⟨Hf11, Hf12, Hf14, Hf15⟩, ⟨HXA, HXB, HWA, HWB⟩, ⟨HWA2, HWB2⟩, HC, ⟨HS0, HS1, Hz0, Hz1⟩, ⟨HO0, HO1, HO2, HO3, HO4, HO5, HO6, HO7⟩⟩ Hk
  iapply (wp_wt I K c 11 [] (by decide) ?hN ?hN') $$ [Hf11 HT]
  case hN => rfl
  case hN' => rfl
  · iframe HI; iframe
  iintro ⟨Hd11, Hr11, HT⟩
  ihave HXA2 := (got_11 I c) $$ [Hr11]
  · iframe
  iapply (wp_blk2 I c 48 0 0 0 0 1 (by decide) (by decide) rfl (by decide) (by decide) rfl rfl
    (ldx_ga (h := 2) (o := 0) (R := 1024) (o' := 0) (a := 0) (b := 1024) I c fullShare _ _ _ 0 1 rfl rfl (by decide) (by decide)) (ldw_ga (h := 2) I c fullShare _ 1 rfl)
    (pay := fun x w a => k0_pay66 x w a) (fun A => by unfold k0_pay66; exact (shapeCast_self _ _).trans (congrArg (fun w => next _ w A) (wblk1_cast I _ _)))) $$ [HXA2 HWA2 HC]
  · iframe
  iintro ⟨HXA2, HWA2, HC⟩
  iapply (wp_blk2 I c 49 1 0 512 0 1 (by decide) (by decide) rfl (by decide) (by decide) rfl rfl
    (ldx_ga (h := 2) (o := 0) (R := 1024) (o' := 512) (a := 0) (b := 1024) I c fullShare _ _ _ 1 1 rfl rfl (by decide) (by decide)) (ldw_ga (h := 2) I c fullShare _ 1 rfl)
    (pay := fun x w a => k0_pay67 x w a) (fun A => by unfold k0_pay67; exact (shapeCast_self _ _).trans (congrArg (fun w => next _ w A) (wblk1_cast I _ _)))) $$ [HXA2 HWA2 HC]
  · iframe
  iintro ⟨HXA2, HWA2, HC⟩
  iapply (wp_blk2 I c 50 0 1 0 1024 1 (by decide) (by decide) rfl (by decide) (by decide) rfl rfl
    (ldx_ga (h := 2) (o := 0) (R := 1024) (o' := 0) (a := 0) (b := 1024) I c fullShare _ _ _ 0 1 rfl rfl (by decide) (by decide)) (ldw_gb (h := 0) I c qL _ 1 rfl)
    (pay := fun x w a => k0_pay68 x w a) (fun A => by unfold k0_pay68; exact (shapeCast_self _ _).trans (congrArg (fun w => next _ w A) (wblk1_cast I _ _)))) $$ [HXA2 HWB HC]
  · iframe
  iintro ⟨HXA2, HWB, HC⟩
  iapply (wp_blk2 I c 51 1 1 512 1024 1 (by decide) (by decide) rfl (by decide) (by decide) rfl rfl
    (ldx_ga (h := 2) (o := 0) (R := 1024) (o' := 512) (a := 0) (b := 1024) I c fullShare _ _ _ 1 1 rfl rfl (by decide) (by decide)) (ldw_gb (h := 0) I c qL _ 1 rfl)
    (pay := fun x w a => k0_pay70 x (k0_pay69 w) a) (fun A => by unfold k0_pay70 k0_pay69; exact (shapeCast_self _ _).trans (congrArg (fun w => next _ w A) (wblk1_cast I _ _)))) $$ [HXA2 HWB HC]
  · iframe
  iintro ⟨HXA2, HWB, HC⟩
  iapply (wp_out I c 52 0 0 0 37 (by decide) (by decide) (by decide) rfl (pay := k0_pay71 (scale I c)) (by unfold k0_pay71 outw outblk; rfl)) $$ [HC HS0 HO0 Hz0]
  · iframe
  iintro ⟨HC, HF0⟩
  iapply (wp_out I c 52 1 1 512 38 (by decide) (by decide) (by decide) rfl (pay := k0_pay72 (scale I c)) (by unfold k0_pay72 outw outblk; rfl)) $$ [HC HS1 HO1 Hz1]
  · iframe
  iintro ⟨HC, HF1⟩
  iapply (wp_wt I K c 12 [] (by decide) ?hN ?hN') $$ [Hf12 HT]
  case hN => rfl
  case hN' => rfl
  · iframe HI; iframe
  iintro ⟨Hd12, Hr12, HT⟩
  ihave HXA3 := (got_12 I c) $$ [Hr12]
  · iframe
  iapply (wp_blk2 I c 52 2 0 1024 0 1 (by decide) (by decide) rfl (by decide) (by decide) rfl rfl
    (ldx_ga (h := 2) (o := 1024) (R := 1024) (o' := 0) (a := 1024) (b := 2048) I c fullShare _ _ _ 2 1 rfl rfl (by decide) (by decide)) (ldw_ga (h := 2) I c fullShare _ 1 rfl)
    (pay := fun x w a => k0_pay74 (k0_pay73 x w a)) (fun A => by unfold k0_pay74 k0_pay73; exact (shapeCast_self _ _).trans (congrArg (fun w => next _ w A) (wblk1_cast I _ _)))) $$ [HXA3 HWA2 HC]
  · iframe
  iintro ⟨HXA3, HWA2, HC⟩
  iapply (wp_blk2 I c 53 3 0 1536 0 1 (by decide) (by decide) rfl (by decide) (by decide) rfl rfl
    (ldx_ga (h := 2) (o := 1024) (R := 1024) (o' := 512) (a := 1024) (b := 2048) I c fullShare _ _ _ 3 1 rfl rfl (by decide) (by decide)) (ldw_ga (h := 2) I c fullShare _ 1 rfl)
    (pay := fun x w a => k0_pay75 x w a) (fun A => by unfold k0_pay75; exact (shapeCast_self _ _).trans (congrArg (fun w => next _ w A) (wblk1_cast I _ _)))) $$ [HXA3 HWA2 HC]
  · iframe
  iintro ⟨HXA3, HWA2, HC⟩
  iapply (wp_blk2 I c 54 2 1 1024 1024 1 (by decide) (by decide) rfl (by decide) (by decide) rfl rfl
    (ldx_ga (h := 2) (o := 1024) (R := 1024) (o' := 0) (a := 1024) (b := 2048) I c fullShare _ _ _ 2 1 rfl rfl (by decide) (by decide)) (ldw_gb (h := 0) I c qL _ 1 rfl)
    (pay := fun x w a => k0_pay76 x w a) (fun A => by unfold k0_pay76; exact (shapeCast_self _ _).trans (congrArg (fun w => next _ w A) (wblk1_cast I _ _)))) $$ [HXA3 HWB HC]
  · iframe
  iintro ⟨HXA3, HWB, HC⟩
  iapply (wp_blk2 I c 55 3 1 1536 1024 1 (by decide) (by decide) rfl (by decide) (by decide) rfl rfl
    (ldx_ga (h := 2) (o := 1024) (R := 1024) (o' := 512) (a := 1024) (b := 2048) I c fullShare _ _ _ 3 1 rfl rfl (by decide) (by decide)) (ldw_gb (h := 0) I c qL _ 1 rfl)
    (pay := fun x w a => k0_pay77 x w a) (fun A => by unfold k0_pay77; exact (shapeCast_self _ _).trans (congrArg (fun w => next _ w A) (wblk1_cast I _ _)))) $$ [HXA3 HWB HC]
  · iframe
  iintro ⟨HXA3, HWB, HC⟩
  iapply (wp_wait_copy I K c [] ne_o0 iprop(outB I c 0 ∗ OS (F := F) c 0)) $$ [HF0 HT]
  · iframe HI; iframe HT; iexact HF0
  iintro ⟨⟨HO0, HS0⟩, Hz0, HT⟩
  iapply (wp_out I c 56 2 0 1024 37 (by decide) (by decide) (by decide) rfl (pay := k0_pay78 (scale I c)) (by unfold k0_pay78 outw outblk; rfl)) $$ [HC HS0 HO2 Hz0]
  · iframe
  iintro ⟨HC, HF0⟩
  iapply (wp_wait_copy I K c [] ne_o1 iprop(outB I c 1 ∗ OS (F := F) c 1)) $$ [HF1 HT]
  · iframe HI; iframe HT; iexact HF1
  iintro ⟨⟨HO1, HS1⟩, Hz1, HT⟩
  iapply (wp_out I c 56 3 1 1536 38 (by decide) (by decide) (by decide) rfl (pay := k0_pay79 (scale I c)) (by unfold k0_pay79 outw outblk; rfl)) $$ [HC HS1 HO3 Hz1]
  · iframe
  iintro ⟨HC, HF1⟩
  iapply (wp_wt I K c 14 [] (by decide) ?hN ?hN') $$ [Hf14 HT]
  case hN => rfl
  case hN' => rfl
  · iframe HI; iframe
  iintro ⟨Hd14, Hr14, HT⟩
  ihave HXB2 := (got_14 I c) $$ [Hr14]
  · iframe
  iapply (wp_blk2 I c 56 4 0 2048 0 3 (by decide) (by decide) rfl (by decide) (by decide) rfl rfl
    (ldx_gb (h := 2) (o := 0) (R := 1024) (o' := 0) (a := 0) (b := 1024) I c fullShare _ _ _ 4 3 rfl rfl (by decide) (by decide)) (ldw_ga (h := 0) I c qL _ 3 rfl)
    (pay := fun x w a => k0_pay80 x w a) (fun A => by unfold k0_pay80; exact (shapeCast_self _ _).trans (congrArg (fun w => next _ w A) (wblk1_cast I _ _)))) $$ [HXB2 HWA HC]
  · iframe
  iintro ⟨HXB2, HWA, HC⟩
  iapply (wp_blk2 I c 57 5 0 2560 0 3 (by decide) (by decide) rfl (by decide) (by decide) rfl rfl
    (ldx_gb (h := 2) (o := 0) (R := 1024) (o' := 512) (a := 0) (b := 1024) I c fullShare _ _ _ 5 3 rfl rfl (by decide) (by decide)) (ldw_ga (h := 0) I c qL _ 3 rfl)
    (pay := fun x w a => k0_pay82 (k0_pay81 x w) a) (fun A => by unfold k0_pay82 k0_pay81; exact (shapeCast_self _ _).trans (congrArg (fun w => next _ w A) (wblk1_cast I _ _)))) $$ [HXB2 HWA HC]
  · iframe
  iintro ⟨HXB2, HWA, HC⟩
  iapply (wp_blk2 I c 58 4 1 2048 1024 3 (by decide) (by decide) rfl (by decide) (by decide) rfl rfl
    (ldx_gb (h := 2) (o := 0) (R := 1024) (o' := 0) (a := 0) (b := 1024) I c fullShare _ _ _ 4 3 rfl rfl (by decide) (by decide)) (ldw_gb (h := 2) I c fullShare _ 3 rfl)
    (pay := fun x w a => k0_pay83 x w a) (fun A => by unfold k0_pay83; exact (shapeCast_self _ _).trans (congrArg (fun w => next _ w A) (wblk1_cast I _ _)))) $$ [HXB2 HWB2 HC]
  · iframe
  iintro ⟨HXB2, HWB2, HC⟩
  iapply (wp_blk2 I c 59 5 1 2560 1024 3 (by decide) (by decide) rfl (by decide) (by decide) rfl rfl
    (ldx_gb (h := 2) (o := 0) (R := 1024) (o' := 512) (a := 0) (b := 1024) I c fullShare _ _ _ 5 3 rfl rfl (by decide) (by decide)) (ldw_gb (h := 2) I c fullShare _ 3 rfl)
    (pay := fun x w a => k0_pay85 (k0_pay84 x w a)) (fun A => by unfold k0_pay85 k0_pay84; exact (shapeCast_self _ _).trans (congrArg (fun w => next _ w A) (wblk1_cast I _ _)))) $$ [HXB2 HWB2 HC]
  · iframe
  iintro ⟨HXB2, HWB2, HC⟩
  iapply (wp_wait_copy I K c [] ne_o0 iprop(outB I c 2 ∗ OS (F := F) c 0)) $$ [HF0 HT]
  · iframe HI; iframe HT; iexact HF0
  iintro ⟨⟨HO2, HS0⟩, Hz0, HT⟩
  iapply (wp_out I c 60 4 0 2048 37 (by decide) (by decide) (by decide) rfl (pay := k0_pay86 (scale I c)) (by unfold k0_pay86 outw outblk; rfl)) $$ [HC HS0 HO4 Hz0]
  · iframe
  iintro ⟨HC, HF0⟩
  iapply (wp_wait_copy I K c [] ne_o1 iprop(outB I c 3 ∗ OS (F := F) c 1)) $$ [HF1 HT]
  · iframe HI; iframe HT; iexact HF1
  iintro ⟨⟨HO3, HS1⟩, Hz1, HT⟩
  iapply (wp_out I c 60 5 1 2560 38 (by decide) (by decide) (by decide) rfl (pay := fun a => k0_pay88 (k0_pay87 (scale I c) a)) (by unfold k0_pay88 k0_pay87 outw outblk; rfl)) $$ [HC HS1 HO5 Hz1]
  · iframe
  iintro ⟨HC, HF1⟩
  iapply (wp_wt I K c 15 [] (by decide) ?hN ?hN') $$ [Hf15 HT]
  case hN => rfl
  case hN' => rfl
  · iframe HI; iframe
  iintro ⟨Hd15, Hr15, HT⟩
  ihave HXB3 := (got_15 I c) $$ [Hr15]
  · iframe
  iapply (wp_blk2 I c 60 6 0 3072 0 3 (by decide) (by decide) rfl (by decide) (by decide) rfl rfl
    (ldx_gb (h := 2) (o := 1024) (R := 1024) (o' := 0) (a := 1024) (b := 2048) I c fullShare _ _ _ 6 3 rfl rfl (by decide) (by decide)) (ldw_ga (h := 0) I c qL _ 3 rfl)
    (pay := fun x w a => k0_pay89 x w a) (fun A => by unfold k0_pay89; exact (shapeCast_self _ _).trans (congrArg (fun w => next _ w A) (wblk1_cast I _ _)))) $$ [HXB3 HWA HC]
  · iframe
  iintro ⟨HXB3, HWA, HC⟩
  iapply (wp_blk2 I c 61 7 0 3584 0 3 (by decide) (by decide) rfl (by decide) (by decide) rfl rfl
    (ldx_gb (h := 2) (o := 1024) (R := 1024) (o' := 512) (a := 1024) (b := 2048) I c fullShare _ _ _ 7 3 rfl rfl (by decide) (by decide)) (ldw_ga (h := 0) I c qL _ 3 rfl)
    (pay := fun x w a => k0_pay90 x w a) (fun A => by unfold k0_pay90; exact (shapeCast_self _ _).trans (congrArg (fun w => next _ w A) (wblk1_cast I _ _)))) $$ [HXB3 HWA HC]
  · iframe
  iintro ⟨HXB3, HWA, HC⟩
  iapply (wp_blk2 I c 62 6 1 3072 1024 3 (by decide) (by decide) rfl (by decide) (by decide) rfl rfl
    (ldx_gb (h := 2) (o := 1024) (R := 1024) (o' := 0) (a := 1024) (b := 2048) I c fullShare _ _ _ 6 3 rfl rfl (by decide) (by decide)) (ldw_gb (h := 2) I c fullShare _ 3 rfl)
    (pay := fun x w a => k0_pay92 x (k0_pay91 w) a) (fun A => by unfold k0_pay92 k0_pay91; exact (shapeCast_self _ _).trans (congrArg (fun w => next _ w A) (wblk1_cast I _ _)))) $$ [HXB3 HWB2 HC]
  · iframe
  iintro ⟨HXB3, HWB2, HC⟩
  iapply (wp_blk2 I c 63 7 1 3584 1024 3 (by decide) (by decide) rfl (by decide) (by decide) rfl rfl
    (ldx_gb (h := 2) (o := 1024) (R := 1024) (o' := 512) (a := 1024) (b := 2048) I c fullShare _ _ _ 7 3 rfl rfl (by decide) (by decide)) (ldw_gb (h := 2) I c fullShare _ 3 rfl)
    (pay := fun x w a => k0_pay93 x w a) (fun A => by unfold k0_pay93; exact (shapeCast_self _ _).trans (congrArg (fun w => next _ w A) (wblk1_cast I _ _)))) $$ [HXB3 HWB2 HC]
  · iframe
  iintro ⟨HXB3, HWB2, HC⟩
  iapply (wp_wait_copy I K c [] ne_o0 iprop(outB I c 4 ∗ OS (F := F) c 0)) $$ [HF0 HT]
  · iframe HI; iframe HT; iexact HF0
  iintro ⟨⟨HO4, HS0⟩, Hz0, HT⟩
  iapply (wp_out I c 64 6 0 3072 37 (by decide) (by decide) (by decide) rfl (pay := fun a => k0_pay95 (k0_pay94 (scale I c) a)) (by unfold k0_pay95 k0_pay94 outw outblk; rfl)) $$ [HC HS0 HO6 Hz0]
  · iframe
  iintro ⟨HC, HF0⟩
  iapply (wp_wait_copy I K c [] ne_o1 iprop(outB I c 5 ∗ OS (F := F) c 1)) $$ [HF1 HT]
  · iframe HI; iframe HT; iexact HF1
  iintro ⟨⟨HO5, HS1⟩, Hz1, HT⟩
  iapply (wp_out I c 64 7 1 3584 38 (by decide) (by decide) (by decide) rfl (pay := k0_pay96 (scale I c)) (by unfold k0_pay96 outw outblk; rfl)) $$ [HC HS1 HO7 Hz1]
  · iframe
  iintro ⟨HC, HF1⟩
  iapply Hk
  iframe HT; iframe Hd11 Hd12 Hd14 Hd15; iframe HXA HXB HWA HWB; iframe HWA2 HWB2; iframe HXA2 HXA3 HXB2 HXB3; iframe HC; iframe HF0; iframe HF1; iframe

end Cert.KernelIdeal.Work
-- ==== Proof.KernelIdeal.Whole.lean ====
/- Whole buffers cut into the pieces the body works on, and put together again. -/
module

public import proofs.«01_k».proof.Proof.KernelIdeal.Body6

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

theorem stretch_cut (P : ℕ → ℕ → sProp 𝕄) (h : ∀ a b d, a ≤ b → b ≤ d → P a d ⊣⊢ iprop(P a b ∗ P b d)) :
    P 0 4096 ⊣⊢ iprop(P 0 512 ∗ P 512 1024 ∗ P 1024 1536 ∗ P 1536 2048 ∗ P 2048 2560 ∗ P 2560 3072 ∗ P 3072 3584 ∗ P 3584 4096) := by
  refine (h 0 512 4096 (by decide) (by decide)).trans (sep_congr .rfl ?_)
  refine (h 512 1024 4096 (by decide) (by decide)).trans (sep_congr .rfl ?_)
  refine (h 1024 1536 4096 (by decide) (by decide)).trans (sep_congr .rfl ?_)
  refine (h 1536 2048 4096 (by decide) (by decide)).trans (sep_congr .rfl ?_)
  refine (h 2048 2560 4096 (by decide) (by decide)).trans (sep_congr .rfl ?_)
  refine (h 2560 3072 4096 (by decide) (by decide)).trans (sep_congr .rfl ?_)
  exact h 3072 3584 4096 (by decide) (by decide)
theorem stretch_cut4 (P : ℕ → ℕ → sProp 𝕄) (h : ∀ a b d, a ≤ b → b ≤ d → P a d ⊣⊢ iprop(P a b ∗ P b d)) :
    P 0 2048 ⊣⊢ iprop(P 0 512 ∗ P 512 1024 ∗ P 1024 1536 ∗ P 1536 2048) := by
  refine (h 0 512 2048 (by decide) (by decide)).trans (sep_congr .rfl ?_)
  refine (h 512 1024 2048 (by decide) (by decide)).trans (sep_congr .rfl ?_)
  exact h 1024 1536 2048 (by decide) (by decide)

section Whole
variable (c : Dev nD)

/-- The block of `x` as its eight row strips. -/
def xhAll : sProp 𝕄 := iprop(xhB I c 0 ∗ xhB I c 1 ∗ xhB I c 2 ∗ xhB I c 3 ∗ xhB I c 4 ∗ xhB I c 5 ∗ xhB I c 6 ∗ xhB I c 7)
theorem xh_all : xhP c Finset.univ fullShare (I.x c) ⊣⊢ xhAll I c := by
  have h := stretch_cut (fun a b => xhP c (rows a b) fullShare (I.x c)) (fun a b d h h' => pts_cut (rows_union h h') (rows_disjoint (.inl le_rfl)))
  rw [show (rows 0 4096 : Finset S4096x1024.Idx) = Finset.univ from rows_univ] at h
  exact h
/-- The result's array as its eight row strips, holding the result; holding anything. -/
def outAll : sProp 𝕄 := iprop(outB I c 0 ∗ outB I c 1 ∗ outB I c 2 ∗ outB I c 3 ∗ outB I c 4 ∗ outB I c 5 ∗ outB I c 6 ∗ outB I c 7)
theorem out_cut (f : S4096x2048.Idx → F .f32) : outP c Finset.univ fullShare f ⊣⊢
    iprop(outP c (rows 0 512) fullShare f ∗ outP c (rows 512 1024) fullShare f ∗ outP c (rows 1024 1536) fullShare f ∗ outP c (rows 1536 2048) fullShare f
      ∗ outP c (rows 2048 2560) fullShare f ∗ outP c (rows 2560 3072) fullShare f ∗ outP c (rows 3072 3584) fullShare f ∗ outP c (rows 3584 4096) fullShare f) := by
  have h := stretch_cut (fun a b => outP c (rows a b) fullShare f) (fun a b d h h' => pts_cut (rows_union h h') (rows_disjoint (.inl le_rfl)))
  rw [show (rows 0 4096 : Finset S4096x2048.Idx) = Finset.univ from rows_univ] at h
  exact h
theorem out_all : outAll I c ⊢ outP c Finset.univ fullShare (OUT I c) := (out_cut c (OUT I c)).2
def oeAll : sProp 𝕄 := iprop(OE (F := F) c 0 ∗ OE (F := F) c 1 ∗ OE (F := F) c 2 ∗ OE (F := F) c 3 ∗ OE (F := F) c 4 ∗ OE (F := F) c 5 ∗ OE (F := F) c 6 ∗ OE (F := F) c 7)
theorem oe_all (f : S4096x2048.Idx → F .f32) : outP c Finset.univ fullShare f ⊢ oeAll (F := F) c := by
  iintro H
  ihave H := ((out_cut c f).1) $$ H
  icases H with ⟨H0, H1, H2, H3, H4, H5, H6, H7⟩
  unfold oeAll OE
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

theorem xla_open : (iprop(∃ f, xlaP (F := F) c Finset.univ fullShare f) : sProp 𝕄) ⊢ iprop(AX (F := F) c 0 ∗ AX (F := F) c 512 ∗ AX (F := F) c 1024 ∗ AX (F := F) c 1536) := by
  iintro ⟨%f, H⟩
  have h := stretch_cut4 (fun a b => xlaP c (rows a b) fullShare f) (fun a b d h h' => pts_cut (rows_union h h') (rows_disjoint (.inl le_rfl)))
  rw [show (rows 0 2048 : Finset S2048x1024.Idx) = Finset.univ from rows_univ] at h
  ihave H := (h.1) $$ H
  icases H with ⟨H0, H1, H2, H3⟩
  isplitl [H0]; · iexists f; iexact H0
  isplitl [H1]; · iexists f; iexact H1
  isplitl [H2]; · iexists f; iexact H2
  iexists f; iexact H3

theorem xlb_open : (iprop(∃ f, xlbP (F := F) c Finset.univ fullShare f) : sProp 𝕄) ⊢ iprop(BX (F := F) c 0 ∗ BX (F := F) c 512 ∗ BX (F := F) c 1024 ∗ BX (F := F) c 1536) := by
  iintro ⟨%f, H⟩
  have h := stretch_cut4 (fun a b => xlbP c (rows a b) fullShare f) (fun a b d h h' => pts_cut (rows_union h h') (rows_disjoint (.inl le_rfl)))
  rw [show (rows 0 2048 : Finset S2048x1024.Idx) = Finset.univ from rows_univ] at h
  ihave H := (h.1) $$ H
  icases H with ⟨H0, H1, H2, H3⟩
  isplitl [H0]; · iexists f; iexact H0
  isplitl [H1]; · iexists f; iexact H1
  isplitl [H2]; · iexists f; iexact H2
  iexists f; iexact H3

theorem xstg_open : (iprop(∃ f, xstgP (F := F) c Finset.univ fullShare f) : sProp 𝕄) ⊢ iprop(XS (F := F) c 0 ∗ XS (F := F) c 1) := by
  iintro ⟨%f, H⟩
  ihave H := ((pts_cut (slabs_univ2) (slab_disjoint (.inl (by decide)))).1) $$ H
  icases H with ⟨H0, H1⟩
  unfold XS
  isplitl [H0]; · iexists f; iexact H0
  iexists f; iexact H1
theorem xstg_close : iprop(XS (F := F) c 0 ∗ XS (F := F) c 1) ⊢ (iprop(∃ f, xstgP (F := F) c Finset.univ fullShare f) : sProp 𝕄) := by
  unfold XS
  iintro ⟨⟨%f, H0⟩, ⟨%g, H1⟩⟩
  iexists (fun i => if (i 0).val = 0 then f i else g i)
  iapply ((pts_cut (slabs_univ2) (slab_disjoint (.inl (by decide)))).2)
  isplitl [H0]
  · iapply (Entails.of_eq (pointsTo_congr (fun i hi => (if_pos (mem_slab.mp hi).1).symm))); iexact H0
  iapply (Entails.of_eq (pointsTo_congr (fun i hi => (if_neg (fun h => by have := (mem_slab.mp hi).1; omega)).symm))); iexact H1

theorem stage_open : (iprop(∃ f, stageP (F := F) c Finset.univ fullShare f) : sProp 𝕄) ⊢ iprop(OS (F := F) c 0 ∗ OS (F := F) c 1) := by
  iintro ⟨%f, H⟩
  ihave H := ((pts_cut (slabs_univ2) (slab_disjoint (.inl (by decide)))).1) $$ H
  icases H with ⟨H0, H1⟩
  unfold OS
  isplitl [H0]; · iexists f; iexact H0
  iexists f; iexact H1
theorem stage_close : iprop(OS (F := F) c 0 ∗ OS (F := F) c 1) ⊢ (iprop(∃ f, stageP (F := F) c Finset.univ fullShare f) : sProp 𝕄) := by
  unfold OS
  iintro ⟨⟨%f, H0⟩, ⟨%g, H1⟩⟩
  iexists (fun i => if (i 0).val = 0 then f i else g i)
  iapply ((pts_cut (slabs_univ2) (slab_disjoint (.inl (by decide)))).2)
  isplitl [H0]
  · iapply (Entails.of_eq (pointsTo_congr (fun i hi => (if_pos (mem_slab.mp hi).1).symm))); iexact H0
  iapply (Entails.of_eq (pointsTo_congr (fun i hi => (if_neg (fun h => by have := (mem_slab.mp hi).1; omega)).symm))); iexact H1

/-- Three slots make a buffer. -/
theorem three {ℓ : Loc nD τ sig} {S₀ S₁ S₂ S : Finset (Idx ℓ)} {f : Buf (Elt F) ℓ} (h : S₀ ∪ (S₁ ∪ S₂) = S) (h1 : Disjoint S₁ S₂) (h0 : Disjoint S₀ (S₁ ∪ S₂)) :
    (ℓ ↦[S]{fullShare} f : sProp 𝕄) ⊣⊢ iprop((ℓ ↦[S₀]{fullShare} f) ∗ (ℓ ↦[S₁]{fullShare} f) ∗ ℓ ↦[S₂]{fullShare} f) :=
  (pts_cut h h0).trans (sep_congr .rfl (pts_cut rfl h1))
theorem xga_three (f : S3x2048x1024.Idx → F .fp8e5m2) : xgaP c Finset.univ fullShare f ⊣⊢
    iprop(xgaP c (slab 0 0 2048) fullShare f ∗ xgaP c (slab 1 0 2048) fullShare f ∗ xgaP c (slab 2 0 2048) fullShare f) :=
  three slabs_univ3 (slab_disjoint (.inl (by decide))) (Finset.disjoint_union_right.mpr ⟨slab_disjoint (.inl (by decide)), slab_disjoint (.inl (by decide))⟩)
theorem xgb_three (f : S3x2048x1024.Idx → F .fp8e5m2) : xgbP c Finset.univ fullShare f ⊣⊢
    iprop(xgbP c (slab 0 0 2048) fullShare f ∗ xgbP c (slab 1 0 2048) fullShare f ∗ xgbP c (slab 2 0 2048) fullShare f) :=
  three slabs_univ3 (slab_disjoint (.inl (by decide))) (Finset.disjoint_union_right.mpr ⟨slab_disjoint (.inl (by decide)), slab_disjoint (.inl (by decide))⟩)
theorem wga_three (f : S3x1024x1024.Idx → F .fp8e5m2) : wgaP c Finset.univ fullShare f ⊣⊢
    iprop(wgaP c (slab 0 0 1024) fullShare f ∗ wgaP c (slab 1 0 1024) fullShare f ∗ wgaP c (slab 2 0 1024) fullShare f) :=
  three slabs_univ3 (slab_disjoint (.inl (by decide))) (Finset.disjoint_union_right.mpr ⟨slab_disjoint (.inl (by decide)), slab_disjoint (.inl (by decide))⟩)
theorem wgb_three (f : S3x1024x1024.Idx → F .fp8e5m2) : wgbP c Finset.univ fullShare f ⊣⊢
    iprop(wgbP c (slab 0 0 1024) fullShare f ∗ wgbP c (slab 1 0 1024) fullShare f ∗ wgbP c (slab 2 0 1024) fullShare f) :=
  three slabs_univ3 (slab_disjoint (.inl (by decide))) (Finset.disjoint_union_right.mpr ⟨slab_disjoint (.inl (by decide)), slab_disjoint (.inl (by decide))⟩)

omit [FloatOps F] in
theorem piece_intro (P : sProp 𝕄) (xa xb wa wb) (t : Fin 16) (h : P = landP (F := F) c xa xb wa wb t) : P ⊢ piece (F := F) c t := by
  subst h
  unfold piece
  iintro H
  iexists xa, xb, wa, wb
  iexact H

theorem pieces_right (xa xb : S3x2048x1024.Idx → F .fp8e5m2) (wa wb : S3x1024x1024.Idx → F .fp8e5m2) :
    iprop(xgaP c Finset.univ fullShare xa ∗ wgaP c Finset.univ fullShare wa) ⊢ pieces (F := F) c rightTs := by
  iintro ⟨HX, HW⟩
  ihave HX := ((xga_three c xa).1) $$ HX
  icases HX with ⟨Hs, H7, Hu⟩
  ihave Hs := ((pts_cut (slab_union (b := 1024) (by decide) (by decide)) (slab_disjoint (.inr (.inl le_rfl)))).1) $$ Hs
  icases Hs with ⟨H0, H4⟩
  ihave Hu := ((pts_cut (slab_union (b := 1024) (by decide) (by decide)) (slab_disjoint (.inr (.inl le_rfl)))).1) $$ Hu
  icases Hu with ⟨H11, H12⟩
  ihave HW := ((wga_three c wa).1) $$ HW
  icases HW with ⟨H2, H6, H10⟩
  unfold pieces rightTs
  simp only [bigSepL_next]
  isplitl [H0]; · iapply (piece_intro c (xgaP c (slab 0 0 1024) fullShare xa) xa xb wa wb 0 rfl); iexact H0
  isplitl [H2]; · iapply (piece_intro c (wgaP c (slab 0 0 1024) fullShare wa) xa xb wa wb 2 rfl); iexact H2
  isplitl [H4]; · iapply (piece_intro c (xgaP c (slab 0 1024 2048) fullShare xa) xa xb wa wb 4 rfl); iexact H4
  isplitl [H6]; · iapply (piece_intro c (wgaP c (slab 1 0 1024) fullShare wa) xa xb wa wb 6 rfl); iexact H6
  isplitl [H7]; · iapply (piece_intro c (xgaP c (slab 1 0 2048) fullShare xa) xa xb wa wb 7 rfl); iexact H7
  isplitl [H10]; · iapply (piece_intro c (wgaP c (slab 2 0 1024) fullShare wa) xa xb wa wb 10 rfl); iexact H10
  isplitl [H11]; · iapply (piece_intro c (xgaP c (slab 2 0 1024) fullShare xa) xa xb wa wb 11 rfl); iexact H11
  isplitl [H12]; · iapply (piece_intro c (xgaP c (slab 2 1024 2048) fullShare xa) xa xb wa wb 12 rfl); iexact H12
  iapply (Entails.of_eq (bigSepL_nil _).symm); iempintro

theorem pieces_left (xa xb : S3x2048x1024.Idx → F .fp8e5m2) (wa wb : S3x1024x1024.Idx → F .fp8e5m2) :
    iprop(xgbP c Finset.univ fullShare xb ∗ wgbP c Finset.univ fullShare wb) ⊢ pieces (F := F) c leftTs := by
  iintro ⟨HX, HW⟩
  ihave HX := ((xgb_three c xb).1) $$ HX
  icases HX with ⟨H0, H9, H2⟩
  ihave H0 := ((pts_cut (slab_union (b := 1024) (by decide) (by decide)) (slab_disjoint (.inr (.inl le_rfl)))).1) $$ H0
  icases H0 with ⟨H1, H5⟩
  ihave H2 := ((pts_cut (slab_union (b := 1024) (by decide) (by decide)) (slab_disjoint (.inr (.inl le_rfl)))).1) $$ H2
  icases H2 with ⟨H14, H15⟩
  ihave HW := ((wgb_three c wb).1) $$ HW
  icases HW with ⟨H3, H8, H13⟩
  unfold pieces leftTs
  simp only [bigSepL_next]
  isplitl [H1]; · iapply (piece_intro c (xgbP c (slab 0 0 1024) fullShare xb) xa xb wa wb 1 rfl); iexact H1
  isplitl [H3]; · iapply (piece_intro c (wgbP c (slab 0 0 1024) fullShare wb) xa xb wa wb 3 rfl); iexact H3
  isplitl [H5]; · iapply (piece_intro c (xgbP c (slab 0 1024 2048) fullShare xb) xa xb wa wb 5 rfl); iexact H5
  isplitl [H8]; · iapply (piece_intro c (wgbP c (slab 1 0 1024) fullShare wb) xa xb wa wb 8 rfl); iexact H8
  isplitl [H9]; · iapply (piece_intro c (xgbP c (slab 1 0 2048) fullShare xb) xa xb wa wb 9 rfl); iexact H9
  isplitl [H13]; · iapply (piece_intro c (wgbP c (slab 2 0 1024) fullShare wb) xa xb wa wb 13 rfl); iexact H13
  isplitl [H14]; · iapply (piece_intro c (xgbP c (slab 2 0 1024) fullShare xb) xa xb wa wb 14 rfl); iexact H14
  isplitl [H15]; · iapply (piece_intro c (xgbP c (slab 2 1024 2048) fullShare xb) xa xb wa wb 15 rfl); iexact H15
  iapply (Entails.of_eq (bigSepL_nil _).symm); iempintro

/-- The rightward ring's buffers whole again. -/
theorem ring_close_a : iprop((xlaP c (rows 0 2048) qL (XLA I c) ∗ sendPay I c 0 ∗ sendPay I c 4) ∗ (wlaP c Finset.univ qL (WLA I c) ∗ sendPay I c 2)
      ∗ (xgaP c (slab 0 0 2048) qL (XGA I c) ∗ sendPay I c 7) ∗ (xgaP c (slab 1 0 2048) qL (XGA I c) ∗ sendPay I c 11 ∗ sendPay I c 12)
      ∗ (xgaP c (slab 2 0 1024) fullShare (XGA I c) ∗ xgaP c (slab 2 1024 2048) fullShare (XGA I c))
      ∗ (wgaP c (slab 0 0 1024) qL (WGA I c) ∗ sendPay I c 6) ∗ (wgaP c (slab 1 0 1024) qL (WGA I c) ∗ sendPay I c 10) ∗ wgaP c (slab 2 0 1024) fullShare (WGA I c))
    ⊢ (iprop((∃ f, xlaP (F := F) c Finset.univ fullShare f) ∗ (∃ f, wlaP (F := F) c Finset.univ fullShare f) ∗ (∃ f, xgaP (F := F) c Finset.univ fullShare f) ∗ ∃ f, wgaP (F := F) c Finset.univ fullShare f) : sProp 𝕄) := by
  have hl : iprop(xlaP c (rows 0 2048) qL (XLA I c) ∗ sendPay I c 0 ∗ sendPay I c 4) ⊢ xlaP c Finset.univ fullShare (XLA I c) := by
    rw [← show (rows 0 2048 : Finset S2048x1024.Idx) = Finset.univ from rows_univ]
    exact half_uncut (rows_union (by decide) (by decide)) (rows_disjoint (.inl le_rfl))
  have hw : iprop(wlaP c Finset.univ qL (WLA I c) ∗ sendPay I c 2) ⊢ wlaP c Finset.univ fullShare (WLA I c) := pts_half.2
  have h0 : iprop(xgaP c (slab 0 0 2048) qL (XGA I c) ∗ sendPay I c 7) ⊢ xgaP c (slab 0 0 2048) fullShare (XGA I c) := pts_half.2
  have h1 : iprop(xgaP c (slab 1 0 2048) qL (XGA I c) ∗ sendPay I c 11 ∗ sendPay I c 12) ⊢ xgaP c (slab 1 0 2048) fullShare (XGA I c) :=
    half_uncut (slab_union (by decide) (by decide)) (slab_disjoint (.inr (.inl le_rfl)))
  have h2 : iprop(xgaP c (slab 2 0 1024) fullShare (XGA I c) ∗ xgaP c (slab 2 1024 2048) fullShare (XGA I c)) ⊢ xgaP c (slab 2 0 2048) fullShare (XGA I c) :=
    slab_join (slab_union (by decide) (by decide)) (slab_disjoint (.inr (.inl le_rfl)))
  have k0 : iprop(wgaP c (slab 0 0 1024) qL (WGA I c) ∗ sendPay I c 6) ⊢ wgaP c (slab 0 0 1024) fullShare (WGA I c) := pts_half.2
  have k1 : iprop(wgaP c (slab 1 0 1024) qL (WGA I c) ∗ sendPay I c 10) ⊢ wgaP c (slab 1 0 1024) fullShare (WGA I c) := pts_half.2
  iintro ⟨HL, HW, H0, H1, H2, K0, K1, K2⟩
  isplitl [HL]; · iexists (XLA I c); iapply hl; iexact HL
  isplitl [HW]; · iexists (WLA I c); iapply hw; iexact HW
  isplitl [H0 H1 H2]
  · iexists (XGA I c); iapply ((xga_three c _).2)
    isplitl [H0]; · iapply h0; iexact H0
    isplitl [H1]; · iapply h1; iexact H1
    iapply h2; iexact H2
  iexists (WGA I c); iapply ((wga_three c _).2)
  isplitl [K0]; · iapply k0; iexact K0
  isplitl [K1]; · iapply k1; iexact K1
  iexact K2

/-- The leftward ring's buffers whole again. -/
theorem ring_close_b : iprop((xlbP c (rows 0 2048) qL (XLB I c) ∗ sendPay I c 1 ∗ sendPay I c 5) ∗ (wlbP c Finset.univ qL (WLB I c) ∗ sendPay I c 3)
      ∗ (xgbP c (slab 0 0 2048) qL (XGB I c) ∗ sendPay I c 9) ∗ (xgbP c (slab 1 0 2048) qL (XGB I c) ∗ sendPay I c 14 ∗ sendPay I c 15)
      ∗ (xgbP c (slab 2 0 1024) fullShare (XGB I c) ∗ xgbP c (slab 2 1024 2048) fullShare (XGB I c))
      ∗ (wgbP c (slab 0 0 1024) qL (WGB I c) ∗ sendPay I c 8) ∗ (wgbP c (slab 1 0 1024) qL (WGB I c) ∗ sendPay I c 13) ∗ wgbP c (slab 2 0 1024) fullShare (WGB I c))
    ⊢ (iprop((∃ f, xlbP (F := F) c Finset.univ fullShare f) ∗ (∃ f, wlbP (F := F) c Finset.univ fullShare f) ∗ (∃ f, xgbP (F := F) c Finset.univ fullShare f) ∗ ∃ f, wgbP (F := F) c Finset.univ fullShare f) : sProp 𝕄) := by
  have hl : iprop(xlbP c (rows 0 2048) qL (XLB I c) ∗ sendPay I c 1 ∗ sendPay I c 5) ⊢ xlbP c Finset.univ fullShare (XLB I c) := by
    rw [← show (rows 0 2048 : Finset S2048x1024.Idx) = Finset.univ from rows_univ]
    exact half_uncut (rows_union (by decide) (by decide)) (rows_disjoint (.inl le_rfl))
  have hw : iprop(wlbP c Finset.univ qL (WLB I c) ∗ sendPay I c 3) ⊢ wlbP c Finset.univ fullShare (WLB I c) := pts_half.2
  have h0 : iprop(xgbP c (slab 0 0 2048) qL (XGB I c) ∗ sendPay I c 9) ⊢ xgbP c (slab 0 0 2048) fullShare (XGB I c) := pts_half.2
  have h1 : iprop(xgbP c (slab 1 0 2048) qL (XGB I c) ∗ sendPay I c 14 ∗ sendPay I c 15) ⊢ xgbP c (slab 1 0 2048) fullShare (XGB I c) :=
    half_uncut (slab_union (by decide) (by decide)) (slab_disjoint (.inr (.inl le_rfl)))
  have h2 : iprop(xgbP c (slab 2 0 1024) fullShare (XGB I c) ∗ xgbP c (slab 2 1024 2048) fullShare (XGB I c)) ⊢ xgbP c (slab 2 0 2048) fullShare (XGB I c) :=
    slab_join (slab_union (by decide) (by decide)) (slab_disjoint (.inr (.inl le_rfl)))
  have k0 : iprop(wgbP c (slab 0 0 1024) qL (WGB I c) ∗ sendPay I c 8) ⊢ wgbP c (slab 0 0 1024) fullShare (WGB I c) := pts_half.2
  have k1 : iprop(wgbP c (slab 1 0 1024) qL (WGB I c) ∗ sendPay I c 13) ⊢ wgbP c (slab 1 0 1024) fullShare (WGB I c) := pts_half.2
  iintro ⟨HL, HW, H0, H1, H2, K0, K1, K2⟩
  isplitl [HL]; · iexists (XLB I c); iapply hl; iexact HL
  isplitl [HW]; · iexists (WLB I c); iapply hw; iexact HW
  isplitl [H0 H1 H2]
  · iexists (XGB I c); iapply ((xgb_three c _).2)
    isplitl [H0]; · iapply h0; iexact H0
    isplitl [H1]; · iapply h1; iexact H1
    iapply h2; iexact H2
  iexists (WGB I c); iapply ((wgb_three c _).2)
  isplitl [K0]; · iapply k0; iexact K0
  isplitl [K1]; · iapply k1; iexact K1
  iexact K2

theorem acc_forget (T : ℕ) : Acc I c T ⊢ (iprop(∃ f, accP (F := F) c Finset.univ fullShare f) : sProp 𝕄) := by
  unfold Acc
  iintro ⟨%f, -, H⟩
  iexists f; iexact H
end Whole

end Cert.KernelIdeal.Work
-- ==== Proof.KernelIdeal.Open.lean ====
/- The barrier, and the tokens of the transfers. -/
module

public import proofs.«01_k».proof.Proof.KernelIdeal.Whole

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

theorem dev1_eq (c : Dev nD) : (⟨k0_dev1 c, k0_dev1_lt c⟩ : Dev nD) = dv c 3 := by revert c; decide
theorem dev2_eq (c : Dev nD) : (⟨k0_dev2 c, k0_dev2_lt c⟩ : Dev nD) = dv c 1 := by revert c; decide

/-- What a device's barrier takes: its two duties at the neighbours', its place at its own, and the credit it waits with. -/
def barTok (c : Dev nD) : sProp 𝕄 :=
  iprop(dutyTok ER (barCell (dv c 3)) 0 true ∗ dutyTok ER (barCell (dv c 1)) 0 false ∗ atPos ER (barCell c) 0 ∅ 0 ∗ cred (tallyAt (barCell c) () 2))

/-- The tokens of the transfers with the neighbours' landing places. -/
theorem todo_intro (c : Dev nD) (W : Waits sig Unit) :
    iprop(owes (c : Thread nD τ) (owe c allTs) W ∗ bigSepL allTs (tok (F := F) c) ∗ pieces (F := F) (dv c 3) leftTs ∗ pieces (F := F) (dv c 1) rightTs)
      ⊢ Todo (F := F) c [0, 1, 2, 3, 4, 5, 6, 7, 8, 9, 10, 11, 12, 13, 14, 15] := by
  unfold Todo pieces allTs leftTs rightTs
  simp only [bigSepL_next]
  iintro ⟨HO, ⟨T0, T1, T2, T3, T4, T5, T6, T7, T8, T9, T10, T11, T12, T13, T14, T15, -⟩, ⟨P1, P3, P5, P8, P9, P13, P14, P15, -⟩, ⟨P0, P2, P4, P6, P7, P10, P11, P12, -⟩⟩
  isplitl [HO]; · iexists W; iexact HO
  isplitl [T0 P0]
  · isplitl [T0]; · iexact T0
    iapply (Entails.of_eq (rfl : piece (F := F) (dv c 1) 0 = piece (F := F) (peer c 0) 0)); iexact P0
  isplitl [T1 P1]
  · isplitl [T1]; · iexact T1
    iapply (Entails.of_eq (rfl : piece (F := F) (dv c 3) 1 = piece (F := F) (peer c 1) 1)); iexact P1
  isplitl [T2 P2]
  · isplitl [T2]; · iexact T2
    iapply (Entails.of_eq (rfl : piece (F := F) (dv c 1) 2 = piece (F := F) (peer c 2) 2)); iexact P2
  isplitl [T3 P3]
  · isplitl [T3]; · iexact T3
    iapply (Entails.of_eq (rfl : piece (F := F) (dv c 3) 3 = piece (F := F) (peer c 3) 3)); iexact P3
  isplitl [T4 P4]
  · isplitl [T4]; · iexact T4
    iapply (Entails.of_eq (rfl : piece (F := F) (dv c 1) 4 = piece (F := F) (peer c 4) 4)); iexact P4
  isplitl [T5 P5]
  · isplitl [T5]; · iexact T5
    iapply (Entails.of_eq (rfl : piece (F := F) (dv c 3) 5 = piece (F := F) (peer c 5) 5)); iexact P5
  isplitl [T6 P6]
  · isplitl [T6]; · iexact T6
    iapply (Entails.of_eq (rfl : piece (F := F) (dv c 1) 6 = piece (F := F) (peer c 6) 6)); iexact P6
  isplitl [T7 P7]
  · isplitl [T7]; · iexact T7
    iapply (Entails.of_eq (rfl : piece (F := F) (dv c 1) 7 = piece (F := F) (peer c 7) 7)); iexact P7
  isplitl [T8 P8]
  · isplitl [T8]; · iexact T8
    iapply (Entails.of_eq (rfl : piece (F := F) (dv c 3) 8 = piece (F := F) (peer c 8) 8)); iexact P8
  isplitl [T9 P9]
  · isplitl [T9]; · iexact T9
    iapply (Entails.of_eq (rfl : piece (F := F) (dv c 3) 9 = piece (F := F) (peer c 9) 9)); iexact P9
  isplitl [T10 P10]
  · isplitl [T10]; · iexact T10
    iapply (Entails.of_eq (rfl : piece (F := F) (dv c 1) 10 = piece (F := F) (peer c 10) 10)); iexact P10
  isplitl [T11 P11]
  · isplitl [T11]; · iexact T11
    iapply (Entails.of_eq (rfl : piece (F := F) (dv c 1) 11 = piece (F := F) (peer c 11) 11)); iexact P11
  isplitl [T12 P12]
  · isplitl [T12]; · iexact T12
    iapply (Entails.of_eq (rfl : piece (F := F) (dv c 1) 12 = piece (F := F) (peer c 12) 12)); iexact P12
  isplitl [T13 P13]
  · isplitl [T13]; · iexact T13
    iapply (Entails.of_eq (rfl : piece (F := F) (dv c 3) 13 = piece (F := F) (peer c 13) 13)); iexact P13
  isplitl [T14 P14]
  · isplitl [T14]; · iexact T14
    iapply (Entails.of_eq (rfl : piece (F := F) (dv c 3) 14 = piece (F := F) (peer c 14) 14)); iexact P14
  isplitl [T15 P15]
  · isplitl [T15]; · iexact T15
    iapply (Entails.of_eq (rfl : piece (F := F) (dv c 3) 15 = piece (F := F) (peer c 15) 15)); iexact P15
  iapply (Entails.of_eq (bigSepL_nil _).symm); iempintro

set_option maxHeartbeats 800000 in
/-- The barrier with both neighbours, through which the landing places are lent, and the copy in of `w`. -/
theorem wp_open {α : Type} {Q : α → sProp 𝕄} (c : Dev nD) {k : ((_ : Dev nD) ×' (_ : BitVec 32) ×' BitVec 32) → Prog (TpuEff nD τ sig (Elt F) Λ₀ .tc) α} :
    iprop(Invs I K ∗ (∃ W, owes (c : Thread nD τ) (O₀ c) W) ∗ barTok (F := F) c ∗ bigSepL allTs (tok (F := F) c)
        ∗ (pieces (F := F) c rightTs ∗ pieces (F := F) c leftTs)
        ∗ (whP c Finset.univ fullShare (I.w c) ∗ (∃ f, wstgP (F := F) c Finset.univ fullShare f) ∗ semVal ((c : Thread nD τ), .dma 4) 0))
      ⊢ iprop((∀ v13, ∀ v24, iprop(Todo (F := F) c [0, 1, 2, 3, 4, 5, 6, 7, 8, 9, 10, 11, 12, 13, 14, 15] ∗ semVal (barCell c) 0
            ∗ Flight EC (c : Thread nD τ) (.dma 4) () wstgM.view.dmaCredit (WD I c)) -∗ wpC c (k ⟨c, v13, v24⟩) Q)
          -∗ wpC c (pk k0_part1 >>= k) Q) := by
  simp only [pk, k0_part1_eq_skeleton]
  unfold k0_part1_skel
  simp only [semSignalWord, semWaitWord, Prog.lift, Prog.bind_op, Prog.bind_ret, Prog.pure_eq_ret, wp_deviceId]
  unfold barTok
  iintro ⟨#HI, ⟨%W, HO⟩, ⟨Ht3, Ht1, Hat, Hc⟩, HT, ⟨HR, HL⟩, HW⟩ Hk
  simp only [dev1_eq c, dev2_eq c]
  ihave #HI0 := (Invs_cell I K (c, none)) $$ HI
  ihave #HI1 := (Invs_cell I K (dv c 1, none)) $$ HI
  ihave #HI3 := (Invs_cell I K (dv c 3, none)) $$ HI
  ihave #HV := (Invs_lev I K) $$ HI
  icases HI0 with ⟨#Hi0, #Hr0⟩
  icases HI1 with ⟨#Hi1, #Hr1⟩
  icases HI3 with ⟨#Hi3, #Hr3⟩
  iapply (Rounds.wp_signal 𝒱₀ ER (ringRd I) (c : Thread nD τ) none (dst := (dv c 3 : Thread nD τ)) (κ := K (dv c 3, none))
      (d := true) (by rw [duties_bar]; exact Finset.mem_univ _) ((amount_bar I (dv c 3) true).trans (by decide)) () (O₁ c) rfl) $$ [HO Ht3 HR]
  · isplitr; · iexact Hi3
    isplitl [HO]; · iexact HO
    isplitl [Ht3]; · iexact Ht3
    isplitl [HR]
    · iapply (Entails.of_eq ((payload_bar_true I (dv c 3)).trans (by rw [dv_dv, dv_four])).symm); iexact HR
    iexact Hr3
  iintro HO
  unfold O₁
  iapply (Rounds.wp_signal 𝒱₀ ER (ringRd I) (c : Thread nD τ) none (dst := (dv c 1 : Thread nD τ)) (κ := K (dv c 1, none))
      (d := false) (by rw [duties_bar]; exact Finset.mem_univ _) ((amount_bar I (dv c 1) false).trans (by decide)) () (owe c allTs) rfl) $$ [HO Ht1 HL]
  · isplitr; · iexact Hi1
    isplitl [HO]; · iexact HO
    isplitl [Ht1]; · iexact Ht1
    isplitl [HL]
    · iapply (Entails.of_eq ((payload_bar_false I (dv c 1)).trans (by rw [dv_dv, dv_four])).symm); iexact HL
    iexact Hr1
  iintro HO
  iapply (Rounds.wp_wait_rest_token 𝒱₀ ER (ringRd I) (c : Thread nD τ) none (κ := K (c, none))
      (wpE_semWait_eq 𝒱₀ (c : Thread nD τ) none Set.univ) (Set.mem_univ _) () (O := owe c allTs) (W := W) (R := 0) (m := 0) (T := ∅)
      (by rw [expect_bar]; decide)) $$ [Hc HO Hat]
  · isplitr; · iexact Hi0
    isplitl [Hc]; · iexact Hc
    isplitl [HO]; · iexact HO
    isplitr; · iapply (mayWait_owe c (.reg barS) allTs 1 (lv_bar c) (fun t _ => rlv_pos t)); iexact HV
    iexact Hat
  iintro ⟨HO, Hat, -, Hpay⟩
  ihave Hp := (Entails.of_eq (rest_bar I c)) $$ Hpay
  icases Hp with ⟨HL, HR⟩
  imod (Rounds.cell_close ER (ringRd I) (Set.mem_univ (K (c, none))) (fun h => h) (R := 0 + 1) (duties_later I (barCell c))) $$ [Hat] with Hz
  · isplitr; · iexact Hi0
    iexact Hat
  ihave HT := (todo_intro c _) $$ [HO HT HL HR]
  · iframe HO HT; iframe
  iapply (wp_wcopy I c 4) $$ [HW]
  · iexact HW
  iintro HF
  iapply Hk
  iframe

end Cert.KernelIdeal.Work
-- ==== Proof.KernelIdeal.Chain.lean ====
/- The body as the chain of its parts. -/
module

public import proofs.«01_k».proof.Proof.KernelIdeal.Open

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

/-- The parts after the last wait for a whole block, from the product of the scales. -/
def chainEnd (v13 v24 : BitVec 32) (a : F .f32) : Prog (TpuEff nD τ sig (Elt F) Λ₀ .tc) PUnit :=
  pk k0_part37 v24 >>= fun _ => pk k0_part38 >>= fun r => pk k0_part39 a r.1 r.2 >>= fun _ => pk k0_part40 v24 >>= fun v => pk k0_part41 v >>= fun _ =>
  pk k0_part42 a >>= fun _ => pk k0_part43 a >>= fun _ => pk k0_part44 v13 >>= fun v => pk k0_part45 v >>= fun v => pk k0_part46 a v >>= fun v =>
  pk k0_part47 v13 v >>= fun _ => pk k0_part48 >>= fun r => pk k0_part49 a r.1 r.2 >>= fun v => pk k0_part50 a v >>= fun _ =>
  .op (.waitDma2 37 ((stageM.slice (Rect.unit (s := S2x512x2048) ![0, 0, 0] S1x512x2048.size inb_S2x512x2048_S1x512x2048_0_0_0) (fun _ => rfl)).squeeze S512x2048 squeezes_S1x512x2048_S512x2048)
    (outM.slice (Rect.unit (s := S4096x2048) ![3072, 0] S512x2048.size inb_S4096x2048_S512x2048_3072_0) (fun _ => rfl)) ((View.wordExact_bits rfl).reshape _ _) (View.wordExact_bits rfl)) fun _ =>
  .op (.waitDma2 38 ((stageM.slice (Rect.unit (s := S2x512x2048) ![1, 0, 0] S1x512x2048.size inb_S2x512x2048_S1x512x2048_1_0_0) (fun _ => rfl)).squeeze S512x2048 squeezes_S1x512x2048_S512x2048)
    (outM.slice (Rect.unit (s := S4096x2048) ![3584, 0] S512x2048.size inb_S4096x2048_S512x2048_3584_0) (fun _ => rfl)) ((View.wordExact_bits rfl).reshape _ _) (View.wordExact_bits rfl)) fun _ => .ret ⟨⟩

/-- The body's parts in order, on the launch's buffers. -/
def chain : Prog (TpuEff nD τ sig (Elt F) Λ₀ .tc) PUnit :=
  pk k0_part1 >>= fun p => pk k0_part2 >>= fun _ => pk k0_part3 >>= fun _ => pk k0_part4 p.1 p.2.2 >>= fun _ => pk k0_part5 p.1 p.2.1 p.2.2 >>= fun _ => pk k0_part6 p.1 p.2.1 >>= fun _ => pk k0_part7 p.2.2 >>= fun r =>
  pk k0_part8 p.1 p.2.1 r.1 r.2 >>= fun v => pk k0_part9 v >>= fun v => pk k0_part10 v >>= fun v => pk k0_part11 v >>= fun v => pk k0_part12 v >>= fun _ =>
  pk k0_part13 p.2.1 p.2.2 >>= fun _ => pk k0_part14 p.2.1 p.2.2 >>= fun _ => pk k0_part15 p.2.1 p.2.2 >>= fun _ => pk k0_part16 p.1 p.2.1 p.2.2 >>= fun _ =>
  pk k0_part17 p.1 >>= fun _ => pk k0_part18 >>= fun v => pk k0_part19 v >>= fun v => pk k0_part20 p.2.2 v >>= fun v => pk k0_part21 p.2.2 v >>= fun _ =>
  pk k0_part22 p.1 p.2.2 >>= fun _ => pk k0_part23 p.2.1 >>= fun _ =>
  pk k0_part24 p.1 p.2.1 >>= fun r => pk k0_part25 r.1 r.2 >>= fun r => pk k0_part26 r.1 r.2 >>= fun r => pk k0_part27 r.1 r.2 >>= fun _ =>
  pk k0_part28 >>= fun v => pk k0_part29 v >>= fun v => pk k0_part30 v >>= fun v => pk k0_part31 v >>= fun _ =>
  pk k0_part32 p.2.2 >>= fun s => pk k0_part33 s.2 >>= fun v => pk k0_part34 p.2.1 v >>= fun _ => pk k0_part35 >>= fun _ => pk k0_part36 >>= fun _ =>
  chainEnd p.2.1 p.2.2 s.1

theorem body_eq : (pk cc0_body : Prog (TpuEff nD τ sig (Elt F) Λ₀ .tc) PUnit) = chain := by
  simp only [pk, cc0_body_eq_skeleton]
  unfold cc0_body_skel
  simp only [k0_part51_eq_skeleton]
  unfold k0_part51_skel
  simp only [bind_assoc]
  unfold chain chainEnd
  rfl

end Cert.KernelIdeal.Work
-- ==== Proof.KernelIdeal.Body7.lean ====
/- The whole body on one device. -/
module

public import proofs.«01_k».proof.Proof.KernelIdeal.Chain

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (K : Dev nD × Cx → ℕ)

/-- The kernel's scratch buffers, with any contents. -/
def scr (c : Dev nD) : sProp 𝕄 :=
  iprop((∃ f, xlaP (F := F) c Finset.univ fullShare f) ∗ (∃ f, xlbP (F := F) c Finset.univ fullShare f) ∗ (∃ f, wlaP (F := F) c Finset.univ fullShare f) ∗ (∃ f, wlbP (F := F) c Finset.univ fullShare f)
    ∗ (∃ f, xgaP (F := F) c Finset.univ fullShare f) ∗ (∃ f, xgbP (F := F) c Finset.univ fullShare f) ∗ (∃ f, wgaP (F := F) c Finset.univ fullShare f) ∗ (∃ f, wgbP (F := F) c Finset.univ fullShare f)
    ∗ (∃ f, accP (F := F) c Finset.univ fullShare f) ∗ (∃ f, stageP (F := F) c Finset.univ fullShare f) ∗ (∃ f, xstgP (F := F) c Finset.univ fullShare f) ∗ (∃ f, wstgP (F := F) c Finset.univ fullShare f))
/-- The semaphores of the copies within the device, at zero. -/
def locSem (c : Dev nD) : sProp 𝕄 :=
  iprop(semVal ((c : Thread nD τ), .dma 2) 0 ∗ semVal ((c : Thread nD τ), .dma 3) 0 ∗ semVal ((c : Thread nD τ), .dma 4) 0 ∗ semVal ((c : Thread nD τ), .dma 37) 0 ∗ semVal ((c : Thread nD τ), .dma 38) 0)
/-- The transfers' semaphores, at zero. -/
def doneAll (c : Dev nD) : sProp 𝕄 :=
  iprop(done (F := F) c 0 ∗ done (F := F) c 1 ∗ done (F := F) c 2 ∗ done (F := F) c 3 ∗ done (F := F) c 4 ∗ done (F := F) c 5 ∗ done (F := F) c 6 ∗ done (F := F) c 7 ∗ done (F := F) c 8 ∗ done (F := F) c 9 ∗ done (F := F) c 10 ∗ done (F := F) c 11 ∗ done (F := F) c 12 ∗ done (F := F) c 13 ∗ done (F := F) c 14 ∗ done (F := F) c 15)

/-- What the body starts from, and what it leaves. -/
def kIn (c : Dev nD) : sProp 𝕄 :=
  iprop((∃ W, owes (c : Thread nD τ) (O₀ c) W) ∗ barTok (F := F) c ∗ bigSepL allTs (tok (F := F) c)
    ∗ xhP c Finset.univ fullShare (I.x c) ∗ whP c Finset.univ fullShare (I.w c) ∗ (∃ f, outP (F := F) c Finset.univ fullShare f) ∗ scaP I c ∗ scr (F := F) c ∗ locSem (F := F) c)
def kOut (c : Dev nD) : sProp 𝕄 :=
  iprop((∃ W, owes (c : Thread nD τ) 0 W) ∗ xhP c Finset.univ fullShare (I.x c) ∗ whP c Finset.univ fullShare (I.w c) ∗ outP c Finset.univ fullShare (OUT I c)
    ∗ scaP I c ∗ scr (F := F) c ∗ locSem (F := F) c ∗ semVal (barCell c) 0 ∗ doneAll (F := F) c)

theorem todo_nil (c : Dev nD) : Todo (F := F) c [] ⊢ iprop(∃ W, owes (c : Thread nD τ) 0 W) := by
  unfold Todo
  iintro ⟨H, -⟩
  iexact H

set_option maxHeartbeats 1600000 in
/-- The whole body on one device. -/
theorem wp_kernel (c : Dev nD) (Kt : PUnit → sProp 𝕄) :
    iprop(Invs I K ∗ kIn I c) ⊢ iprop((kOut I c -∗ Kt ⟨⟩) -∗ wpC c (pk cc0_body) Kt) := by
  rw [body_eq]
  unfold chain kIn locSem scr
  iintro ⟨#HI, HO, Hbar, Htok, Hx, Hw, ⟨%fo, Hout⟩, Hsca, ⟨HXLA, HXLB, HWLA, HWLB, ⟨%xa, HXGA⟩, ⟨%xb, HXGB⟩, ⟨%wa, HWGA⟩, ⟨%wb, HWGB⟩, HC, Hstage, Hxstg, Hwstg⟩, ⟨Hz2, Hz3, Hz4, Hz37, Hz38⟩⟩ Hk
  ihave HPR := (pieces_right c xa xb wa wb) $$ [HXGA HWGA]
  · iframe
  ihave HPL := (pieces_left c xa xb wa wb) $$ [HXGB HWGB]
  · iframe
  iapply (wp_open I K c) $$ [HO Hbar Htok HPR HPL Hw Hwstg Hz4]
  · iframe HI; iframe HO; iframe Hbar; iframe Htok; iframe HPR HPL; iframe Hw; iframe Hwstg; iframe
  iintro %v13 %v24 ⟨HT, Hzb, HFW⟩
  ihave Hx := ((xh_all I c).1) $$ Hx
  ihave Hout := (oe_all c fo) $$ Hout
  ihave HXLA := (xla_open c) $$ HXLA
  ihave HXLB := (xlb_open c) $$ HXLB
  ihave Hxstg := (xstg_open c) $$ Hxstg
  ihave Hstage := (stage_open c) $$ Hstage
  unfold xhAll oeAll
  icases Hx with ⟨Hx0, Hx1, Hx2, Hx3, Hx4, Hx5, Hx6, Hx7⟩
  icases HXLA with ⟨HA0, HA1, HA2, HA3⟩
  icases HXLB with ⟨HB0, HB1, HB2, HB3⟩
  icases Hxstg with ⟨HX0, HX1⟩
  icases Hstage with ⟨HS0, HS1⟩
  iapply (wp_stage I K c v13 v24) $$ [HT HFW Hx0 Hx1 Hx2 Hx3 Hx4 Hx5 Hx6 Hx7 HA0 HA1 HA2 HA3 HB0 HB1 HB2 HB3 HX0 HX1 HWLA HWLB Hz2 Hz3]
  · iframe HI
    unfold stIn
    iframe HFW; iframe HT; iframe HX0; iframe HX1; iframe Hz2 Hz3; iframe Hx0 Hx1 Hx2 Hx3; iframe Hx4 Hx5 Hx6 Hx7; iframe HA0; iframe HA1; iframe HA2; iframe HA3; iframe HB0; iframe HB1; iframe HB2; iframe HB3; iframe HWLA; iframe
  iintro %r H
  unfold stMid
  icases H with ⟨HT, ⟨Hw, Hwstg, Hz4⟩, ⟨Hx0, Hx1, Hx2, Hx3, Hx4, Hx5, Hx6⟩, HX0, Hz2, HF3, HA0, HA2, HA3, HB0, HB2, HB3, HWLA, HWLB, Hf0, Hf1, Hf2, Hf3⟩
  iapply (wp_local I K c v13 r.1 r.2) $$ [HT HF3 HA0 HA2 HA3 HB0 HB2 HB3 HWLA HWLB HC]
  · iframe HI; iframe HT; iframe HF3; iframe HA0 HA2 HA3; iframe HB0 HB2 HB3; iframe HWLA HWLB; iframe
  iintro ⟨HT, Hf4, Hf5, ⟨Hx7, HX1, Hz3⟩, HOwn, HC⟩
  iapply (wp_pass I K c v13 v24) $$ [HT Hf0 Hf1 Hf2 Hf3 Hf4 Hf5]
  · iframe HI; iframe HT; iframe Hf0; iframe Hf1; iframe Hf2; iframe Hf3; iframe Hf4; iframe
  iintro ⟨HT, Hf6, Hf7, Hf8, HR1, Hnear⟩
  iapply (wp_near I K c v13 v24) $$ [HT Hf6 Hf7 Hf8 Hnear HC]
  · iframe HI; iframe HT; iframe Hf6; iframe Hf7; iframe Hf8; iframe HC; iexact Hnear
  iintro ⟨HT, Hf10, Hf11, Hf12, HR2, Hnear, HXA1, HWA1, Hr8, Hr9, HC⟩
  iapply (wp_mid I K c v13) $$ [HT HXA1 HWA1 Hr8 Hr9 HC]
  · iframe HI; iframe HT; iframe HXA1 HWA1; iframe Hr8; iframe Hr9; iframe
  iintro ⟨HT, Hf13, Hf14, Hf15, Hmid, HC⟩
  iapply (wp_far I K c v13 v24 (k := chainEnd v13 v24)) $$ [HT Hf10 Hf13 Hnear Hsca HC]
  · iframe HI; iframe HT; iframe Hf10; iframe Hf13; iframe Hnear; iframe Hsca; iframe
  iintro ⟨HT, Hd10, Hd13, Hnear, HWA2, HWB2, Hsca, HC⟩
  unfold chainEnd
  iapply (wp_tail I K c v13 v24) $$ [HT Hf11 Hf12 Hf14 Hf15 Hnear HWA2 HWB2 HC HS0 HS1 Hz37 Hz38 Hout]
  · iframe HI; iframe HT; iframe Hf11; iframe Hf12; iframe Hf14; iframe Hf15; iframe Hnear; iframe HWA2 HWB2; iframe HC; iframe HS0; iframe HS1; iframe Hz37 Hz38; iexact Hout
  iintro ⟨HT, ⟨Hd11, Hd12, Hd14, Hd15⟩, Hnear, ⟨HWA2, HWB2⟩, ⟨HXA2, HXA3, HXB2, HXB3⟩, HC, HF0, HF1, ⟨HO0, HO1, HO2, HO3, HO4, HO5⟩⟩
  iapply (wp_wait_copy I K c [] ne_o0 iprop(outB I c 6 ∗ OS (F := F) c 0)) $$ [HF0 HT]
  · iframe HI; iframe HT; iexact HF0
  iintro ⟨⟨HO6, HS0⟩, Hz37, HT⟩
  iapply (wp_wait_copy I K c [] ne_o1 iprop(outB I c 7 ∗ OS (F := F) c 1)) $$ [HF1 HT]
  · iframe HI; iframe HT; iexact HF1
  iintro ⟨⟨HO7, HS1⟩, Hz38, HT⟩
  unfold wpC
  rw [wp_ret]; imodintro
  iapply Hk
  ihave HO := (todo_nil c) $$ HT
  unfold kOut Ret₁ Ret₂ Ret Own Near Mid locSem scr doneAll
  icases HOwn with ⟨HXLA, HXLB, HWLA, HWLB⟩
  icases Hnear with ⟨HXA0, HXB0, HWA0, HWB0⟩
  icases Hmid with ⟨HXA1, HXB1, HWA1, HWB1⟩
  icases HR1 with ⟨⟨Hs0, Hd0⟩, ⟨Hs1, Hd1⟩, ⟨Hs2, Hd2⟩, ⟨Hs3, Hd3⟩, ⟨Hs4, Hd4⟩, ⟨Hs5, Hd5⟩⟩
  icases HR2 with ⟨⟨Hs6, Hd6⟩, ⟨Hs7, Hd7⟩, ⟨Hs8, Hd8⟩, ⟨Hs9, Hd9⟩⟩
  icases Hd10 with ⟨Hs10, Hd10⟩
  icases Hd11 with ⟨Hs11, Hd11⟩
  icases Hd12 with ⟨Hs12, Hd12⟩
  icases Hd13 with ⟨Hs13, Hd13⟩
  icases Hd14 with ⟨Hs14, Hd14⟩
  icases Hd15 with ⟨Hs15, Hd15⟩
  ihave HA := (ring_close_a I c) $$ [HXLA HWLA HXA0 HXA1 HXA2 HXA3 HWA0 HWA1 HWA2 Hs0 Hs4 Hs2 Hs7 Hs11 Hs12 Hs6 Hs10]
  · iframe HXLA; iframe Hs0; iframe Hs4; iframe HWLA; iframe Hs2; iframe HXA0; iframe Hs7; iframe HXA1; iframe Hs11; iframe Hs12; iframe HXA2 HXA3; iframe HWA0; iframe Hs6; iframe HWA1; iframe
  ihave HB := (ring_close_b I c) $$ [HXLB HWLB HXB0 HXB1 HXB2 HXB3 HWB0 HWB1 HWB2 Hs1 Hs5 Hs3 Hs9 Hs14 Hs15 Hs8 Hs13]
  · iframe HXLB; iframe Hs1; iframe Hs5; iframe HWLB; iframe Hs3; iframe HXB0; iframe Hs9; iframe HXB1; iframe Hs14; iframe Hs15; iframe HXB2 HXB3; iframe HWB0; iframe Hs8; iframe HWB1; iframe
  icases HA with ⟨HXLA, HWLA, HXGA, HWGA⟩
  icases HB with ⟨HXLB, HWLB, HXGB, HWGB⟩
  ihave HC := (acc_forget I c 64) $$ HC
  ihave Hstage := (stage_close c) $$ [HS0 HS1]
  · iframe
  ihave Hxstg := (xstg_close c) $$ [HX0 HX1]
  · iframe
  ihave Hx := ((xh_all I c).2) $$ [Hx0 Hx1 Hx2 Hx3 Hx4 Hx5 Hx6 Hx7]
  · unfold xhAll; iframe
  ihave Hout := (out_all I c) $$ [HO0 HO1 HO2 HO3 HO4 HO5 HO6 HO7]
  · unfold outAll; iframe
  isplitl [HO]; · iexact HO
  isplitl [Hx]; · iexact Hx
  isplitl [Hw]; · iexact Hw
  isplitl [Hout]; · iexact Hout
  isplitl [Hsca]; · iexact Hsca
  isplitl [HXLA HXLB HWLA HWLB HXGA HXGB HWGA HWGB HC Hstage Hxstg Hwstg]
  · isplitl [HXLA]; · iexact HXLA
    isplitl [HXLB]; · iexact HXLB
    isplitl [HWLA]; · iexact HWLA
    isplitl [HWLB]; · iexact HWLB
    isplitl [HXGA]; · iexact HXGA
    isplitl [HXGB]; · iexact HXGB
    isplitl [HWGA]; · iexact HWGA
    isplitl [HWGB]; · iexact HWGB
    isplitl [HC]; · iexact HC
    isplitl [Hstage]; · iexact Hstage
    isplitl [Hxstg]; · iexact Hxstg
    iexact Hwstg
  isplitl [Hz2 Hz3 Hz4 Hz37 Hz38]; · iframe
  isplitl [Hzb]; · iexact Hzb
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  iexact Hd15

end Cert.KernelIdeal.Work
-- ==== Proof.KernelIdeal.Deal.lean ====
/-
What the launch deals: the cells of the rings allocated on every device at once, each duty's token given to the device
that pays it, and the credit each device waits with.
-/
module

public import proofs.«01_k».proof.Proof.KernelIdeal.Body7

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## The separating products over the cells of one device -/

theorem bool_split (Φ : Bool → sProp 𝕄) : bigSep Finset.univ Φ = iprop(Φ false ∗ Φ true) := by
  rw [bigSep_univ_eq_bigSepL [false, true] (by decide) (by decide), bigSepL_cons_cons, bigSepL_singleton]
  rfl
theorem pair_split (Φ : Bool × Fin 16 → sProp 𝕄) :
    bigSep Finset.univ Φ = iprop((bigSep Finset.univ fun t => Φ (false, t)) ∗ bigSep Finset.univ fun t => Φ (true, t)) := by
  rw [bigSep_univ_prod, bool_split]
theorem cx_split (Φ : Cx → sProp 𝕄) :
    bigSep Finset.univ Φ = iprop(Φ none ∗ (bigSep Finset.univ fun t => Φ (some (false, t))) ∗ bigSep Finset.univ fun t => Φ (some (true, t))) := by
  rw [bigSep_univ_equiv ((Equiv.sumComm _ _).trans (Equiv.optionEquivSumPUnit (Bool × Fin 16)).symm) Φ, bigSep_univ_sum, pair_split,
    bigSep_univ_eq_bigSepL [(PUnit.unit : PUnit.{1})] (by decide) (by decide), bigSepL_singleton]
  rfl
theorem sum_split {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem all_eq (Φ : Fin 16 → sProp 𝕄) : bigSepL allTs Φ = bigSep Finset.univ Φ :=
  (bigSep_univ_eq_bigSepL allTs (by decide) (by decide) Φ).symm

/-! ## The semaphores of the kernel's own -/

/-- The kernel's own semaphores: of the copies within the device, and of the transfers. -/
def osem : Fin 5 ⊕ (Bool × Fin 16) → SemLoc sig
  | .inl i => .dma ((![2, 3, 4, 37, 38] : Fin 5 → DmaSem sig) i)
  | .inr (false, t) => .dma (sendSem t)
  | .inr (true, t) => .dma (recvSem t)

set_option maxRecDepth 8000 in
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(locSem (F := F) c ∗ (bigSep Finset.univ fun t => semVal (sendCell c t) 0) ∗ bigSep Finset.univ fun t => semVal (recvCell c t) 0) := by
  unfold Pipeline.ownSems0
  rw [bigSep_univ_sum, pair_split, bigSep_univ_eq_bigSepL [0, 1, 2, 3, 4] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem doneAll_eq (c : Dev nD) :
    doneAll (F := F) c = iprop((bigSep Finset.univ fun t => semVal (sendCell c t) 0) ∗ bigSep Finset.univ fun t => semVal (recvCell c t) 0) := by
  rw [← bigSep_sep']
  exact all_eq (fun t => done (F := F) c t)

/-! ## The cells and their tokens -/

theorem kcell_inj : Function.Injective (kcell : Dev nD × Cx → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩

/-- The duties of a device's cells: two of its barrier, one of each transfer's cell. -/
abbrev Tx : Type := Bool ⊕ (Bool × Fin 16)
def tokOf (x : Dev nD × Tx) : GSem nD τ sig × ℕ × Bool :=
  match x.2 with
  | .inl b => (kcell (x.1, none), 0, b)
  | .inr y => (kcell (x.1, some y), 0, false)
theorem tokOf_inj : Function.Injective (tokOf : Dev nD × Tx → GSem nD τ sig × ℕ × Bool) := by
  rintro ⟨c, b | y⟩ ⟨c', b' | y'⟩ h <;> have h1 := kcell_inj (congrArg Prod.fst h) <;> have h2 : _ = _ := congrArg (fun x => x.2.2) h
  · have e : c = c' := congrArg Prod.fst h1
    have e2 : b = b' := h2
    rw [e, e2]
  · cases congrArg Prod.snd h1
  · cases congrArg Prod.snd h1
  · have e : c = c' := congrArg Prod.fst h1
    have e2 : y = y' := Option.some.inj (congrArg Prod.snd h1)
    rw [e, e2]
def ringToks : Finset (GSem nD τ sig × ℕ × Bool) := Finset.univ.map ⟨tokOf, tokOf_inj⟩

def u₀ : UU :=
  (initOf (Pipeline.cells cfgs cellOf_inj) (Pipeline.launchToks cfgs cellOf_inj), (initOf ringCells ringToks, 1))

/-- The tokens of the duties of device `c`'s own cells. -/
def toks (c : Dev nD) : sProp 𝕄 :=
  iprop(dutyTok ER (barCell c) 0 false ∗ dutyTok ER (barCell c) 0 true
    ∗ (bigSep Finset.univ fun t => dutyTok ER (sendCell c t) 0 false) ∗ bigSep Finset.univ fun t => dutyTok ER (recvCell c t) 0 false)
/-- What the start deals device `c`. -/
def G (c : Dev nD) : sProp 𝕄 :=
  iprop((bigSep Finset.univ fun k : Cx => roundState ER (ringRd I) (kcell (c, k)) 0)
    ∗ (bigSep Finset.univ fun k : Cx => iprop(atPos ER (kcell (c, k)) 0 ∅ 0 ∗ reached ER (kcell (c, k)) 0)) ∗ toks (F := F) c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Cx => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks (F := F) c := by
    unfold ringToks; rw [bigSep_map, bigSep_univ_prod]
    refine bigSep_mono fun c _ => ?_
    rw [sum_split, bool_split, pair_split]
    unfold toks
    exact (Laws.sep_assoc (PROP := sProp 𝕄)).1
  iintro HX
  imod (Rounds.fund ER (ringRd I) ringCells ringToks) $$ HX with ⟨Hst, Hr, Hat, Htok⟩
  imodintro
  ihave Hst' := (Entails.of_eq (hX fun g => roundState ER (ringRd I) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The allocation -/

theorem sems0_eq (c : Dev nD) :
    iprop(Pipeline.ownSems0 (Ix := Unit) (Name := ℕ) (U := UU) (Lvl := ℕ) (Val := Elt F) (τ := τ) osem c ∗ unscopedSems0 c)
      ⊢ iprop(locSem (F := F) c ∗ bigSep Finset.univ fun k : Cx => (semVal (kcell (c, k)) 0 : sProp 𝕄)) := by
  rw [ownSems0_eq, unscopedSems0_eq, cx_split]
  iintro ⟨⟨HL, HS, HV⟩, HB⟩
  isplitl [HL]; · iexact HL
  isplitl [HB]; · iexact HB
  isplitl [HS]; · iexact HS
  iexact HV

/-- What one device's allocation leaves. -/
def Al (c : Dev nD) : sProp 𝕄 :=
  iprop((bigSep Finset.univ fun k : Cx => iprop(∃ κ : ℕ, cellInv ER (ringRd I) κ (kcell (c, k))))
    ∗ (bigSep Finset.univ fun k : Cx => iprop(atPos ER (kcell (c, k)) 0 ∅ 0 ∗ reached ER (kcell (c, k)) 0)) ∗ toks (F := F) c ∗ locSem (F := F) c)

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> Al I c := by
  unfold G Al
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : Cx => semVal (kcell (c, k)) 0) ∗ bigSep Finset.univ fun k : Cx => roundState ER (ringRd I) (kcell (c, k)) 0)
      ⊢ (|={Set.univ}=> bigSep Finset.univ fun k => iprop(∃ κ : ℕ, cellInv ER (ringRd I) κ (kcell (c, k))) : sProp 𝕄) from by
        rw [← bigSep_sep']
        exact (bigSep_mono fun k _ => (Rounds.body_intro ER (ringRd I) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## The tokens dealt around the rings -/

def rot : Dev nD ≃ Dev nD := ⟨fun c => dv c 1, fun c => dv c 3, by decide, by decide⟩
theorem peer_inv : ∀ (t : Fin 16) (c : Dev nD), (if toRight t then dv (peer c t) 3 else dv (peer c t) 1) = c := by decide
theorem peer_inv' : ∀ (t : Fin 16) (c : Dev nD), peer (if toRight t then dv c 3 else dv c 1) t = c := by decide
def peerE (t : Fin 16) : Dev nD ≃ Dev nD := ⟨fun c => peer c t, fun c => if toRight t then dv c 3 else dv c 1, peer_inv t, peer_inv' t⟩

/-- The tokens of the duties device `c` pays. -/
def payToks (c : Dev nD) : sProp 𝕄 :=
  iprop(dutyTok ER (barCell (dv c 3)) 0 true ∗ dutyTok ER (barCell (dv c 1)) 0 false
    ∗ (bigSep Finset.univ fun t => dutyTok ER (sendCell c t) 0 false) ∗ bigSep Finset.univ fun t => dutyTok ER (recvCell (peer c t) t) 0 false)

theorem recv_around : (bigSep Finset.univ fun c : Dev nD => bigSep Finset.univ fun t => (dutyTok ER (recvCell c t) 0 false : sProp 𝕄))
    = bigSep Finset.univ fun c : Dev nD => bigSep Finset.univ fun t => (dutyTok ER (recvCell (peer c t) t) 0 false : sProp 𝕄) := by
  rw [BI.bigSep_univ_comm (fun (c : Dev nD) t => (dutyTok ER (recvCell c t) 0 false : sProp 𝕄)),
    BI.bigSep_univ_comm (fun (c : Dev nD) t => (dutyTok ER (recvCell (peer c t) t) 0 false : sProp 𝕄))]
  exact bigSep_congr fun t _ => bigSep_univ_equiv (peerE t) _

theorem toks_around : (bigSep Finset.univ fun c : Dev nD => (toks (F := F) c : sProp 𝕄)) ⊢ bigSep Finset.univ fun c : Dev nD => payToks (F := F) c := by
  unfold toks payToks
  simp only [bigSep_sep']
  rw [bigSep_univ_equiv rot (fun c : Dev nD => (dutyTok ER (barCell c) 0 false : sProp 𝕄)),
    bigSep_univ_equiv rot.symm (fun c : Dev nD => (dutyTok ER (barCell c) 0 true : sProp 𝕄)), recv_around]
  iintro ⟨H1, H2, H3, H4⟩
  isplitl [H2]; · iexact H2
  isplitl [H1]; · iexact H1
  isplitl [H3]; · iexact H3
  iexact H4

/-- Every cell's invariant, and that it has reached round 0. -/
def cells (K : Dev nD × Cx → ℕ) : sProp 𝕄 :=
  bigSep Finset.univ (fun ck : Dev nD × Cx => iprop(cellInv ER (ringRd I) (K ck) (kcell ck) ∗ reached ER (kcell ck) 0))
instance cells_persistent (K : Dev nD × Cx → ℕ) : BI.Persistent (cells I K) := by unfold cells; infer_instance

/-- What stays with device `c`. -/
def lin (c : Dev nD) : sProp 𝕄 :=
  iprop((bigSep Finset.univ fun k : Cx => atPos ER (kcell (c, k)) 0 ∅ 0) ∗ payToks (F := F) c ∗ locSem (F := F) c)
def G' (c : Dev nD) : sProp 𝕄 := iprop(∃ K, cells I K ∗ lin (F := F) c)

theorem regroup : (bigSep Finset.univ fun c : Dev nD => Al I c : sProp 𝕄) ⊢ bigSep Finset.univ (G' I) := by
  unfold Al
  rw [bigSep_sep', bigSep_sep', bigSep_sep', ← bigSep_univ_prod (fun ck : Dev nD × Cx => iprop(∃ κ : ℕ, cellInv ER (ringRd I) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄))]
  iintro ⟨HI, ⟨Hat, HR⟩, Htok, HL⟩
  ihave HK := (BI.bigSep_exists_pi Finset.univ (fun (ck : Dev nD × Cx) (κ : ℕ) => (cellInv ER (ringRd I) κ (kcell ck) : sProp 𝕄))) $$ HI
  icases HK with ⟨%K, HI⟩
  ihave Htk := (toks_around (F := F)) $$ Htok
  iapply (bigSep_with_persistent (R := cells I K) (Φ := fun c => lin (F := F) c) fun c _ => by
    unfold G'
    iintro ⟨H1, H2⟩
    iexists K
    isplitl [H1]; · iexact H1
    iexact H2)
  isplitl [HI HR]
  · unfold cells
    rw [bigSep_sep']
    isplitl [HI]; · iexact HI
    iexact HR
  · unfold lin
    rw [bigSep_sep', bigSep_sep']
    isplitl [Hat]; · iexact Hat
    isplitl [Htk]; · iexact Htk
    iexact HL

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at launch -/

theorem recv_eq {a b : Dev nD} {s t : Fin 16} (h : recvCell a s = recvCell b t) : a = b ∧ s = t := by
  have h1 : (a, some (true, s)) = ((b, some (true, t)) : Dev nD × Cx) := kcell_inj h
  refine ⟨congrArg Prod.fst h1, ?_⟩
  have h2 := Option.some.inj (congrArg Prod.snd h1)
  exact congrArg Prod.snd h2
theorem bar_eq {a b : Dev nD} (h : barCell a = barCell b) : a = b := congrArg Prod.fst (kcell_inj (a₁ := (a, none)) (a₂ := (b, none)) h)
theorem recv_ne_bar (a b : Dev nD) (t : Fin 16) : recvCell a t ≠ barCell b := fun h => by cases congrArg Prod.snd h

theorem owe_recv (d c : Dev nD) (t : Fin 16) : ∀ l : List (Fin 16), owe d l (recvCell c t) () = l.count t * (if peer d t = c then Nn t else 0)
  | [] => by rw [List.count_nil, Nat.zero_mul]; rfl
  | a :: l => by
    show (owe d l + tallyAt (recvCell (peer d a) a) () (Nn a)) (recvCell c t) () = _
    rw [Pi.add_apply, Finsupp.add_apply, owe_recv d c t l, tallyAt_apply, List.count_cons, Nat.add_mul]
    congr 1
    by_cases ha : a = t
    · subst ha
      rw [if_pos (beq_self_eq_true a), Nat.one_mul]
      by_cases hp : peer d a = c
      · subst hp; rw [if_pos ⟨rfl, rfl⟩, if_pos rfl]
      · rw [if_neg (fun h => hp (recv_eq h.1).1.symm), if_neg hp]
    · rw [if_neg (fun h => ha (recv_eq h.1).2.symm), if_neg (fun h => ha (eq_of_beq h)), Nat.zero_mul]

theorem count_all : ∀ t, allTs.count t = 1 := by decide

theorem owed_recv (d c : Dev nD) (t : Fin 16) : O₀ d (recvCell c t) () = if d = (peerE t).symm c then Nn t else 0 := by
  unfold O₀ O₁
  rw [Pi.add_apply, Finsupp.add_apply, Pi.add_apply, Finsupp.add_apply, tallyAt_ne_cell (recv_ne_bar _ _ _), tallyAt_ne_cell (recv_ne_bar _ _ _),
    Finsupp.zero_apply, Nat.add_zero, Nat.add_zero, owe_recv, count_all, Nat.one_mul]
  exact if_congr ((peerE t).apply_eq_iff_eq_symm_apply) rfl rfl

theorem owed_bar (d c : Dev nD) : O₀ d (barCell c) () = (if d = dv c 3 then 1 else 0) + (if d = dv c 1 then 1 else 0) := by
  have h0 : owe d allTs (barCell c) () = 0 := Nat.eq_zero_of_not_pos fun h => by
    obtain ⟨t, _, e⟩ := owe_pos h
    exact recv_ne_bar _ _ _ e.symm
  have e1 : (barCell c = barCell (dv d 1) ∧ () = ()) ↔ d = dv c 3 :=
    ⟨fun h => by rw [bar_eq h.1]; exact (rot.symm_apply_apply d).symm, fun h => by subst h; exact ⟨congrArg barCell (rot.apply_symm_apply c).symm, rfl⟩⟩
  have e3 : (barCell c = barCell (dv d 3) ∧ () = ()) ↔ d = dv c 1 :=
    ⟨fun h => by rw [bar_eq h.1]; exact (rot.apply_symm_apply d).symm, fun h => by subst h; exact ⟨congrArg barCell (rot.symm_apply_apply c).symm, rfl⟩⟩
  unfold O₀ O₁
  rw [Pi.add_apply, Finsupp.add_apply, Pi.add_apply, Finsupp.add_apply, h0, tallyAt_apply, tallyAt_apply, Nat.zero_add]
  exact congrArg₂ (· + ·) (if_congr e1 rfl rfl) (if_congr e3 rfl rfl)

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (dv c 3) fun _ => 1, Finset.sum_ite_eq' Finset.univ (dv c 1) fun _ => 1, if_pos (Finset.mem_univ _), if_pos (Finset.mem_univ _)]
theorem launch_recv (c : Dev nD) (t : Fin 16) :
    tallyOn (recvCell c t) (launchCredit (Pipeline.owing O₀) 0 (recvCell c t)) = (tallyAt (recvCell c t) () (Nn t) : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ ((peerE t).symm c) fun _ => Nn t, if_pos (Finset.mem_univ _)]

theorem recvSem_inj : Function.Injective (fun t => (SemLoc.dma (recvSem t) : SemLoc sig)) := fun s t h => by
  have h1 : some (true, s) = (some (true, t) : Cx) := csem_inj h
  exact congrArg Prod.snd (Option.some.inj h1)

theorem creds (c : Dev nD) :
    (Pipeline.launchCred O₀ c : sProp 𝕄) ⊢ iprop(cred (tallyAt (barCell c) () 2) ∗ bigSep Finset.univ fun t => cred (tallyAt (recvCell c t) () (Nn t))) := by
  unfold Pipeline.launchCred
  rw [bigSep_univ_at _ (SemLoc.reg barS), launch_bar]
  refine sep_mono_right ?_
  refine (bigSep_subset (t := Finset.univ.image fun t => (SemLoc.dma (recvSem t) : SemLoc sig)) ?_).trans ?_
  · intro sm h
    obtain ⟨t, _, rfl⟩ := Finset.mem_image.mp h
    exact Finset.mem_erase.mpr ⟨fun h => (by cases h), Finset.mem_univ _⟩
  · rw [BI.bigSep_image_of_injOn (fun _ _ _ _ h => recvSem_inj h)]
    exact bigSep_mono fun t _ => Entails.of_eq (congrArg cred (launch_recv c t))

/-! ## What a device's body starts with -/

theorem tok_intro (c : Dev nD) :
    iprop(lin (F := F) c ∗ Pipeline.launchCred O₀ c) ⊢ iprop(barTok (F := F) c ∗ bigSepL allTs (tok (F := F) c) ∗ locSem (F := F) c) := by
  unfold lin payToks barTok
  rw [all_eq, cx_split]
  unfold tok
  rw [bigSep_sep', bigSep_sep', bigSep_sep', bigSep_sep']
  iintro ⟨⟨⟨HaB, HaS, HaR⟩, ⟨Ht3, Ht1, HtS, HtR⟩, HL⟩, Hc⟩
  ihave Hc := (creds (F := F) c) $$ Hc
  icases Hc with ⟨HcB, HcR⟩
  isplitl [HaB Ht3 Ht1 HcB]
  · isplitl [Ht3]; · iexact Ht3
    isplitl [Ht1]; · iexact Ht1
    isplitl [HaB]; · iexact HaB
    iexact HcB
  isplitr [HL]
  · isplitl [HtS]; · iexact HtS
    isplitl [HtR]; · iexact HtR
    isplitl [HaS]; · iexact HaS
    isplitl [HaR]; · iexact HaR
    iexact HcR
  iexact HL

end Cert.KernelIdeal.Work
-- ==== Proof.KernelIdeal.Point.lean ====
/-
The pipeline's proof data of the one call, and its body.
-/
module

public import proofs.«01_k».proof.Proof.KernelIdeal.Deal

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The inputs of every device as launched: its shards, and the two scales as they are staged. -/
def inp : Inp F where
  x c := m ((c : Thread nD τ).loc main_arg0)
  w c := m ((c : Thread nD τ).loc main_arg1)
  sx c := (win0_0.blk t0_0).view.read (Elt F) (m ((c : Thread nD τ).loc main_arg2))
  sw c := (win0_1.blk t0_0).view.read (Elt F) (m ((c : Thread nD τ).loc main_arg3))

/-- What a device holds beside its scratch before the body, and what it holds after. -/
def start (c : Dev nD) : sProp 𝕄 :=
  iprop((∃ K, Invs (inp m) K) ∗ (barTok (F := F) c ∗ bigSepL allTs (tok (F := F) c) ∗ locSem (F := F) c)
    ∗ xhP c Finset.univ fullShare ((inp m).x c) ∗ whP c Finset.univ fullShare ((inp m).w c) ∗ ∃ f, outP (F := F) c Finset.univ fullShare f)
def fini (c : Dev nD) : sProp 𝕄 :=
  iprop(semVal (barCell c) 0
    ∗ xhP c Finset.univ fullShare ((inp m).x c) ∗ whP c Finset.univ fullShare ((inp m).w c) ∗ outP c Finset.univ fullShare (OUT (inp m) c))
def Φ₀ (c : Dev nD) : sProp 𝕄 := iprop(start m c ∗ scr (F := F) c)
def Φ₁ (c : Dev nD) : sProp 𝕄 := iprop(fini m c ∗ (locSem (F := F) c ∗ doneAll (F := F) c) ∗ scr (F := F) c)

def dats (_ : Fin 1) (c : Dev nD) : Dat τ (Elt F) Unit ℕ UU ℕ cfg0 c where
  A w := m ((cfg0.win w).arr.view.loc (c : Thread nD τ))
  after w _ := match w with
    | ⟨0, _⟩ => (inp m).sx c
    | ⟨1, _⟩ => (inp m).sw c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
set_option maxRecDepth 4000 in
def bodyPost (c : Dev nD) : sProp 𝕄 :=
  iprop(Φ₁ m c ∗ (dats m 0 c).owesAt () t0_0.succ
    ∗ stg c cc0_stg0_0 ((dats m 0 c).after (0 : Fin 2) t0_0)
    ∗ stg c cc0_stg1_0 ((dats m 0 c).after (1 : Fin 2) t0_0))

set_option maxRecDepth 4000 in
theorem sound_body (c : Dev nD) : bodyPre m c ⊢ wpC c (pk cc0_body) (fun _ => bodyPost m c) := by
  unfold bodyPre Φ₀ start
  iintro ⟨⟨⟨⟨%K, #HI⟩, ⟨Hbar, Htok, HL⟩, Hx, Hw, Ho⟩, Hscr⟩, HO, ⟨%d0, %g0, %hg0, H0⟩, ⟨%d1, %g1, %hg1, H1⟩⟩
  have h0 : g0 = (inp m).sx c := by rw [hg0]; unfold Dat.before; rw [if_pos (fetch0_0 t0_0)]; rfl
  have h1 : g1 = (inp m).sw c := by rw [hg1]; unfold Dat.before; rw [if_pos (fetch0_1 t0_0)]; rfl
  subst h0 h1
  unfold Dat.owesAt Pipeline.owesWithin
  icases HO with ⟨%W, %hW, HO⟩
  iapply (wp_kernel (inp m) K c fun _ => bodyPost m c) $$ [Hbar Htok HL Hx Hw Ho Hscr HO H0 H1]
  · isplitr; · iexact HI
    unfold kIn scaP
    isplitl [HO]; · iexists W; iexact HO
    isplitl [Hbar]; · iexact Hbar
    isplitl [Htok]; · iexact Htok
    isplitl [Hx]; · iexact Hx
    isplitl [Hw]; · iexact Hw
    isplitl [Ho]; · iexact Ho
    isplitl [H0 H1]
    · isplitl [H0]; · iexact H0
      iexact H1
    isplitl [Hscr]; · iexact Hscr
    iexact HL
  unfold kOut scaP bodyPost Φ₁ fini
  iintro ⟨⟨%W', HO⟩, Hx, Hw, Hout, ⟨H0, H1⟩, Hscr, HL, Hz, Hd⟩
  isplitl [Hx Hw Hout Hscr HL Hz Hd]
  · isplitl [Hx Hw Hout Hz]
    · isplitl [Hz]; · iexact Hz
      isplitl [Hx]; · iexact Hx
      isplitl [Hw]; · iexact Hw
      iexact Hout
    isplitl [HL Hd]
    · isplitl [HL]; · iexact HL
      iexact Hd
    iexact Hscr
  isplitl [HO]
  · unfold Dat.owesAt Pipeline.owesWithin
    iexists W'
    isplitr; · ipureintro; exact fun _ _ => Or.inl trivial
    iexact HO
  isplitl [H0]
  · iexists _; isplitr; · (ipureintro; rfl)
    iexact H0
  iexists _; isplitr; · (ipureintro; rfl)
  iexact H1

theorem body_at : (defs₀ (F := F)) .tc cfg0.body (cfg0.bodyArgs t0_0 (cfg0.slots t0_0)) = pk cc0_body := rfl

set_option maxRecDepth 20000 in
/-- The pipeline's obligation of the body. -/
theorem body_obligation (c : Dev nD) : BodyObligation (dats (F := F) m 0 c) (defs₀ (F := F)) 𝒱₀ () Set.univ := fun t => by
  rw [fin_N0 t]
  rw [bigSep_W, bigSep_W]
  simp only [owns_whole_eq]
  rw [body_at]
  exact sound_body m c

end Cert.KernelIdeal.Work
-- ==== Proof.KernelIdeal.Launch.lean ====
/-
The run of the program on the four devices: every device's result array ends at `OUT`, its arguments unchanged, every
semaphore at zero.
-/
module

public import proofs.«01_k».proof.Proof.KernelIdeal.Point
public import Idealize.ShloMosaic.Lib.Pipeline.CollectiveSegs
public import Idealize.ShloMosaic.Lib.Quiescent

@[expose] public section

noncomputable section
namespace Cert.KernelIdeal.Work
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

theorem invs_intro (c : Dev nD) : iprop((∃ K, cells (inp m) K ∗ lin (F := F) c) ∗ levAts L lv ∗ Pipeline.launchCred O₀ c)
    ⊢ iprop((∃ K, Invs (inp m) K) ∗ barTok (F := F) c ∗ bigSepL allTs (tok (F := F) c) ∗ locSem (F := F) c) := by
  iintro ⟨⟨%K, HI, Hl⟩, Hlev, Hc⟩
  isplitl [HI Hlev]
  · iexists K
    unfold Invs cells
    isplitl [HI]; · iexact HI
    iexact Hlev
  iapply (tok_intro (F := F) c)
  isplitl [Hl]; · iexact Hl
  iexact Hc

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  rw [Pipeline.unscopedRestP_none, unscopedRest0_eq]
  unfold start G'
  iintro ⟨⟨Hx, Hw, Ho⟩, Hlev, Hcr, -, HG⟩
  ihave H := (invs_intro m c) $$ [HG Hlev Hcr]
  · isplitl [HG]; · iexact HG
    isplitl [Hlev]; · iexact Hlev
    iexact Hcr
  icases H with ⟨HK, HT⟩
  imodintro
  isplitl
  · isplitl [HK]; · iexact HK
    isplitl [HT]; · iexact HT
    isplitl [Hx]; · iexact Hx
    isplitl [Hw]; · iexact Hw
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(fini m c ∗ Pipeline.ownSems0 osem c ∗ Pipeline.scopedRest cfg0.spec c) := by
  rw [show (dats m 0 c).Φ (Fin.last cfg0.N) = Φ₁ m c from rfl, scopedRest0_eq, ownSems0_eq]
  unfold Φ₁ scr
  rw [doneAll_eq]
  iintro ⟨Hf, HL, Hr⟩
  isplitl [Hf]; · iexact Hf
  isplitl [HL]; · iexact HL
  iexact Hr

theorem stage_ne : ∀ (w : Fin cfg0.W) (s : Fin (cfg0.win w).nbuf) (k : Cx), csem k ≠ (SemLoc.dma ((cfg0.win w).sem s) : SemLoc sig) := by
  have h : ∀ (t : Fin 16) (w : Fin cfg0.W) (s : Fin (cfg0.win w).nbuf), sendSem t ≠ (cfg0.win w).sem s ∧ recvSem t ≠ (cfg0.win w).sem s := by decide
  intro w s k e
  rcases k with _ | ⟨_ | _, t⟩
  · cases e
  · exact (h t w s).1 (SemLoc.dma.inj e)
  · exact (h t w s).2 (SemLoc.dma.inj e)

theorem waits (c : Dev nD) : (levAts L lv : sProp 𝕄) ⊢ Pipeline.cellsWaits cfgs (dats m) () 0 c :=
  Pipeline.cellsWaits_intro cfgs (dats m) () 0 c fun w s t =>
    mayWait_stage c _ (stage_ne w s) _ (by
      rcases t with ⟨_ | _, ht⟩
      · exact Or.inl rfl
      · exact Or.inr rfl)

/-- What the final memory holds on device `c`. -/
def Fin1 (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = OUT (inp m) c

theorem read_one (ℓ : Loc nD τ sig) (f : Buf (Elt F) ℓ) (s' : Phys nD τ sig (Elt F)) :
    iprop((ℓ ↦[Finset.univ]{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  iexact HSI

theorem fini_read (c : Dev nD) (s' : Phys nD τ sig (Elt F)) :
    iprop(fini m c ∗ emp ∗ SI s')
      ⊢ |={Set.univ}=> iprop(⌜(∀ sm : SemLoc sig, sm.isScoped .tc = false → s'.mem.sem ((c.tc : Thread nD τ), sm) = 0) ∧ Fin1 m c s'.mem⌝ ∗ SI s') := by
  unfold fini
  iintro ⟨⟨Hz, Hx, Hw, Ho⟩, -, HSI⟩
  ihave H := (read_one _ _ s') $$ [Hx HSI]
  · isplitl [Hx]; · iexact Hx
    iexact HSI
  icases H with ⟨%hx, HSI⟩
  ihave H := (read_one _ _ s') $$ [Hw HSI]
  · isplitl [Hw]; · iexact Hw
    iexact HSI
  icases H with ⟨%hw, HSI⟩
  ihave H := (read_one _ _ s') $$ [Ho HSI]
  · isplitl [Ho]; · iexact Ho
    iexact HSI
  icases H with ⟨%ho, HSI⟩
  ihave Hz := (Entails.of_eq (unscopedSems0_eq (F := F) c).symm) $$ Hz
  imod (Pipeline.unscopedSems0_read (X := unscopedSems0 c) (c := c) fupd_intro s') $$ [Hz HSI] with ⟨%hz, HSI⟩
  · isplitl [Hz] <;> iassumption
  imodintro
  isplitr
  · ipureintro; exact ⟨hz, hx, hw, ho⟩
  iexact HSI

/-- What every final state holds. -/
def Post (r : PUnit × MemSt nD τ sig (Elt F)) : Prop :=
  (∀ c : Dev nD, r.2.mem ((c : Thread nD τ).loc main_v1) = OUT (inp m) c
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3))
  ∧ r.2.sem = fun _ => 0

set_option maxRecDepth 20000 in
theorem main_eq (c : Dev nD) : main (F := F) c = .op (.customCall (Pipeline.entry 0) ()) fun _ => .ret ⟨⟩ := rfl

set_option maxRecDepth 20000 in
/-- The program runs to its end on the four devices, for any float values, from any memory whose counters are zero, and every
final state is as `Post` says. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := main_eq)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      have hf := fund_ring (inp m)
      unfold ER at hf
      unfold u₀
      iintro Hu
      ihave H := (ownU_pair _ _) $$ Hu
      icases H with ⟨HP, HX⟩
      ihave H := (own_pair_emb embR _ _) $$ HX
      icases H with ⟨HX, -⟩
      imod hf $$ HX with HG
      imodintro
      isplitl [HP] <;> iassumption)
    (hglob := glob (inp m))
    (hA := fun _ _ => rfl) (hpf := fun _ k => k.elim0)
    (X := start m) (Y := fini m) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ Fin1 m c s)
    (hY := fini_read m)
    (hQ := fun s h hs => ⟨fun c => ⟨(h c).2.2.2.2.2, (h c).2.2.2.1, (h c).2.2.2.2.1,
        ((h c).1 (0 : Fin 2)).trans ((dats (F := F) m 0 c).arrAt_in (0 : Fin 2) rfl _),
        ((h c).1 (1 : Fin 2)).trans ((dats (F := F) m 0 c).arrAt_in (1 : Fin 2) rfl _)⟩, sem_eq_zero hs fun c => (h c).2.2.1⟩)

end Cert.KernelIdeal.Work
-- ==== Proof.KernelIdeal.Value.lean ====
/-
The result in exact arithmetic: one block of it is the sum, over the four devices, of their parts of the row
times column product.
-/
module

public import proofs.«01_k».proof.Proof.KernelIdeal.Values
public import Idealize.ShloMosaic.Lib.MatmulPlain
public import Idealize.ShloMosaic.Lib.ValueIdx
public import Idealize.ShloMosaic.Lib.Claim

@[expose] public section

noncomputable section
namespace Cert.KernelIdeal.Work
open Cert.KernelIdeal Cert.KernelIdeal.Gen
open Idealize.ShloMosaic Idealize.ShloMosaic.ValueIdx

variable (I : Inp Ideal)

theorem dims_plain : dot_S512x1024_S1024x1024_S512x1024_1_0_0_1_n_n = DotDims.plain 512 1024 1024 := rfl

/-- A block product at an index. -/
theorem prod_apply (a : FVec Ideal S512x1024 .fp8e5m2) (b : FVec Ideal S1024x1024 .fp8e5m2) (i : Fin 512) (j : Fin 1024) :
    prod a b (ix2 i j) = ∑ k : Fin 1024, (a (ix2 i k) : EReal) * b (ix2 k j) := by
  unfold prod
  rw [dims_plain]
  refine (Ideal.matmul_plain_apply none a b _ i j).trans ?_
  rw [constant_apply, Idealize.ShloMosaic.Ideal.ofBits_zero_f32, zero_add]

/-- Device `d`'s part of the product of row `r` and column `n`. -/
def part (d : Dev nD) (r n : ℕ) : EReal := ∑ k : Fin 1024, (I.x d (xi r k.val) : EReal) * (I.w d (wi k.val n) : EReal)

theorem prod_part (d : Dev nD) (r q : ℕ) (i : Fin 512) (j : Fin 1024) :
    (prod (xblk I d r) (wblk I d q) (ix2 i j) : EReal) = part I d (512 * r + i.val) (1024 * q + j.val) :=
  prod_apply _ _ i j

theorem next_apply (a : FVec Ideal S512x1024 .fp8e5m2) (b : FVec Ideal S1024x1024 .fp8e5m2) (acc : FVec Ideal S512x1024 .bf16)
    (i : S512x1024.Idx) : (next a b acc i : EReal) = (acc i : EReal) + (prod a b i : EReal) := rfl
theorem first_apply (a : FVec Ideal S512x1024 .fp8e5m2) (b : FVec Ideal S1024x1024 .fp8e5m2)
    (i : S512x1024.Idx) : (first a b i : EReal) = (prod a b i : EReal) := rfl

/-- The four contributions, in the order they are added. -/
theorem blkval_four (c : Dev nD) (r q : ℕ) (i : Fin 512) (j : Fin 1024) :
    (blkval I c r q 4 (ix2 i j) : EReal) =
      part I c (512 * r + i.val) (1024 * q + j.val)
      + part I (dv c (sd r q 1)) (512 * r + i.val) (1024 * q + j.val)
      + part I (dv c (sd r q 2)) (512 * r + i.val) (1024 * q + j.val)
      + part I (dv c (sd r q 3)) (512 * r + i.val) (1024 * q + j.val) := by
  rw [blkval_succ I c r q 3 (by decide) _ rfl, next_apply, blkval_succ I c r q 2 (by decide) _ rfl, next_apply,
    blkval_succ I c r q 1 (by decide) _ rfl, next_apply, blkval_one, first_apply]
  simp only [prod_part]

/-- A sum over the devices, started at any of them and taken in the order of any block. -/
theorem sum_ring (f : Dev nD → EReal) (c : Dev nD) : f c + f (dv c 1) + f (dv c 2) + f (dv c 3) = ∑ d : Dev nD, f d := by
  have h : ∑ d : Dev nD, f d = f 0 + f 1 + f 2 + f 3 := Fin.sum_univ_four f
  rw [h]
  have hc : c = 0 ∨ c = 1 ∨ c = 2 ∨ c = 3 := by
    revert c; decide
  rcases hc with rfl | rfl | rfl | rfl
  · rfl
  · show f 1 + f 2 + f 3 + f 0 = _; ac_rfl
  · show f 2 + f 3 + f 0 + f 1 = _; ac_rfl
  · show f 3 + f 0 + f 1 + f 2 = _; ac_rfl

theorem sum_order (f : Dev nD → EReal) (c : Dev nD) (r q : ℕ) :
    f c + f (dv c (sd r q 1)) + f (dv c (sd r q 2)) + f (dv c (sd r q 3)) = ∑ d : Dev nD, f d := by
  rw [← sum_ring f c]
  by_cases hr : r < 4 <;> by_cases hq : q = 0 <;> simp [sd, hr, hq] <;> ac_rfl

/-- One element of a finished block. -/
theorem blkval_sum (c : Dev nD) (r q : ℕ) (i : Fin 512) (j : Fin 1024) :
    (blkval I c r q 4 (ix2 i j) : EReal) = ∑ d : Dev nD, part I d (512 * r + i.val) (1024 * q + j.val) := by
  rw [blkval_four, sum_order (fun d => part I d (512 * r + i.val) (1024 * q + j.val)) c r q]

/-- One element of the result. -/
theorem OUT_apply (c : Dev nD) (r : Fin 4096) (n : Fin 2048) :
    (OUT I c (ix2 r n) : EReal) =
      (∑ d : Dev nD, part I d r.val n.val) * ((I.sx c (ix1 (0 : Fin 1)) : EReal) * (I.sw c (ix1 (0 : Fin 1)) : EReal)) := by
  have h1 : 512 * (r.val / 512) + r.val % 512 % 512 = r.val := by omega
  have h2 : 1024 * (n.val % 2048 / 1024) + n.val % 2048 % 1024 = n.val := by have := n.isLt; omega
  refine (congrArg (· * ((I.sx c (ix1 (0 : Fin 1)) : EReal) * (I.sw c (ix1 (0 : Fin 1)) : EReal)))
    (blkval_sum I c (r.val / 512) (n.val % 2048 / 1024) ⟨r.val % 512 % 512, Nat.mod_lt _ (by decide)⟩
      ⟨n.val % 2048 % 1024, Nat.mod_lt _ (by decide)⟩)).trans ?_
  show (∑ d : Dev nD, part I d (512 * (r.val / 512) + r.val % 512 % 512) (1024 * (n.val % 2048 / 1024) + n.val % 2048 % 1024)) * _ = _
  rw [h1, h2]
end Cert.KernelIdeal.Work
-- ==== Proof.KernelIdeal.Equation.lean ====
/-
What every device ends with is the reference's result: the four devices' parts of a row times column product
are the reference's one sum, cut in four.
-/
module

public import proofs.«01_k».proof.Defs
public import proofs.«01_k».proof.Proof.KernelIdeal.Value
public import proofs.«01_k».proof.Proof.KernelIdeal.Point
public import proofs.«01_k».proof.Proof.Gen.ReferenceIdeal
public import Idealize.ShloMosaic.Lib.StackMember
public import Idealize.ShloMosaic.Lib.Layout

@[expose] public section

noncomputable section
namespace Cert.Equation
open Idealize.ShloMosaic Idealize.ShloMosaic.ValueIdx Idealize.ShloMosaic.StackMember
open Cert.KernelIdeal.Work (Inp part OUT inp xi wi)

/-- The whole operands and result of the reference. -/
abbrev WX : Shape := ⟨2, ![4096, 4096]⟩
abbrev WW : Shape := ⟨2, ![4096, 2048]⟩
abbrev S1 : Shape := ⟨1, ![1]⟩

section
open Cert.ReferenceIdeal Cert.ReferenceIdeal.Gen

/-- The reference's term. -/
def ref (X : FVec Ideal S4096x4096 .f32) (W : FVec Ideal S4096x2048 .f32) (sx sw : FVec Ideal S1 .f32) :
    FVec Ideal S4096x2048 .f32 :=
  mulf (Host.dotGeneral dot_S4096x4096_S4096x2048_S4096x2048_1_0_0_1_n_n none X W)
    (broadcastInDim S4096x2048 ![0, 1] bcast_S1x1_S4096x2048_0_1 (broadcastInDim S1x1 ![1] bcast_S1_S1x1_1 (mulf sx sw)))

theorem dims_plain : dot_S4096x4096_S4096x2048_S4096x2048_1_0_0_1_n_n = DotDims.plain 4096 4096 2048 := rfl

/-- The one index of a rank-one array of one element. -/
theorem one_idx (x : Cert.ReferenceIdeal.S1.Idx) : x = ix1 (0 : Fin 1) :=
  (eq_ix1 x).trans (congrArg ix1 (Fin.ext (by have := (x 0).isLt; change (x 0).val < 1 at this; show (x 0).val = 0; omega)))

/-- The reference's term at an index. -/
theorem ref_apply (X : FVec Ideal S4096x4096 .f32) (W : FVec Ideal S4096x2048 .f32) (sx sw : FVec Ideal Cert.ReferenceIdeal.S1 .f32)
    (r : Fin 4096) (n : Fin 2048) :
    (ref X W sx sw (ix2 r n) : EReal) =
      (∑ k : Fin 4096, (X (ix2 r k) : EReal) * W (ix2 k n)) * ((sx (ix1 (0 : Fin 1)) : EReal) * sw (ix1 (0 : Fin 1))) := by
  unfold ref
  rw [mulf_apply, dims_plain, dotGeneral_plain_apply]
  refine congrArg (_ * ·) ?_
  exact congrArg (mulf sx sw) (one_idx _)
end

/-- A sum over the whole contracted axis is the sum over the devices of the sums over their quarters of it. -/
theorem sum_quarters (f : ℕ → EReal) : ∑ k : Fin 4096, f k.val = ∑ d : Fin 4, ∑ k : Fin 1024, f (d.val * 1024 + k.val) := by
  rw [← Fintype.sum_prod_type (f := fun p : Fin 4 × Fin 1024 => f (p.1.val * 1024 + p.2.val))]
  refine (Equiv.sum_comp (finProdFinEquiv (m := 4) (n := 1024)) (fun k : Fin (4 * 1024) => f k.val)).symm.trans ?_
  refine Finset.sum_congr rfl fun p _ => congrArg f ?_
  rw [finProdFinEquiv_apply_val]; omega

set_option backward.proofsInPublic true in
/-- The whole operands at a row and a column. -/
def atX (X : WX.Idx → EReal) (r k : ℕ) : EReal := X (ix2 (⟨r % 4096, Nat.mod_lt _ (by decide)⟩ : Fin 4096) (⟨k % 4096, Nat.mod_lt _ (by decide)⟩ : Fin 4096))
set_option backward.proofsInPublic true in
def atW (W : WW.Idx → EReal) (k n : ℕ) : EReal := W (ix2 (⟨k % 4096, Nat.mod_lt _ (by decide)⟩ : Fin 4096) (⟨n % 2048, Nat.mod_lt _ (by decide)⟩ : Fin 2048))

theorem block_x (X : WX.Idx → EReal) (d : Fin 4) (r : Fin 4096) (k : Fin 1024) :
    Layout.block ⟨2, ![4096, 1024]⟩ ⟨2, ![4096, 4096]⟩ 1 4 d X (by decide) (xi r.val k.val) = atX X r.val (d.val * 1024 + k.val) := by
  have h : d.val * 1024 + k.val % 1024 = (d.val * 1024 + k.val) % 4096 := by omega
  exact congrArg X ((eq_ix2 _).trans (congrArg₂ ix2 (Fin.ext rfl) (Fin.ext h)))

theorem block_w (W : WW.Idx → EReal) (d : Fin 4) (k : Fin 1024) (n : Fin 2048) :
    Layout.block ⟨2, ![1024, 2048]⟩ ⟨2, ![4096, 2048]⟩ 0 4 d W (by decide) (wi k.val n.val) = atW W (d.val * 1024 + k.val) n.val := by
  have h : d.val * 1024 + k.val % 1024 = (d.val * 1024 + k.val) % 4096 := by omega
  exact congrArg W ((eq_ix2 _).trans (congrArg₂ ix2 (Fin.ext h) (Fin.ext rfl)))

/-- The devices' parts add up to the whole product, when each holds its block. -/
theorem parts_sum (I : Inp Ideal) (X : WX.Idx → EReal) (W : WW.Idx → EReal)
    (hx : ∀ d : Fin 4, I.x d = Layout.block ⟨2, ![4096, 1024]⟩ ⟨2, ![4096, 4096]⟩ 1 4 d X)
    (hw : ∀ d : Fin 4, I.w d = Layout.block ⟨2, ![1024, 2048]⟩ ⟨2, ![4096, 2048]⟩ 0 4 d W)
    (r : Fin 4096) (n : Fin 2048) :
    ∑ d : Fin 4, part I d r.val n.val = ∑ k : Fin 4096, X (ix2 r k) * W (ix2 k n) := by
  have h : ∀ k : Fin 4096, X (ix2 r k) * W (ix2 k n) = atX X r.val k.val * atW W k.val n.val := fun k => by
    unfold atX atW
    congr 2 <;> congr 1 <;> exact Fin.ext (Nat.mod_eq_of_lt (Fin.isLt _)).symm
  rw [Finset.sum_congr rfl fun k _ => h k, sum_quarters (fun k => atX X r.val k * atW W k n.val)]
  refine Finset.sum_congr rfl fun d _ => ?_
  unfold part
  refine Finset.sum_congr rfl fun k _ => ?_
  rw [hx d, hw d, block_x, block_w]

section
open Cert.KernelIdeal

variable (m : (ℓ : Loc nD τ sig) → Buf (Elt Ideal) ℓ)

/-- Every device's result is the reference's. -/
theorem out_ref (X : WX.Idx → EReal) (W : WW.Idx → EReal) (sx sw : Equation.S1.Idx → EReal) (c : Dev nD)
    (hx : ∀ d : Dev nD, m ((d.tc : Thread nD τ).loc main_arg0) = Layout.block ⟨2, ![4096, 1024]⟩ ⟨2, ![4096, 4096]⟩ 1 4 d X)
    (hw : ∀ d : Dev nD, m ((d.tc : Thread nD τ).loc main_arg1) = Layout.block ⟨2, ![1024, 2048]⟩ ⟨2, ![4096, 2048]⟩ 0 4 d W)
    (hsx : m ((c.tc : Thread nD τ).loc main_arg2) = sx) (hsw : m ((c.tc : Thread nD τ).loc main_arg3) = sw) :
    OUT (inp m) c = ref X W sx sw := by
  have e1 : (inp m).sx c (ix1 (0 : Fin 1)) = sx (ix1 (0 : Fin 1)) := by
    rw [← hsx]
    exact congrArg (m ((c.tc : Thread nD τ).loc main_arg2)) (one_idx _)
  have e2 : (inp m).sw c (ix1 (0 : Fin 1)) = sw (ix1 (0 : Fin 1)) := by
    rw [← hsw]
    exact congrArg (m ((c.tc : Thread nD τ).loc main_arg3)) (one_idx _)
  funext i
  rw [eq_ix2 i]
  refine (Cert.KernelIdeal.Work.OUT_apply (inp m) c (i 0) (i 1)).trans ?_
  refine Eq.trans ?_ (ref_apply X W sx sw (i 0) (i 1)).symm
  rw [e1, e2]
  exact congrArg (· * (sx (ix1 (0 : Fin 1)) * sw (ix1 (0 : Fin 1)))) (parts_sum (inp m) X W hx hw (i 0) (i 1))
end
end Cert.Equation
-- ==== Proof.lean ====
/-
The certificate: the four runs, and the one equation between the kernel's result and the reference's. The run
of the kernel is proved in Proof/Kernel and Proof/KernelIdeal (the same text at the two readings of the floats),
the equation in Proof/KernelIdeal/Value and Proof/KernelIdeal/Equation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, keeps its arguments and leaves every semaphore at zero. -/
theorem kernel_runs : Cert.quiescent_Kernel := fun m g _ =>
  (θ_run _ _ _).mono (fun r h => ⟨fun c => (h.1 c).2, h.2⟩) (Cert.Kernel.Work.run_main m g)

/-- So does the same program at the exact numbers. -/
theorem ideal_runs : Cert.quiescent_KernelIdeal := fun m g _ =>
  (θ_run _ _ _).mono (fun r h => ⟨fun c => (h.1 c).2, h.2⟩) (Cert.KernelIdeal.Work.run_main m g)

/-- So does the reference, which has no semaphore. -/
theorem reference_runs : Cert.quiescent_ReferenceIdeal := fun m g _ =>
  (θ_run _ _ _).mono (fun r h => ⟨fun c => (h c).2, sem_eq_zero_of_no_sems (by decide) r.2⟩) (Cert.ReferenceIdeal.Value.run m g)

/-- Every device's result is the reference's. -/
theorem same_value : Cert.algebraic_KernelIdeal_ReferenceIdeal := fun m g m' g' _ hb =>
  ⟨_,
    (θ_run _ _ _).mono (fun r h c =>
      ⟨((h.1 c).1).trans (Cert.Equation.out_ref m _ _ _ _ c (fun d => (hb d).1) (fun d => (hb d).2.1) (hb c).2.2.1 (hb c).2.2.2),
        (h.1 c).2⟩)
      (Cert.KernelIdeal.Work.run_main m g),
    (θ_run _ _ _).mono (fun r h => ⟨(h 0).1, (h 0).2⟩) (Cert.ReferenceIdeal.Value.run m' g')⟩

/-- All five claims. -/
theorem claim : Cert.Claim := ⟨Cert.Kernel.Gen.facts, Cert.KernelIdeal.Gen.facts, Cert.ReferenceIdeal.Gen.facts,
  kernel_runs, ideal_runs, reference_runs, trivial, same_value⟩

end Cert.Proof

end
